-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x32 : Shape := ⟨2, ![512, 32]⟩
abbrev S1024x1 : Shape := ⟨2, ![1024, 1]⟩
abbrev S4x512x1024 : Shape := ⟨3, ![4, 512, 1024]⟩
abbrev S512x1024 : Shape := ⟨2, ![512, 1024]⟩
abbrev S1024x1024 : Shape := ⟨2, ![1024, 1024]⟩
abbrev S512x384 : Shape := ⟨2, ![512, 384]⟩
abbrev S256x384 : Shape := ⟨2, ![256, 384]⟩
abbrev S128x384 : Shape := ⟨2, ![128, 384]⟩
abbrev S512x256 : Shape := ⟨2, ![512, 256]⟩
abbrev S256x256 : Shape := ⟨2, ![256, 256]⟩
abbrev S128x256 : Shape := ⟨2, ![128, 256]⟩
abbrev S4 : Shape := ⟨1, ![4]⟩
abbrev S5 : Shape := ⟨1, ![5]⟩
abbrev S7 : Shape := ⟨1, ![7]⟩
abbrev S3 : Shape := ⟨1, ![3]⟩
abbrev S1024x32 : Shape := ⟨2, ![1024, 32]⟩
abbrev S1024 : Shape := ⟨1, ![1024]⟩
abbrev S_ : Shape := ⟨0, ![]⟩
abbrev S256x512 : Shape := ⟨2, ![256, 512]⟩
abbrev S256x1 : Shape := ⟨2, ![256, 1]⟩
abbrev S1x512x384 : Shape := ⟨3, ![1, 512, 384]⟩
abbrev S1 : Shape := ⟨1, ![1]⟩
abbrev S128x512 : Shape := ⟨2, ![128, 512]⟩
abbrev S128x1 : Shape := ⟨2, ![128, 1]⟩
abbrev S1x512x256 : Shape := ⟨3, ![1, 512, 256]⟩
abbrev S512x512 : Shape := ⟨2, ![512, 512]⟩
abbrev S512x1 : Shape := ⟨2, ![512, 1]⟩
abbrev S128x1024 : Shape := ⟨2, ![128, 1024]⟩

abbrev nBuf : Space → Nat
  | .hbm => 6
  | .vmem => 19
  | .smem => 0
  | _ => 0

abbrev bufTy : (tb : Table) → Fin (tcTables nBuf tb) → BufTy
  | .hbm, ⟨0, _⟩ => ⟨S1024x512, .f32⟩
  | .hbm, ⟨1, _⟩ => ⟨S512x32, .f32⟩
  | .hbm, ⟨2, _⟩ => ⟨S1024x1, .i32⟩
  | .hbm, ⟨3, _⟩ => ⟨S4x512x1024, .f32⟩
  | .hbm, ⟨4, _⟩ => ⟨S512x1024, .f32⟩
  | .hbm, ⟨5, _⟩ => ⟨S1024x1024, .f32⟩
  | .local _ .vmem, ⟨0, _⟩ => ⟨S1024x512, .f32⟩
  | .local _ .vmem, ⟨1, _⟩ => ⟨S512x32, .f32⟩
  | .local _ .vmem, ⟨2, _⟩ => ⟨S1024x1, .i32⟩
  | .local _ .vmem, ⟨3, _⟩ => ⟨S4x512x1024, .f32⟩
  | .local _ .vmem, ⟨4, _⟩ => ⟨S512x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S512x384, .bf16⟩
  | .local _ .vmem, ⟨10, _⟩ => ⟨S256x384, .bf16⟩
  | .local _ .vmem, ⟨11, _⟩ => ⟨S128x384, .bf16⟩
  | .local _ .vmem, ⟨12, _⟩ => ⟨S512x384, .bf16⟩
  | .local _ .vmem, ⟨13, _⟩ => ⟨S256x384, .bf16⟩
  | .local _ .vmem, ⟨14, _⟩ => ⟨S128x384, .bf16⟩
  | .local _ .vmem, ⟨15, _⟩ => ⟨S512x256, .bf16⟩
  | .local _ .vmem, ⟨16, _⟩ => ⟨S256x256, .bf16⟩
  | .local _ .vmem, ⟨17, _⟩ => ⟨S128x256, .bf16⟩
  | .local _ .vmem, ⟨18, _⟩ => ⟨S1024x1, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v11 : BitVec 32 := Scalar.xori v5 c1_i32_6
  let c1_i32_7 : BitVec 32 := 1#32
  let v12 : BitVec 32 := Scalar.shrsi v11 c1_i32_7
  let c1_i32_8 : BitVec 32 := 1#32
  let v13 : BitVec 32 := Scalar.andi v12 c1_i32_8
  let v14 : BitVec 32 := Scalar.xori v11 v13
  let c1_i32_51 : BitVec 32 := 1#32
  let v88 : BitVec 32 := Scalar.muli v14 c1_i32_51
  let v89 : BitVec 32 := Scalar.addi c0_i32 v88
  v89.toNat
def k0_dev2 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v15 : BitVec 32 := Scalar.xori v5 c2_i32_9
  let c1_i32_10 : BitVec 32 := 1#32
  let v16 : BitVec 32 := Scalar.shrsi v15 c1_i32_10
  let c1_i32_11 : BitVec 32 := 1#32
  let v17 : BitVec 32 := Scalar.andi v16 c1_i32_11
  let v18 : BitVec 32 := Scalar.xori v15 v17
  let c1_i32_53 : BitVec 32 := 1#32
  let v90 : BitVec 32 := Scalar.muli v18 c1_i32_53
  let v91 : BitVec 32 := Scalar.addi c0_i32_54 v90
  v91.toNat
def k0_dev3 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v19 : BitVec 32 := Scalar.xori v5 c4_i32
  let c1_i32_12 : BitVec 32 := 1#32
  let v20 : BitVec 32 := Scalar.shrsi v19 c1_i32_12
  let c1_i32_13 : BitVec 32 := 1#32
  let v21 : BitVec 32 := Scalar.andi v20 c1_i32_13
  let v22 : BitVec 32 := Scalar.xori v19 v21
  let c1_i32_56 : BitVec 32 := 1#32
  let v92 : BitVec 32 := Scalar.muli v22 c1_i32_56
  let v93 : BitVec 32 := Scalar.addi c0_i32_57 v92
  v93.toNat
def k0_off1 (d0 : Dev nD) (c2_i32 : BitVec 32) (c4_i32_29 : BitVec 32) : Fin 2 → Nat :=
  let c1_i32_28 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v9 : BitVec 32 := Scalar.shrsi v5 c2_i32
  let c1_i32_5 : BitVec 32 := 1#32
  let v10 : BitVec 32 := Scalar.andi v9 c1_i32_5
  let v54 : BitVec 32 := Scalar.subi c1_i32_28 v10
  let v55 : BitVec 32 := Scalar.muli v54 c4_i32_29
  let c128_i32 : BitVec 32 := 128#32
  let v94 : BitVec 32 := Scalar.muli v55 c128_i32
  let v95 : Index := Scalar.indexCast v94
  let c0_58 : Index := 0#32
  ![v95.toNat, 0]
def k0_off1_at (r : Fin 2) : BitVec 32 × BitVec 32 :=
  if r.val < 1 then
    (2#32, 4#32)
  else
    (1#32, 2#32)
def k0_off2 (d0 : Dev nD) (c2_i32 : BitVec 32) (c4_i32_29 : BitVec 32) : Fin 2 → Nat :=
  let c1_i32_28 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v9 : BitVec 32 := Scalar.shrsi v5 c2_i32
  let c1_i32_5 : BitVec 32 := 1#32
  let v10 : BitVec 32 := Scalar.andi v9 c1_i32_5
  let v54 : BitVec 32 := Scalar.subi c1_i32_28 v10
  let v55 : BitVec 32 := Scalar.muli v54 c4_i32_29
  let c128_i32 : BitVec 32 := 128#32
  let v94 : BitVec 32 := Scalar.muli v55 c128_i32
  let v97 : Index := Scalar.indexCast v94
  let c0_59 : Index := 0#32
  ![v97.toNat, 0]
def k0_off2_at (r : Fin 2) : BitVec 32 × BitVec 32 :=
  if r.val < 1 then
    (2#32, 4#32)
  else
    (1#32, 2#32)
def k0_off3 (d0 : Dev nD) : Fin 2 → Nat :=
  let c1_i32_28 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let v54 : BitVec 32 := Scalar.subi c1_i32_28 v10
  let c4_i32_29 : BitVec 32 := 4#32
  let v55 : BitVec 32 := Scalar.muli v54 c4_i32_29
  let c128_i32 : BitVec 32 := 128#32
  let v94 : BitVec 32 := Scalar.muli v55 c128_i32
  let v156 : Index := Scalar.indexCast v94
  let c0_87 : Index := 0#32
  ![v156.toNat, 0]
def k0_off4 (d0 : Dev nD) : Fin 2 → Nat :=
  let c1_i32_28 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let v54 : BitVec 32 := Scalar.subi c1_i32_28 v10
  let c4_i32_29 : BitVec 32 := 4#32
  let v55 : BitVec 32 := Scalar.muli v54 c4_i32_29
  let c128_i32_88 : BitVec 32 := 128#32
  let v160 : BitVec 32 := Scalar.muli v55 c128_i32_88
  let c0_i32_95 : BitVec 32 := 0#32
  ![v160.toNat, 0]
def k0_dev4 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v19 : BitVec 32 := Scalar.xori v5 c4_i32
  let c1_i32_12 : BitVec 32 := 1#32
  let v20 : BitVec 32 := Scalar.shrsi v19 c1_i32_12
  let c1_i32_13 : BitVec 32 := 1#32
  let v21 : BitVec 32 := Scalar.andi v20 c1_i32_13
  let v22 : BitVec 32 := Scalar.xori v19 v21
  let c1_i32_91 : BitVec 32 := 1#32
  let v161 : BitVec 32 := Scalar.muli v22 c1_i32_91
  let v162 : BitVec 32 := Scalar.addi c0_i32_92 v161
  v162.toNat
def k0_off5 (d0 : Dev nD) : Fin 2 → Nat :=
  let c1_i32_37 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let v66 : BitVec 32 := Scalar.subi c1_i32_37 v8
  let c2_i32_38 : BitVec 32 := 2#32
  let v67 : BitVec 32 := Scalar.muli v66 c2_i32_38
  let c128_i32_96 : BitVec 32 := 128#32
  let v169 : BitVec 32 := Scalar.muli v67 c128_i32_96
  let v231 : Index := Scalar.indexCast v169
  let c384_128 : Index := 384#32
  ![v231.toNat, 384]
def k0_off6 (d0 : Dev nD) : Fin 2 → Nat :=
  let c1_i32_37 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let v66 : BitVec 32 := Scalar.subi c1_i32_37 v8
  let c2_i32_38 : BitVec 32 := 2#32
  let v67 : BitVec 32 := Scalar.muli v66 c2_i32_38
  let c128_i32_129 : BitVec 32 := 128#32
  let v235 : BitVec 32 := Scalar.muli v67 c128_i32_129
  let c384_i32 : BitVec 32 := 384#32
  ![v235.toNat, 384]
def k0_dev5 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v15 : BitVec 32 := Scalar.xori v5 c2_i32_9
  let c1_i32_10 : BitVec 32 := 1#32
  let v16 : BitVec 32 := Scalar.shrsi v15 c1_i32_10
  let c1_i32_11 : BitVec 32 := 1#32
  let v17 : BitVec 32 := Scalar.andi v16 c1_i32_11
  let v18 : BitVec 32 := Scalar.xori v15 v17
  let c1_i32_132 : BitVec 32 := 1#32
  let v236 : BitVec 32 := Scalar.muli v18 c1_i32_132
  let v237 : BitVec 32 := Scalar.addi c0_i32_133 v236
  v237.toNat
def k0_off7 (d0 : Dev nD) : Fin 2 → Nat :=
  let c1_i32_28 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let v54 : BitVec 32 := Scalar.subi c1_i32_28 v10
  let c4_i32_29 : BitVec 32 := 4#32
  let v55 : BitVec 32 := Scalar.muli v54 c4_i32_29
  let c2_i32_136 : BitVec 32 := 2#32
  let v244 : BitVec 32 := Scalar.addi v55 c2_i32_136
  let c128_i32_137 : BitVec 32 := 128#32
  let v245 : BitVec 32 := Scalar.muli v244 c128_i32_137
  let v246 : Index := Scalar.indexCast v245
  let c0_138 : Index := 0#32
  ![v246.toNat, 0]
def k0_off8 (d0 : Dev nD) : Fin 2 → Nat :=
  let c1_i32_28 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let v54 : BitVec 32 := Scalar.subi c1_i32_28 v10
  let c4_i32_29 : BitVec 32 := 4#32
  let v55 : BitVec 32 := Scalar.muli v54 c4_i32_29
  let c2_i32_136 : BitVec 32 := 2#32
  let v244 : BitVec 32 := Scalar.addi v55 c2_i32_136
  let c128_i32_137 : BitVec 32 := 128#32
  let v245 : BitVec 32 := Scalar.muli v244 c128_i32_137
  let v248 : Index := Scalar.indexCast v245
  let c0_139 : Index := 0#32
  ![v248.toNat, 0]
def k0_off9 (d0 : Dev nD) : Fin 2 → Nat :=
  let c1_i32_28 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let v54 : BitVec 32 := Scalar.subi c1_i32_28 v10
  let c4_i32_29 : BitVec 32 := 4#32
  let v55 : BitVec 32 := Scalar.muli v54 c4_i32_29
  let c2_i32_136 : BitVec 32 := 2#32
  let v244 : BitVec 32 := Scalar.addi v55 c2_i32_136
  let c128_i32_137 : BitVec 32 := 128#32
  let v245 : BitVec 32 := Scalar.muli v244 c128_i32_137
  let v307 : Index := Scalar.indexCast v245
  let c0_170 : Index := 0#32
  ![v307.toNat, 0]
def k0_off10 (d0 : Dev nD) : Fin 2 → Nat :=
  let c1_i32_28 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let v54 : BitVec 32 := Scalar.subi c1_i32_28 v10
  let c4_i32_29 : BitVec 32 := 4#32
  let v55 : BitVec 32 := Scalar.muli v54 c4_i32_29
  let c2_i32_171 : BitVec 32 := 2#32
  let v311 : BitVec 32 := Scalar.addi v55 c2_i32_171
  let c128_i32_172 : BitVec 32 := 128#32
  let v312 : BitVec 32 := Scalar.muli v311 c128_i32_172
  let c0_i32_178 : BitVec 32 := 0#32
  ![v312.toNat, 0]
def k0_dev6 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v19 : BitVec 32 := Scalar.xori v5 c4_i32
  let c1_i32_12 : BitVec 32 := 1#32
  let v20 : BitVec 32 := Scalar.shrsi v19 c1_i32_12
  let c1_i32_13 : BitVec 32 := 1#32
  let v21 : BitVec 32 := Scalar.andi v20 c1_i32_13
  let v22 : BitVec 32 := Scalar.xori v19 v21
  let c1_i32_175 : BitVec 32 := 1#32
  let v313 : BitVec 32 := Scalar.muli v22 c1_i32_175
  let v314 : BitVec 32 := Scalar.addi c0_i32_176 v313
  v314.toNat
def k0_off11 (d0 : Dev nD) : Fin 2 → Nat :=
  let c4_i32_41 : BitVec 32 := 4#32
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let v68 : BitVec 32 := Scalar.subi c1_i32_39 v8
  let c2_i32_40 : BitVec 32 := 2#32
  let v69 : BitVec 32 := Scalar.muli v68 c2_i32_40
  let v70 : BitVec 32 := Scalar.addi c4_i32_41 v69
  let c128_i32_179 : BitVec 32 := 128#32
  let v321 : BitVec 32 := Scalar.muli v70 c128_i32_179
  let v322 : Index := Scalar.indexCast v321
  let c0_180 : Index := 0#32
  ![v322.toNat, 0]
def k0_off12 (d0 : Dev nD) : Fin 2 → Nat :=
  let c4_i32_41 : BitVec 32 := 4#32
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let v68 : BitVec 32 := Scalar.subi c1_i32_39 v8
  let c2_i32_40 : BitVec 32 := 2#32
  let v69 : BitVec 32 := Scalar.muli v68 c2_i32_40
  let v70 : BitVec 32 := Scalar.addi c4_i32_41 v69
  let c128_i32_179 : BitVec 32 := 128#32
  let v321 : BitVec 32 := Scalar.muli v70 c128_i32_179
  let v324 : Index := Scalar.indexCast v321
  let c0_181 : Index := 0#32
  ![v324.toNat, 0]
def k0_off13 (d0 : Dev nD) : Fin 2 → Nat :=
  let c4_i32_41 : BitVec 32 := 4#32
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let v68 : BitVec 32 := Scalar.subi c1_i32_39 v8
  let c2_i32_40 : BitVec 32 := 2#32
  let v69 : BitVec 32 := Scalar.muli v68 c2_i32_40
  let v70 : BitVec 32 := Scalar.addi c4_i32_41 v69
  let c128_i32_179 : BitVec 32 := 128#32
  let v321 : BitVec 32 := Scalar.muli v70 c128_i32_179
  let v383 : Index := Scalar.indexCast v321
  let c384_212 : Index := 384#32
  ![v383.toNat, 384]
def k0_off14 (d0 : Dev nD) : Fin 2 → Nat :=
  let c4_i32_41 : BitVec 32 := 4#32
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let v68 : BitVec 32 := Scalar.subi c1_i32_39 v8
  let c2_i32_40 : BitVec 32 := 2#32
  let v69 : BitVec 32 := Scalar.muli v68 c2_i32_40
  let v70 : BitVec 32 := Scalar.addi c4_i32_41 v69
  let c128_i32_213 : BitVec 32 := 128#32
  let v387 : BitVec 32 := Scalar.muli v70 c128_i32_213
  let c384_i32_220 : BitVec 32 := 384#32
  ![v387.toNat, 384]
def k0_dev7 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v15 : BitVec 32 := Scalar.xori v5 c2_i32_9
  let c1_i32_10 : BitVec 32 := 1#32
  let v16 : BitVec 32 := Scalar.shrsi v15 c1_i32_10
  let c1_i32_11 : BitVec 32 := 1#32
  let v17 : BitVec 32 := Scalar.andi v16 c1_i32_11
  let v18 : BitVec 32 := Scalar.xori v15 v17
  let c1_i32_216 : BitVec 32 := 1#32
  let v388 : BitVec 32 := Scalar.muli v18 c1_i32_216
  let v389 : BitVec 32 := Scalar.addi c0_i32_217 v388
  v389.toNat
def k0_off15 (d0 : Dev nD) (c0_i32_222 : BitVec 32) : Fin 2 → Nat :=
  let c1_i32_221 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let v396 : BitVec 32 := Scalar.subi c1_i32_221 v6
  let v397 : BitVec 32 := Scalar.addi v396 c0_i32_222
  let c128_i32_223 : BitVec 32 := 128#32
  let v398 : BitVec 32 := Scalar.muli v397 c128_i32_223
  let v399 : Index := Scalar.indexCast v398
  let c0_224 : Index := 0#32
  ![v399.toNat, 0]
def k0_off16 (d0 : Dev nD) (c0_i32_222 : BitVec 32) : Fin 2 → Nat :=
  let c1_i32_221 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let v396 : BitVec 32 := Scalar.subi c1_i32_221 v6
  let v397 : BitVec 32 := Scalar.addi v396 c0_i32_222
  let c128_i32_223 : BitVec 32 := 128#32
  let v398 : BitVec 32 := Scalar.muli v397 c128_i32_223
  let v401 : Index := Scalar.indexCast v398
  let c0_225 : Index := 0#32
  ![v401.toNat, 0]
def k0_off17 (d0 : Dev nD) (c0_i32_222 : BitVec 32) : Fin 2 → Nat :=
  let c1_i32_221 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let v396 : BitVec 32 := Scalar.subi c1_i32_221 v6
  let v397 : BitVec 32 := Scalar.addi v396 c0_i32_222
  let c128_i32_223 : BitVec 32 := 128#32
  let v398 : BitVec 32 := Scalar.muli v397 c128_i32_223
  let v460 : Index := Scalar.indexCast v398
  let c768_255 : Index := 768#32
  ![v460.toNat, 768]
def k0_off18 (d0 : Dev nD) (c0_i32_257 : BitVec 32) : Fin 2 → Nat :=
  let c1_i32_256 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let v464 : BitVec 32 := Scalar.subi c1_i32_256 v6
  let v465 : BitVec 32 := Scalar.addi v464 c0_i32_257
  let c128_i32_258 : BitVec 32 := 128#32
  let v466 : BitVec 32 := Scalar.muli v465 c128_i32_258
  let c768_i32 : BitVec 32 := 768#32
  ![v466.toNat, 768]
def k0_dev8 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v11 : BitVec 32 := Scalar.xori v5 c1_i32_6
  let c1_i32_7 : BitVec 32 := 1#32
  let v12 : BitVec 32 := Scalar.shrsi v11 c1_i32_7
  let c1_i32_8 : BitVec 32 := 1#32
  let v13 : BitVec 32 := Scalar.andi v12 c1_i32_8
  let v14 : BitVec 32 := Scalar.xori v11 v13
  let c1_i32_261 : BitVec 32 := 1#32
  let v467 : BitVec 32 := Scalar.muli v14 c1_i32_261
  let v468 : BitVec 32 := Scalar.addi c0_i32_262 v467
  v468.toNat
def k0_dev9 (d0 : Dev nD) : Nat :=
  let c0_i32_307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v11 : BitVec 32 := Scalar.xori v5 c1_i32_6
  let c1_i32_7 : BitVec 32 := 1#32
  let v12 : BitVec 32 := Scalar.shrsi v11 c1_i32_7
  let c1_i32_8 : BitVec 32 := 1#32
  let v13 : BitVec 32 := Scalar.andi v12 c1_i32_8
  let v14 : BitVec 32 := Scalar.xori v11 v13
  let c1_i32_306 : BitVec 32 := 1#32
  let v546 : BitVec 32 := Scalar.muli v14 c1_i32_306
  let v547 : BitVec 32 := Scalar.addi c0_i32_307 v546
  v547.toNat
def k0_dev10 (d0 : Dev nD) : Nat :=
  let c0_i32_353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v11 : BitVec 32 := Scalar.xori v5 c1_i32_6
  let c1_i32_7 : BitVec 32 := 1#32
  let v12 : BitVec 32 := Scalar.shrsi v11 c1_i32_7
  let c1_i32_8 : BitVec 32 := 1#32
  let v13 : BitVec 32 := Scalar.andi v12 c1_i32_8
  let v14 : BitVec 32 := Scalar.xori v11 v13
  let c1_i32_352 : BitVec 32 := 1#32
  let v625 : BitVec 32 := Scalar.muli v14 c1_i32_352
  let v626 : BitVec 32 := Scalar.addi c0_i32_353 v625
  v626.toNat
def k0_dev11 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v11 : BitVec 32 := Scalar.xori v5 c1_i32_6
  let c1_i32_7 : BitVec 32 := 1#32
  let v12 : BitVec 32 := Scalar.shrsi v11 c1_i32_7
  let c1_i32_8 : BitVec 32 := 1#32
  let v13 : BitVec 32 := Scalar.andi v12 c1_i32_8
  let v14 : BitVec 32 := Scalar.xori v11 v13
  let c1_i32_397 : BitVec 32 := 1#32
  let v704 : BitVec 32 := Scalar.muli v14 c1_i32_397
  let v705 : BitVec 32 := Scalar.addi c0_i32_398 v704
  v705.toNat
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let c4_i32_27 : BitVec 32 := 4#32
  let v53 : BitVec 32 := Scalar.muli v10 c4_i32_27
  let c128_i32_402 : BitVec 32 := 128#32
  let v712 : BitVec 32 := Scalar.muli v53 c128_i32_402
  let v713 : Index := Scalar.indexCast v712
  let c0_403 : Index := 0#32
  ![v713.toNat, 0]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let c4_i32_27 : BitVec 32 := 4#32
  let v53 : BitVec 32 := Scalar.muli v10 c4_i32_27
  let c128_i32_402 : BitVec 32 := 128#32
  let v712 : BitVec 32 := Scalar.muli v53 c128_i32_402
  let v715 : Index := Scalar.indexCast v712
  let c0_404 : Index := 0#32
  ![v715.toNat, 0]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let c4_i32_27 : BitVec 32 := 4#32
  let v53 : BitVec 32 := Scalar.muli v10 c4_i32_27
  let c128_i32_402 : BitVec 32 := 128#32
  let v712 : BitVec 32 := Scalar.muli v53 c128_i32_402
  let v774 : Index := Scalar.indexCast v712
  let c0_435 : Index := 0#32
  ![v774.toNat, 0]
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c2_i32_34 : BitVec 32 := 2#32
  let v63 : BitVec 32 := Scalar.muli v8 c2_i32_34
  let c128_i32_436 : BitVec 32 := 128#32
  let v778 : BitVec 32 := Scalar.muli v63 c128_i32_436
  let v779 : Index := Scalar.indexCast v778
  let c0_437 : Index := 0#32
  ![v779.toNat, 0]
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c2_i32_34 : BitVec 32 := 2#32
  let v63 : BitVec 32 := Scalar.muli v8 c2_i32_34
  let c128_i32_436 : BitVec 32 := 128#32
  let v778 : BitVec 32 := Scalar.muli v63 c128_i32_436
  let v781 : Index := Scalar.indexCast v778
  let c0_438 : Index := 0#32
  ![v781.toNat, 0]
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c2_i32_34 : BitVec 32 := 2#32
  let v63 : BitVec 32 := Scalar.muli v8 c2_i32_34
  let c128_i32_436 : BitVec 32 := 128#32
  let v778 : BitVec 32 := Scalar.muli v63 c128_i32_436
  let v840 : Index := Scalar.indexCast v778
  let c384_469 : Index := 384#32
  ![v840.toNat, 384]
def k0_off25 (d0 : Dev nD) : Fin 2 → Nat :=
  let c4_i32_36 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c2_i32_35 : BitVec 32 := 2#32
  let v64 : BitVec 32 := Scalar.muli v8 c2_i32_35
  let v65 : BitVec 32 := Scalar.addi c4_i32_36 v64
  let c128_i32_470 : BitVec 32 := 128#32
  let v844 : BitVec 32 := Scalar.muli v65 c128_i32_470
  let v845 : Index := Scalar.indexCast v844
  let c0_471 : Index := 0#32
  ![v845.toNat, 0]
def k0_off26 (d0 : Dev nD) : Fin 2 → Nat :=
  let c4_i32_36 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c2_i32_35 : BitVec 32 := 2#32
  let v64 : BitVec 32 := Scalar.muli v8 c2_i32_35
  let v65 : BitVec 32 := Scalar.addi c4_i32_36 v64
  let c128_i32_470 : BitVec 32 := 128#32
  let v844 : BitVec 32 := Scalar.muli v65 c128_i32_470
  let v847 : Index := Scalar.indexCast v844
  let c0_472 : Index := 0#32
  ![v847.toNat, 0]
def k0_off27 (d0 : Dev nD) : Fin 2 → Nat :=
  let c4_i32_36 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c2_i32_35 : BitVec 32 := 2#32
  let v64 : BitVec 32 := Scalar.muli v8 c2_i32_35
  let v65 : BitVec 32 := Scalar.addi c4_i32_36 v64
  let c128_i32_470 : BitVec 32 := 128#32
  let v844 : BitVec 32 := Scalar.muli v65 c128_i32_470
  let v906 : Index := Scalar.indexCast v844
  let c384_503 : Index := 384#32
  ![v906.toNat, 384]
def k0_off28 (d0 : Dev nD) (c0_i32_504 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let v910 : BitVec 32 := Scalar.addi v6 c0_i32_504
  let c128_i32_505 : BitVec 32 := 128#32
  let v911 : BitVec 32 := Scalar.muli v910 c128_i32_505
  let v912 : Index := Scalar.indexCast v911
  let c0_506 : Index := 0#32
  ![v912.toNat, 0]
def k0_off29 (d0 : Dev nD) (c0_i32_504 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let v910 : BitVec 32 := Scalar.addi v6 c0_i32_504
  let c128_i32_505 : BitVec 32 := 128#32
  let v911 : BitVec 32 := Scalar.muli v910 c128_i32_505
  let v914 : Index := Scalar.indexCast v911
  let c0_507 : Index := 0#32
  ![v914.toNat, 0]
def k0_off30 (d0 : Dev nD) (c0_i32_504 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let v910 : BitVec 32 := Scalar.addi v6 c0_i32_504
  let c128_i32_505 : BitVec 32 := 128#32
  let v911 : BitVec 32 := Scalar.muli v910 c128_i32_505
  let v973 : Index := Scalar.indexCast v911
  let c768_538 : Index := 768#32
  ![v973.toNat, 768]
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let c4_i32_27 : BitVec 32 := 4#32
  let v53 : BitVec 32 := Scalar.muli v10 c4_i32_27
  let c1_i32_31 : BitVec 32 := 1#32
  let c1_i32_3 : BitVec 32 := 1#32
  let v7 : BitVec 32 := Scalar.shrsi v5 c1_i32_3
  let c1_i32_4 : BitVec 32 := 1#32
  let v8 : BitVec 32 := Scalar.andi v7 c1_i32_4
  let v58 : BitVec 32 := Scalar.subi c1_i32_31 v8
  let c2_i32_32 : BitVec 32 := 2#32
  let v59 : BitVec 32 := Scalar.muli v58 c2_i32_32
  let v60 : BitVec 32 := Scalar.addi v53 v59
  let c128_i32_660 : BitVec 32 := 128#32
  let v1190 : BitVec 32 := Scalar.muli v60 c128_i32_660
  let v1191 : Index := Scalar.indexCast v1190
  let c0_661 : Index := 0#32
  ![v1191.toNat, 0]
def k0_off32 (d0 : Dev nD) : Fin 2 → Nat :=
  let c1_i32_662 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let v1193 : BitVec 32 := Scalar.subi c1_i32_662 v8
  let c2_i32_663 : BitVec 32 := 2#32
  let v1194 : BitVec 32 := Scalar.muli v1193 c2_i32_663
  let c128_i32_664 : BitVec 32 := 128#32
  let v1195 : BitVec 32 := Scalar.muli v1194 c128_i32_664
  let v1196 : Index := Scalar.indexCast v1195
  let c0_665 : Index := 0#32
  ![v1196.toNat, 0]
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let c4_i32_27 : BitVec 32 := 4#32
  let v53 : BitVec 32 := Scalar.muli v10 c4_i32_27
  let c1_i32_31 : BitVec 32 := 1#32
  let c1_i32_3 : BitVec 32 := 1#32
  let v7 : BitVec 32 := Scalar.shrsi v5 c1_i32_3
  let c1_i32_4 : BitVec 32 := 1#32
  let v8 : BitVec 32 := Scalar.andi v7 c1_i32_4
  let v58 : BitVec 32 := Scalar.subi c1_i32_31 v8
  let c2_i32_32 : BitVec 32 := 2#32
  let v59 : BitVec 32 := Scalar.muli v58 c2_i32_32
  let v60 : BitVec 32 := Scalar.addi v53 v59
  let c128_i32_668 : BitVec 32 := 128#32
  let v1204 : BitVec 32 := Scalar.muli v60 c128_i32_668
  let c0_i32_673 : BitVec 32 := 0#32
  ![v1204.toNat, 0]
def k0_dev12 (d0 : Dev nD) : Nat :=
  let c0_i32_672 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v15 : BitVec 32 := Scalar.xori v5 c2_i32_9
  let c1_i32_10 : BitVec 32 := 1#32
  let v16 : BitVec 32 := Scalar.shrsi v15 c1_i32_10
  let c1_i32_11 : BitVec 32 := 1#32
  let v17 : BitVec 32 := Scalar.andi v16 c1_i32_11
  let v18 : BitVec 32 := Scalar.xori v15 v17
  let c1_i32_671 : BitVec 32 := 1#32
  let v1205 : BitVec 32 := Scalar.muli v18 c1_i32_671
  let v1206 : BitVec 32 := Scalar.addi c0_i32_672 v1205
  v1206.toNat
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let c4_i32_27 : BitVec 32 := 4#32
  let v53 : BitVec 32 := Scalar.muli v10 c4_i32_27
  let c1_i32_3 : BitVec 32 := 1#32
  let v7 : BitVec 32 := Scalar.shrsi v5 c1_i32_3
  let c1_i32_4 : BitVec 32 := 1#32
  let v8 : BitVec 32 := Scalar.andi v7 c1_i32_4
  let c2_i32_30 : BitVec 32 := 2#32
  let v56 : BitVec 32 := Scalar.muli v8 c2_i32_30
  let v57 : BitVec 32 := Scalar.addi v53 v56
  let c128_i32_674 : BitVec 32 := 128#32
  let v1212 : BitVec 32 := Scalar.muli v57 c128_i32_674
  let v1213 : Index := Scalar.indexCast v1212
  let c0_675 : Index := 0#32
  ![v1213.toNat, 0]
def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c2_i32_676 : BitVec 32 := 2#32
  let v1215 : BitVec 32 := Scalar.muli v8 c2_i32_676
  let c128_i32_677 : BitVec 32 := 128#32
  let v1216 : BitVec 32 := Scalar.muli v1215 c128_i32_677
  let v1217 : Index := Scalar.indexCast v1216
  let c0_678 : Index := 0#32
  ![v1217.toNat, 0]
def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c2_i32_34 : BitVec 32 := 2#32
  let v63 : BitVec 32 := Scalar.muli v8 c2_i32_34
  let c1_i32_42 : BitVec 32 := 1#32
  let c1_i32_2 : BitVec 32 := 1#32
  let v6 : BitVec 32 := Scalar.andi v5 c1_i32_2
  let v73 : BitVec 32 := Scalar.subi c1_i32_42 v6
  let v74 : BitVec 32 := Scalar.addi v63 v73
  let c128_i32_697 : BitVec 32 := 128#32
  let v1237 : BitVec 32 := Scalar.muli v74 c128_i32_697
  let v1238 : Index := Scalar.indexCast v1237
  let c384_698 : Index := 384#32
  ![v1238.toNat, 384]
def k0_off37 (d0 : Dev nD) : Fin 2 → Nat :=
  let c1_i32_699 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let v1240 : BitVec 32 := Scalar.subi c1_i32_699 v6
  let c128_i32_700 : BitVec 32 := 128#32
  let v1241 : BitVec 32 := Scalar.muli v1240 c128_i32_700
  let v1242 : Index := Scalar.indexCast v1241
  let c0_701 : Index := 0#32
  ![v1242.toNat, 0]
def k0_off38 (d0 : Dev nD) : Fin 2 → Nat :=
  let c4_i32_36 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c2_i32_35 : BitVec 32 := 2#32
  let v64 : BitVec 32 := Scalar.muli v8 c2_i32_35
  let v65 : BitVec 32 := Scalar.addi c4_i32_36 v64
  let c1_i32_43 : BitVec 32 := 1#32
  let c1_i32_2 : BitVec 32 := 1#32
  let v6 : BitVec 32 := Scalar.andi v5 c1_i32_2
  let v75 : BitVec 32 := Scalar.subi c1_i32_43 v6
  let v76 : BitVec 32 := Scalar.addi v65 v75
  let c128_i32_704 : BitVec 32 := 128#32
  let v1250 : BitVec 32 := Scalar.muli v76 c128_i32_704
  let v1251 : Index := Scalar.indexCast v1250
  let c384_705 : Index := 384#32
  ![v1251.toNat, 384]
def k0_off39 (d0 : Dev nD) : Fin 2 → Nat :=
  let c256_i32_708 : BitVec 32 := 256#32
  let c1_i32_706 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let v1253 : BitVec 32 := Scalar.subi c1_i32_706 v6
  let c128_i32_707 : BitVec 32 := 128#32
  let v1254 : BitVec 32 := Scalar.muli v1253 c128_i32_707
  let v1255 : BitVec 32 := Scalar.addi c256_i32_708 v1254
  let v1256 : Index := Scalar.indexCast v1255
  let c0_709 : Index := 0#32
  ![v1256.toNat, 0]
def k0_off40 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c2_i32_34 : BitVec 32 := 2#32
  let v63 : BitVec 32 := Scalar.muli v8 c2_i32_34
  let c1_i32_42 : BitVec 32 := 1#32
  let c1_i32_2 : BitVec 32 := 1#32
  let v6 : BitVec 32 := Scalar.andi v5 c1_i32_2
  let v73 : BitVec 32 := Scalar.subi c1_i32_42 v6
  let v74 : BitVec 32 := Scalar.addi v63 v73
  let c128_i32_712 : BitVec 32 := 128#32
  let v1264 : BitVec 32 := Scalar.muli v74 c128_i32_712
  let c384_i32_719 : BitVec 32 := 384#32
  ![v1264.toNat, 384]
def k0_dev13 (d0 : Dev nD) : Nat :=
  let c0_i32_716 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v11 : BitVec 32 := Scalar.xori v5 c1_i32_6
  let c1_i32_7 : BitVec 32 := 1#32
  let v12 : BitVec 32 := Scalar.shrsi v11 c1_i32_7
  let c1_i32_8 : BitVec 32 := 1#32
  let v13 : BitVec 32 := Scalar.andi v12 c1_i32_8
  let v14 : BitVec 32 := Scalar.xori v11 v13
  let c1_i32_715 : BitVec 32 := 1#32
  let v1265 : BitVec 32 := Scalar.muli v14 c1_i32_715
  let v1266 : BitVec 32 := Scalar.addi c0_i32_716 v1265
  v1266.toNat
def k0_off41 (d0 : Dev nD) : Fin 2 → Nat :=
  let c4_i32_36 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c2_i32_35 : BitVec 32 := 2#32
  let v64 : BitVec 32 := Scalar.muli v8 c2_i32_35
  let v65 : BitVec 32 := Scalar.addi c4_i32_36 v64
  let c1_i32_43 : BitVec 32 := 1#32
  let c1_i32_2 : BitVec 32 := 1#32
  let v6 : BitVec 32 := Scalar.andi v5 c1_i32_2
  let v75 : BitVec 32 := Scalar.subi c1_i32_43 v6
  let v76 : BitVec 32 := Scalar.addi v65 v75
  let c128_i32_720 : BitVec 32 := 128#32
  let v1273 : BitVec 32 := Scalar.muli v76 c128_i32_720
  let c384_i32_727 : BitVec 32 := 384#32
  ![v1273.toNat, 384]
def k0_dev14 (d0 : Dev nD) : Nat :=
  let c0_i32_724 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v11 : BitVec 32 := Scalar.xori v5 c1_i32_6
  let c1_i32_7 : BitVec 32 := 1#32
  let v12 : BitVec 32 := Scalar.shrsi v11 c1_i32_7
  let c1_i32_8 : BitVec 32 := 1#32
  let v13 : BitVec 32 := Scalar.andi v12 c1_i32_8
  let v14 : BitVec 32 := Scalar.xori v11 v13
  let c1_i32_723 : BitVec 32 := 1#32
  let v1274 : BitVec 32 := Scalar.muli v14 c1_i32_723
  let v1275 : BitVec 32 := Scalar.addi c0_i32_724 v1274
  v1275.toNat
def k0_off42 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c2_i32_34 : BitVec 32 := 2#32
  let v63 : BitVec 32 := Scalar.muli v8 c2_i32_34
  let c1_i32_2 : BitVec 32 := 1#32
  let v6 : BitVec 32 := Scalar.andi v5 c1_i32_2
  let v71 : BitVec 32 := Scalar.addi v63 v6
  let c128_i32_728 : BitVec 32 := 128#32
  let v1282 : BitVec 32 := Scalar.muli v71 c128_i32_728
  let v1283 : Index := Scalar.indexCast v1282
  let c384_729 : Index := 384#32
  ![v1283.toNat, 384]
def k0_off43 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let c128_i32_730 : BitVec 32 := 128#32
  let v1285 : BitVec 32 := Scalar.muli v6 c128_i32_730
  let v1286 : Index := Scalar.indexCast v1285
  let c0_731 : Index := 0#32
  ![v1286.toNat, 0]
def k0_off44 (d0 : Dev nD) : Fin 2 → Nat :=
  let c4_i32_36 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c2_i32_35 : BitVec 32 := 2#32
  let v64 : BitVec 32 := Scalar.muli v8 c2_i32_35
  let v65 : BitVec 32 := Scalar.addi c4_i32_36 v64
  let c1_i32_2 : BitVec 32 := 1#32
  let v6 : BitVec 32 := Scalar.andi v5 c1_i32_2
  let v72 : BitVec 32 := Scalar.addi v65 v6
  let c128_i32_734 : BitVec 32 := 128#32
  let v1294 : BitVec 32 := Scalar.muli v72 c128_i32_734
  let v1295 : Index := Scalar.indexCast v1294
  let c384_735 : Index := 384#32
  ![v1295.toNat, 384]
def k0_off45 (d0 : Dev nD) : Fin 2 → Nat :=
  let c256_i32_737 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let c128_i32_736 : BitVec 32 := 128#32
  let v1297 : BitVec 32 := Scalar.muli v6 c128_i32_736
  let v1298 : BitVec 32 := Scalar.addi c256_i32_737 v1297
  let v1299 : Index := Scalar.indexCast v1298
  let c0_738 : Index := 0#32
  ![v1299.toNat, 0]
def k0_off46 (d0 : Dev nD) (c0_i32_775 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let c2_i32_776 : BitVec 32 := 2#32
  let c1_i32_773 : BitVec 32 := 1#32
  let c2_i32 : BitVec 32 := 2#32
  let v9 : BitVec 32 := Scalar.shrsi v5 c2_i32
  let c1_i32_5 : BitVec 32 := 1#32
  let v10 : BitVec 32 := Scalar.andi v9 c1_i32_5
  let v1331 : BitVec 32 := Scalar.subi c1_i32_773 v10
  let c2_i32_774 : BitVec 32 := 2#32
  let v1332 : BitVec 32 := Scalar.muli v1331 c2_i32_774
  let v1333 : BitVec 32 := Scalar.addi v1332 c0_i32_775
  let v1334 : BitVec 32 := Scalar.muli c2_i32_776 v1333
  let v1335 : BitVec 32 := Scalar.addi v6 v1334
  let c128_i32_777 : BitVec 32 := 128#32
  let v1336 : BitVec 32 := Scalar.muli v1335 c128_i32_777
  let v1337 : Index := Scalar.indexCast v1336
  let c768_778 : Index := 768#32
  ![v1337.toNat, 768]
def k0_off47 (d0 : Dev nD) (c0_i32_775 : BitVec 32) : Fin 2 → Nat :=
  let c1_i32_773 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let v1331 : BitVec 32 := Scalar.subi c1_i32_773 v10
  let c2_i32_774 : BitVec 32 := 2#32
  let v1332 : BitVec 32 := Scalar.muli v1331 c2_i32_774
  let v1333 : BitVec 32 := Scalar.addi v1332 c0_i32_775
  let c128_i32_779 : BitVec 32 := 128#32
  let v1339 : BitVec 32 := Scalar.muli v1333 c128_i32_779
  let v1340 : Index := Scalar.indexCast v1339
  let c0_780 : Index := 0#32
  ![v1340.toNat, 0]
def k0_off48 (d0 : Dev nD) (c0_i32_775 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let c2_i32_776 : BitVec 32 := 2#32
  let c1_i32_773 : BitVec 32 := 1#32
  let c2_i32 : BitVec 32 := 2#32
  let v9 : BitVec 32 := Scalar.shrsi v5 c2_i32
  let c1_i32_5 : BitVec 32 := 1#32
  let v10 : BitVec 32 := Scalar.andi v9 c1_i32_5
  let v1331 : BitVec 32 := Scalar.subi c1_i32_773 v10
  let c2_i32_774 : BitVec 32 := 2#32
  let v1332 : BitVec 32 := Scalar.muli v1331 c2_i32_774
  let v1333 : BitVec 32 := Scalar.addi v1332 c0_i32_775
  let v1334 : BitVec 32 := Scalar.muli c2_i32_776 v1333
  let v1335 : BitVec 32 := Scalar.addi v6 v1334
  let c128_i32_783 : BitVec 32 := 128#32
  let v1348 : BitVec 32 := Scalar.muli v1335 c128_i32_783
  let c768_i32_790 : BitVec 32 := 768#32
  ![v1348.toNat, 768]
def k0_dev15 (d0 : Dev nD) : Nat :=
  let c0_i32_787 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v19 : BitVec 32 := Scalar.xori v5 c4_i32
  let c1_i32_12 : BitVec 32 := 1#32
  let v20 : BitVec 32 := Scalar.shrsi v19 c1_i32_12
  let c1_i32_13 : BitVec 32 := 1#32
  let v21 : BitVec 32 := Scalar.andi v20 c1_i32_13
  let v22 : BitVec 32 := Scalar.xori v19 v21
  let c1_i32_786 : BitVec 32 := 1#32
  let v1349 : BitVec 32 := Scalar.muli v22 c1_i32_786
  let v1350 : BitVec 32 := Scalar.addi c0_i32_787 v1349
  v1350.toNat
def k0_dev16 (d0 : Dev nD) : Nat :=
  let c0_i32_804 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v19 : BitVec 32 := Scalar.xori v5 c4_i32
  let c1_i32_12 : BitVec 32 := 1#32
  let v20 : BitVec 32 := Scalar.shrsi v19 c1_i32_12
  let c1_i32_13 : BitVec 32 := 1#32
  let v21 : BitVec 32 := Scalar.andi v20 c1_i32_13
  let v22 : BitVec 32 := Scalar.xori v19 v21
  let c1_i32_803 : BitVec 32 := 1#32
  let v1375 : BitVec 32 := Scalar.muli v22 c1_i32_803
  let v1376 : BitVec 32 := Scalar.addi c0_i32_804 v1375
  v1376.toNat
def k0_off49 (d0 : Dev nD) (c0_i32_809 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let c2_i32_810 : BitVec 32 := 2#32
  let c2_i32 : BitVec 32 := 2#32
  let v9 : BitVec 32 := Scalar.shrsi v5 c2_i32
  let c1_i32_5 : BitVec 32 := 1#32
  let v10 : BitVec 32 := Scalar.andi v9 c1_i32_5
  let c2_i32_808 : BitVec 32 := 2#32
  let v1383 : BitVec 32 := Scalar.muli v10 c2_i32_808
  let v1384 : BitVec 32 := Scalar.addi v1383 c0_i32_809
  let v1385 : BitVec 32 := Scalar.muli c2_i32_810 v1384
  let v1386 : BitVec 32 := Scalar.addi v6 v1385
  let c128_i32_811 : BitVec 32 := 128#32
  let v1387 : BitVec 32 := Scalar.muli v1386 c128_i32_811
  let v1388 : Index := Scalar.indexCast v1387
  let c768_812 : Index := 768#32
  ![v1388.toNat, 768]
def k0_off50 (d0 : Dev nD) (c0_i32_809 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let c2_i32_808 : BitVec 32 := 2#32
  let v1383 : BitVec 32 := Scalar.muli v10 c2_i32_808
  let v1384 : BitVec 32 := Scalar.addi v1383 c0_i32_809
  let c128_i32_813 : BitVec 32 := 128#32
  let v1390 : BitVec 32 := Scalar.muli v1384 c128_i32_813
  let v1391 : Index := Scalar.indexCast v1390
  let c0_814 : Index := 0#32
  ![v1391.toNat, 0]
def k0_off51 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c128_i32_826 : BitVec 32 := 128#32
  let v1415 : BitVec 32 := Scalar.muli v5 c128_i32_826
  let v1416 : Index := Scalar.indexCast v1415
  let c0_827 : Index := 0#32
  ![v1416.toNat, 0]
def k0_off52 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let c4_i32_27 : BitVec 32 := 4#32
  let v53 : BitVec 32 := Scalar.muli v10 c4_i32_27
  let c1_i32_3 : BitVec 32 := 1#32
  let v7 : BitVec 32 := Scalar.shrsi v5 c1_i32_3
  let c1_i32_4 : BitVec 32 := 1#32
  let v8 : BitVec 32 := Scalar.andi v7 c1_i32_4
  let c2_i32_30 : BitVec 32 := 2#32
  let v56 : BitVec 32 := Scalar.muli v8 c2_i32_30
  let v57 : BitVec 32 := Scalar.addi v53 v56
  let c1_i32_33 : BitVec 32 := 1#32
  let c1_i32_2 : BitVec 32 := 1#32
  let v6 : BitVec 32 := Scalar.andi v5 c1_i32_2
  let v61 : BitVec 32 := Scalar.subi c1_i32_33 v6
  let v62 : BitVec 32 := Scalar.addi v57 v61
  let c128_i32_835 : BitVec 32 := 128#32
  let v1426 : BitVec 32 := Scalar.muli v62 c128_i32_835
  let v1427 : Index := Scalar.indexCast v1426
  let c0_836 : Index := 0#32
  ![v1427.toNat, 0]
def k0_off53 (d0 : Dev nD) : Fin 2 → Nat :=
  let c1_i32_837 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let v1429 : BitVec 32 := Scalar.subi c1_i32_837 v6
  let c128_i32_838 : BitVec 32 := 128#32
  let v1430 : BitVec 32 := Scalar.muli v1429 c128_i32_838
  let v1431 : Index := Scalar.indexCast v1430
  let c0_839 : Index := 0#32
  ![v1431.toNat, 0]
def k0_off54 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let c4_i32_27 : BitVec 32 := 4#32
  let v53 : BitVec 32 := Scalar.muli v10 c4_i32_27
  let c1_i32_3 : BitVec 32 := 1#32
  let v7 : BitVec 32 := Scalar.shrsi v5 c1_i32_3
  let c1_i32_4 : BitVec 32 := 1#32
  let v8 : BitVec 32 := Scalar.andi v7 c1_i32_4
  let c2_i32_30 : BitVec 32 := 2#32
  let v56 : BitVec 32 := Scalar.muli v8 c2_i32_30
  let v57 : BitVec 32 := Scalar.addi v53 v56
  let c1_i32_33 : BitVec 32 := 1#32
  let c1_i32_2 : BitVec 32 := 1#32
  let v6 : BitVec 32 := Scalar.andi v5 c1_i32_2
  let v61 : BitVec 32 := Scalar.subi c1_i32_33 v6
  let v62 : BitVec 32 := Scalar.addi v57 v61
  let c128_i32_842 : BitVec 32 := 128#32
  let v1439 : BitVec 32 := Scalar.muli v62 c128_i32_842
  let c0_i32_847 : BitVec 32 := 0#32
  ![v1439.toNat, 0]
def k0_dev17 (d0 : Dev nD) : Nat :=
  let c0_i32_846 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v11 : BitVec 32 := Scalar.xori v5 c1_i32_6
  let c1_i32_7 : BitVec 32 := 1#32
  let v12 : BitVec 32 := Scalar.shrsi v11 c1_i32_7
  let c1_i32_8 : BitVec 32 := 1#32
  let v13 : BitVec 32 := Scalar.andi v12 c1_i32_8
  let v14 : BitVec 32 := Scalar.xori v11 v13
  let c1_i32_845 : BitVec 32 := 1#32
  let v1440 : BitVec 32 := Scalar.muli v14 c1_i32_845
  let v1441 : BitVec 32 := Scalar.addi c0_i32_846 v1440
  v1441.toNat
def k0_off55 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c128_i32_848 : BitVec 32 := 128#32
  let v1447 : BitVec 32 := Scalar.muli v5 c128_i32_848
  let v1448 : Index := Scalar.indexCast v1447
  let c0_849 : Index := 0#32
  ![v1448.toNat, 0]
def k0_off56 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let c128_i32_850 : BitVec 32 := 128#32
  let v1450 : BitVec 32 := Scalar.muli v6 c128_i32_850
  let v1451 : Index := Scalar.indexCast v1450
  let c0_851 : Index := 0#32
  ![v1451.toNat, 0]
def k0_off57 (d0 : Dev nD) : Fin 2 → Nat :=
  let c1_i32_44 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let v77 : BitVec 32 := Scalar.subi c1_i32_44 v10
  let c4_i32_45 : BitVec 32 := 4#32
  let v78 : BitVec 32 := Scalar.muli v77 c4_i32_45
  let c1_i32_3 : BitVec 32 := 1#32
  let v7 : BitVec 32 := Scalar.shrsi v5 c1_i32_3
  let c1_i32_4 : BitVec 32 := 1#32
  let v8 : BitVec 32 := Scalar.andi v7 c1_i32_4
  let c2_i32_46 : BitVec 32 := 2#32
  let v79 : BitVec 32 := Scalar.muli v8 c2_i32_46
  let v80 : BitVec 32 := Scalar.addi v78 v79
  let c1_i32_2 : BitVec 32 := 1#32
  let v6 : BitVec 32 := Scalar.andi v5 c1_i32_2
  let v81 : BitVec 32 := Scalar.addi v80 v6
  let c128_i32_870 : BitVec 32 := 128#32
  let v1471 : BitVec 32 := Scalar.muli v81 c128_i32_870
  let v1472 : Index := Scalar.indexCast v1471
  let c384_871 : Index := 384#32
  ![v1472.toNat, 384]
def k0_off58 (d0 : Dev nD) : Fin 2 → Nat :=
  let c1_i32_872 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let v1474 : BitVec 32 := Scalar.subi c1_i32_872 v10
  let c128_i32_873 : BitVec 32 := 128#32
  let v1475 : BitVec 32 := Scalar.muli v1474 c128_i32_873
  let v1476 : Index := Scalar.indexCast v1475
  let c0_874 : Index := 0#32
  ![v1476.toNat, 0]
def k0_off59 (d0 : Dev nD) : Fin 2 → Nat :=
  let c1_i32_44 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let v77 : BitVec 32 := Scalar.subi c1_i32_44 v10
  let c4_i32_45 : BitVec 32 := 4#32
  let v78 : BitVec 32 := Scalar.muli v77 c4_i32_45
  let c1_i32_3 : BitVec 32 := 1#32
  let v7 : BitVec 32 := Scalar.shrsi v5 c1_i32_3
  let c1_i32_4 : BitVec 32 := 1#32
  let v8 : BitVec 32 := Scalar.andi v7 c1_i32_4
  let c2_i32_46 : BitVec 32 := 2#32
  let v79 : BitVec 32 := Scalar.muli v8 c2_i32_46
  let v80 : BitVec 32 := Scalar.addi v78 v79
  let c1_i32_2 : BitVec 32 := 1#32
  let v6 : BitVec 32 := Scalar.andi v5 c1_i32_2
  let v81 : BitVec 32 := Scalar.addi v80 v6
  let c128_i32_877 : BitVec 32 := 128#32
  let v1484 : BitVec 32 := Scalar.muli v81 c128_i32_877
  let c384_i32_882 : BitVec 32 := 384#32
  ![v1484.toNat, 384]
def k0_dev18 (d0 : Dev nD) : Nat :=
  let c0_i32_881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v19 : BitVec 32 := Scalar.xori v5 c4_i32
  let c1_i32_12 : BitVec 32 := 1#32
  let v20 : BitVec 32 := Scalar.shrsi v19 c1_i32_12
  let c1_i32_13 : BitVec 32 := 1#32
  let v21 : BitVec 32 := Scalar.andi v20 c1_i32_13
  let v22 : BitVec 32 := Scalar.xori v19 v21
  let c1_i32_880 : BitVec 32 := 1#32
  let v1485 : BitVec 32 := Scalar.muli v22 c1_i32_880
  let v1486 : BitVec 32 := Scalar.addi c0_i32_881 v1485
  v1486.toNat
def k0_off60 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c128_i32_883 : BitVec 32 := 128#32
  let v1492 : BitVec 32 := Scalar.muli v5 c128_i32_883
  let v1493 : Index := Scalar.indexCast v1492
  let c384_884 : Index := 384#32
  ![v1493.toNat, 384]
def k0_off61 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let c128_i32_885 : BitVec 32 := 128#32
  let v1495 : BitVec 32 := Scalar.muli v10 c128_i32_885
  let v1496 : Index := Scalar.indexCast v1495
  let c0_886 : Index := 0#32
  ![v1496.toNat, 0]
def k0_off62 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let c4_i32_47 : BitVec 32 := 4#32
  let c2_i32 : BitVec 32 := 2#32
  let v9 : BitVec 32 := Scalar.shrsi v5 c2_i32
  let c1_i32_5 : BitVec 32 := 1#32
  let v10 : BitVec 32 := Scalar.andi v9 c1_i32_5
  let v82 : BitVec 32 := Scalar.muli c4_i32_47 v10
  let v83 : BitVec 32 := Scalar.addi v6 v82
  let c2_i32_49 : BitVec 32 := 2#32
  let c1_i32_48 : BitVec 32 := 1#32
  let c1_i32_3 : BitVec 32 := 1#32
  let v7 : BitVec 32 := Scalar.shrsi v5 c1_i32_3
  let c1_i32_4 : BitVec 32 := 1#32
  let v8 : BitVec 32 := Scalar.andi v7 c1_i32_4
  let v84 : BitVec 32 := Scalar.subi c1_i32_48 v8
  let v85 : BitVec 32 := Scalar.muli c2_i32_49 v84
  let v86 : BitVec 32 := Scalar.addi v83 v85
  let c128_i32_905 : BitVec 32 := 128#32
  let v1516 : BitVec 32 := Scalar.muli v86 c128_i32_905
  let v1517 : Index := Scalar.indexCast v1516
  let c768_906 : Index := 768#32
  ![v1517.toNat, 768]
def k0_off63 (d0 : Dev nD) : Fin 2 → Nat :=
  let c1_i32_907 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let v1519 : BitVec 32 := Scalar.subi c1_i32_907 v8
  let c128_i32_908 : BitVec 32 := 128#32
  let v1520 : BitVec 32 := Scalar.muli v1519 c128_i32_908
  let v1521 : Index := Scalar.indexCast v1520
  let c0_909 : Index := 0#32
  ![v1521.toNat, 0]
def k0_off64 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let c4_i32_47 : BitVec 32 := 4#32
  let c2_i32 : BitVec 32 := 2#32
  let v9 : BitVec 32 := Scalar.shrsi v5 c2_i32
  let c1_i32_5 : BitVec 32 := 1#32
  let v10 : BitVec 32 := Scalar.andi v9 c1_i32_5
  let v82 : BitVec 32 := Scalar.muli c4_i32_47 v10
  let v83 : BitVec 32 := Scalar.addi v6 v82
  let c2_i32_49 : BitVec 32 := 2#32
  let c1_i32_48 : BitVec 32 := 1#32
  let c1_i32_3 : BitVec 32 := 1#32
  let v7 : BitVec 32 := Scalar.shrsi v5 c1_i32_3
  let c1_i32_4 : BitVec 32 := 1#32
  let v8 : BitVec 32 := Scalar.andi v7 c1_i32_4
  let v84 : BitVec 32 := Scalar.subi c1_i32_48 v8
  let v85 : BitVec 32 := Scalar.muli c2_i32_49 v84
  let v86 : BitVec 32 := Scalar.addi v83 v85
  let c128_i32_912 : BitVec 32 := 128#32
  let v1529 : BitVec 32 := Scalar.muli v86 c128_i32_912
  let c768_i32_917 : BitVec 32 := 768#32
  ![v1529.toNat, 768]
def k0_dev19 (d0 : Dev nD) : Nat :=
  let c0_i32_916 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v15 : BitVec 32 := Scalar.xori v5 c2_i32_9
  let c1_i32_10 : BitVec 32 := 1#32
  let v16 : BitVec 32 := Scalar.shrsi v15 c1_i32_10
  let c1_i32_11 : BitVec 32 := 1#32
  let v17 : BitVec 32 := Scalar.andi v16 c1_i32_11
  let v18 : BitVec 32 := Scalar.xori v15 v17
  let c1_i32_915 : BitVec 32 := 1#32
  let v1530 : BitVec 32 := Scalar.muli v18 c1_i32_915
  let v1531 : BitVec 32 := Scalar.addi c0_i32_916 v1530
  v1531.toNat
def k0_off65 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c128_i32_918 : BitVec 32 := 128#32
  let v1537 : BitVec 32 := Scalar.muli v5 c128_i32_918
  let v1538 : Index := Scalar.indexCast v1537
  let c768_919 : Index := 768#32
  ![v1538.toNat, 768]
def k0_off66 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c128_i32_920 : BitVec 32 := 128#32
  let v1540 : BitVec 32 := Scalar.muli v8 c128_i32_920
  let v1541 : Index := Scalar.indexCast v1540
  let c0_921 : Index := 0#32
  ![v1541.toNat, 0]
def k0_off67 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c128_i32_955 : BitVec 32 := 128#32
  let v1606 : BitVec 32 := Scalar.muli v5 c128_i32_955
  let c0_i32_960 : BitVec 32 := 0#32
  ![v1606.toNat, 0]
def k0_dev20 (d0 : Dev nD) : Nat :=
  let c0_i32_959 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v11 : BitVec 32 := Scalar.xori v5 c1_i32_6
  let c1_i32_7 : BitVec 32 := 1#32
  let v12 : BitVec 32 := Scalar.shrsi v11 c1_i32_7
  let c1_i32_8 : BitVec 32 := 1#32
  let v13 : BitVec 32 := Scalar.andi v12 c1_i32_8
  let v14 : BitVec 32 := Scalar.xori v11 v13
  let c1_i32_958 : BitVec 32 := 1#32
  let v1607 : BitVec 32 := Scalar.muli v14 c1_i32_958
  let v1608 : BitVec 32 := Scalar.addi c0_i32_959 v1607
  v1608.toNat
def k0_off68 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c128_i32_963 : BitVec 32 := 128#32
  let v1616 : BitVec 32 := Scalar.muli v5 c128_i32_963
  let c384_i32_968 : BitVec 32 := 384#32
  ![v1616.toNat, 384]
def k0_dev21 (d0 : Dev nD) : Nat :=
  let c0_i32_967 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v19 : BitVec 32 := Scalar.xori v5 c4_i32
  let c1_i32_12 : BitVec 32 := 1#32
  let v20 : BitVec 32 := Scalar.shrsi v19 c1_i32_12
  let c1_i32_13 : BitVec 32 := 1#32
  let v21 : BitVec 32 := Scalar.andi v20 c1_i32_13
  let v22 : BitVec 32 := Scalar.xori v19 v21
  let c1_i32_966 : BitVec 32 := 1#32
  let v1617 : BitVec 32 := Scalar.muli v22 c1_i32_966
  let v1618 : BitVec 32 := Scalar.addi c0_i32_967 v1617
  v1618.toNat
def k0_off69 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c128_i32_971 : BitVec 32 := 128#32
  let v1626 : BitVec 32 := Scalar.muli v5 c128_i32_971
  let c768_i32_976 : BitVec 32 := 768#32
  ![v1626.toNat, 768]
def k0_dev22 (d0 : Dev nD) : Nat :=
  let c0_i32_975 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v15 : BitVec 32 := Scalar.xori v5 c2_i32_9
  let c1_i32_10 : BitVec 32 := 1#32
  let v16 : BitVec 32 := Scalar.shrsi v15 c1_i32_10
  let c1_i32_11 : BitVec 32 := 1#32
  let v17 : BitVec 32 := Scalar.andi v16 c1_i32_11
  let v18 : BitVec 32 := Scalar.xori v15 v17
  let c1_i32_974 : BitVec 32 := 1#32
  let v1627 : BitVec 32 := Scalar.muli v18 c1_i32_974
  let v1628 : BitVec 32 := Scalar.addi c0_i32_975 v1627
  v1628.toNat
def k0_off70 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_986 : BitVec 32 := 1#32
  let v1646 : BitVec 32 := Scalar.xori v5 c1_i32_986
  let c128_i32_987 : BitVec 32 := 128#32
  let v1647 : BitVec 32 := Scalar.muli v1646 c128_i32_987
  let c0_i32_992 : BitVec 32 := 0#32
  ![v1647.toNat, 0]
def k0_off71 (d0 : Dev nD) (c4_i32_996 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v1656 : BitVec 32 := Scalar.xori v5 c4_i32_996
  let c128_i32_997 : BitVec 32 := 128#32
  let v1657 : BitVec 32 := Scalar.muli v1656 c128_i32_997
  let c384_i32_1002 : BitVec 32 := 384#32
  ![v1657.toNat, 384]
def k0_off72 (d0 : Dev nD) (c2_i32_1006 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v1666 : BitVec 32 := Scalar.xori v5 c2_i32_1006
  let c128_i32_1007 : BitVec 32 := 128#32
  let v1667 : BitVec 32 := Scalar.muli v1666 c128_i32_1007
  let c768_i32_1012 : BitVec 32 := 768#32
  ![v1667.toNat, 768]
def k0_off73 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c_m2_i32 : BitVec 32 := 4294967294#32
  let v1603 : BitVec 32 := Scalar.andi v5 c_m2_i32
  let c128_i32_1015 : BitVec 32 := 128#32
  let v1675 : BitVec 32 := Scalar.muli v1603 c128_i32_1015
  let c0_i32_1020 : BitVec 32 := 0#32
  ![v1675.toNat, 0]
def k0_dev23 (d0 : Dev nD) : Nat :=
  let c0_i32_1019 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v15 : BitVec 32 := Scalar.xori v5 c2_i32_9
  let c1_i32_10 : BitVec 32 := 1#32
  let v16 : BitVec 32 := Scalar.shrsi v15 c1_i32_10
  let c1_i32_11 : BitVec 32 := 1#32
  let v17 : BitVec 32 := Scalar.andi v16 c1_i32_11
  let v18 : BitVec 32 := Scalar.xori v15 v17
  let c1_i32_1018 : BitVec 32 := 1#32
  let v1676 : BitVec 32 := Scalar.muli v18 c1_i32_1018
  let v1677 : BitVec 32 := Scalar.addi c0_i32_1019 v1676
  v1677.toNat
def k0_dev24 (d0 : Dev nD) : Nat :=
  let c0_i32_1027 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v11 : BitVec 32 := Scalar.xori v5 c1_i32_6
  let c1_i32_7 : BitVec 32 := 1#32
  let v12 : BitVec 32 := Scalar.shrsi v11 c1_i32_7
  let c1_i32_8 : BitVec 32 := 1#32
  let v13 : BitVec 32 := Scalar.andi v12 c1_i32_8
  let v14 : BitVec 32 := Scalar.xori v11 v13
  let c1_i32_1026 : BitVec 32 := 1#32
  let v1686 : BitVec 32 := Scalar.muli v14 c1_i32_1026
  let v1687 : BitVec 32 := Scalar.addi c0_i32_1027 v1686
  v1687.toNat
def k0_dev25 (d0 : Dev nD) : Nat :=
  let c0_i32_1037 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v11 : BitVec 32 := Scalar.xori v5 c1_i32_6
  let c1_i32_7 : BitVec 32 := 1#32
  let v12 : BitVec 32 := Scalar.shrsi v11 c1_i32_7
  let c1_i32_8 : BitVec 32 := 1#32
  let v13 : BitVec 32 := Scalar.andi v12 c1_i32_8
  let v14 : BitVec 32 := Scalar.xori v11 v13
  let c1_i32_1036 : BitVec 32 := 1#32
  let v1698 : BitVec 32 := Scalar.muli v14 c1_i32_1036
  let v1699 : BitVec 32 := Scalar.addi c0_i32_1037 v1698
  v1699.toNat
def k0_dev26 (d0 : Dev nD) : Nat :=
  let c0_i32_1045 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v19 : BitVec 32 := Scalar.xori v5 c4_i32
  let c1_i32_12 : BitVec 32 := 1#32
  let v20 : BitVec 32 := Scalar.shrsi v19 c1_i32_12
  let c1_i32_13 : BitVec 32 := 1#32
  let v21 : BitVec 32 := Scalar.andi v20 c1_i32_13
  let v22 : BitVec 32 := Scalar.xori v19 v21
  let c1_i32_1044 : BitVec 32 := 1#32
  let v1708 : BitVec 32 := Scalar.muli v22 c1_i32_1044
  let v1709 : BitVec 32 := Scalar.addi c0_i32_1045 v1708
  v1709.toNat
def k0_dev27 (d0 : Dev nD) : Nat :=
  let c0_i32_1055 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v19 : BitVec 32 := Scalar.xori v5 c4_i32
  let c1_i32_12 : BitVec 32 := 1#32
  let v20 : BitVec 32 := Scalar.shrsi v19 c1_i32_12
  let c1_i32_13 : BitVec 32 := 1#32
  let v21 : BitVec 32 := Scalar.andi v20 c1_i32_13
  let v22 : BitVec 32 := Scalar.xori v19 v21
  let c1_i32_1054 : BitVec 32 := 1#32
  let v1720 : BitVec 32 := Scalar.muli v22 c1_i32_1054
  let v1721 : BitVec 32 := Scalar.addi c0_i32_1055 v1720
  v1721.toNat
def k0_off74 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1058 : BitVec 32 := 1#32
  let v1728 : BitVec 32 := Scalar.xori v5 c1_i32_1058
  let c128_i32_1059 : BitVec 32 := 128#32
  let v1729 : BitVec 32 := Scalar.muli v1728 c128_i32_1059
  let v1730 : Index := Scalar.indexCast v1729
  let c0_1060 : Index := 0#32
  ![v1730.toNat, 0]
def k0_off75 (d0 : Dev nD) (c4_i32_1064 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v1737 : BitVec 32 := Scalar.xori v5 c4_i32_1064
  let c128_i32_1065 : BitVec 32 := 128#32
  let v1738 : BitVec 32 := Scalar.muli v1737 c128_i32_1065
  let v1739 : Index := Scalar.indexCast v1738
  let c384_1066 : Index := 384#32
  ![v1739.toNat, 384]
def k0_off76 (d0 : Dev nD) (c2_i32_1070 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v1746 : BitVec 32 := Scalar.xori v5 c2_i32_1070
  let c128_i32_1071 : BitVec 32 := 128#32
  let v1747 : BitVec 32 := Scalar.muli v1746 c128_i32_1071
  let v1748 : Index := Scalar.indexCast v1747
  let c768_1072 : Index := 768#32
  ![v1748.toNat, 768]
def k0_off77 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c_m2_i32 : BitVec 32 := 4294967294#32
  let v1603 : BitVec 32 := Scalar.andi v5 c_m2_i32
  let c2_i32_1078 : BitVec 32 := 2#32
  let v1757 : BitVec 32 := Scalar.xori v1603 c2_i32_1078
  let c128_i32_1079 : BitVec 32 := 128#32
  let v1758 : BitVec 32 := Scalar.muli v1757 c128_i32_1079
  let c0_i32_1084 : BitVec 32 := 0#32
  ![v1758.toNat, 0]
def k0_off78 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1099 : BitVec 32 := 1#32
  let v1778 : BitVec 32 := Scalar.xori v5 c1_i32_1099
  let c4_i32_1100 : BitVec 32 := 4#32
  let v1779 : BitVec 32 := Scalar.xori v1778 c4_i32_1100
  let c128_i32_1101 : BitVec 32 := 128#32
  let v1780 : BitVec 32 := Scalar.muli v1779 c128_i32_1101
  let c384_i32_1106 : BitVec 32 := 384#32
  ![v1780.toNat, 384]
def k0_off79 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1121 : BitVec 32 := 4#32
  let v1800 : BitVec 32 := Scalar.xori v5 c4_i32_1121
  let c2_i32_1122 : BitVec 32 := 2#32
  let v1801 : BitVec 32 := Scalar.xori v1800 c2_i32_1122
  let c128_i32_1123 : BitVec 32 := 128#32
  let v1802 : BitVec 32 := Scalar.muli v1801 c128_i32_1123
  let c768_i32_1128 : BitVec 32 := 768#32
  ![v1802.toNat, 768]
def k0_off80 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c_m4_i32 : BitVec 32 := 4294967292#32
  let v1604 : BitVec 32 := Scalar.andi v5 c_m4_i32
  let c128_i32_1131 : BitVec 32 := 128#32
  let v1810 : BitVec 32 := Scalar.muli v1604 c128_i32_1131
  let c0_i32_1136 : BitVec 32 := 0#32
  ![v1810.toNat, 0]
def k0_dev28 (d0 : Dev nD) : Nat :=
  let c0_i32_1135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v19 : BitVec 32 := Scalar.xori v5 c4_i32
  let c1_i32_12 : BitVec 32 := 1#32
  let v20 : BitVec 32 := Scalar.shrsi v19 c1_i32_12
  let c1_i32_13 : BitVec 32 := 1#32
  let v21 : BitVec 32 := Scalar.andi v20 c1_i32_13
  let v22 : BitVec 32 := Scalar.xori v19 v21
  let c1_i32_1134 : BitVec 32 := 1#32
  let v1811 : BitVec 32 := Scalar.muli v22 c1_i32_1134
  let v1812 : BitVec 32 := Scalar.addi c0_i32_1135 v1811
  v1812.toNat
def k0_off81 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c_m2_i32 : BitVec 32 := 4294967294#32
  let v1603 : BitVec 32 := Scalar.andi v5 c_m2_i32
  let c128_i32_1139 : BitVec 32 := 128#32
  let v1820 : BitVec 32 := Scalar.muli v1603 c128_i32_1139
  let c384_i32_1144 : BitVec 32 := 384#32
  ![v1820.toNat, 384]
def k0_dev29 (d0 : Dev nD) : Nat :=
  let c0_i32_1143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v15 : BitVec 32 := Scalar.xori v5 c2_i32_9
  let c1_i32_10 : BitVec 32 := 1#32
  let v16 : BitVec 32 := Scalar.shrsi v15 c1_i32_10
  let c1_i32_11 : BitVec 32 := 1#32
  let v17 : BitVec 32 := Scalar.andi v16 c1_i32_11
  let v18 : BitVec 32 := Scalar.xori v15 v17
  let c1_i32_1142 : BitVec 32 := 1#32
  let v1821 : BitVec 32 := Scalar.muli v18 c1_i32_1142
  let v1822 : BitVec 32 := Scalar.addi c0_i32_1143 v1821
  v1822.toNat
def k0_off82 (d0 : Dev nD) (c4_i32_1148 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c_m2_i32 : BitVec 32 := 4294967294#32
  let v1603 : BitVec 32 := Scalar.andi v5 c_m2_i32
  let v1831 : BitVec 32 := Scalar.xori v1603 c4_i32_1148
  let c128_i32_1149 : BitVec 32 := 128#32
  let v1832 : BitVec 32 := Scalar.muli v1831 c128_i32_1149
  let c384_i32_1154 : BitVec 32 := 384#32
  ![v1832.toNat, 384]
def k0_dev30 (d0 : Dev nD) : Nat :=
  let c0_i32_1153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_9 : BitVec 32 := 2#32
  let v15 : BitVec 32 := Scalar.xori v5 c2_i32_9
  let c1_i32_10 : BitVec 32 := 1#32
  let v16 : BitVec 32 := Scalar.shrsi v15 c1_i32_10
  let c1_i32_11 : BitVec 32 := 1#32
  let v17 : BitVec 32 := Scalar.andi v16 c1_i32_11
  let v18 : BitVec 32 := Scalar.xori v15 v17
  let c1_i32_1152 : BitVec 32 := 1#32
  let v1833 : BitVec 32 := Scalar.muli v18 c1_i32_1152
  let v1834 : BitVec 32 := Scalar.addi c0_i32_1153 v1833
  v1834.toNat
def k0_dev31 (d0 : Dev nD) : Nat :=
  let c0_i32_1161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v11 : BitVec 32 := Scalar.xori v5 c1_i32_6
  let c1_i32_7 : BitVec 32 := 1#32
  let v12 : BitVec 32 := Scalar.shrsi v11 c1_i32_7
  let c1_i32_8 : BitVec 32 := 1#32
  let v13 : BitVec 32 := Scalar.andi v12 c1_i32_8
  let v14 : BitVec 32 := Scalar.xori v11 v13
  let c1_i32_1160 : BitVec 32 := 1#32
  let v1843 : BitVec 32 := Scalar.muli v14 c1_i32_1160
  let v1844 : BitVec 32 := Scalar.addi c0_i32_1161 v1843
  v1844.toNat
def k0_dev32 (d0 : Dev nD) : Nat :=
  let c0_i32_1171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v11 : BitVec 32 := Scalar.xori v5 c1_i32_6
  let c1_i32_7 : BitVec 32 := 1#32
  let v12 : BitVec 32 := Scalar.shrsi v11 c1_i32_7
  let c1_i32_8 : BitVec 32 := 1#32
  let v13 : BitVec 32 := Scalar.andi v12 c1_i32_8
  let v14 : BitVec 32 := Scalar.xori v11 v13
  let c1_i32_1170 : BitVec 32 := 1#32
  let v1855 : BitVec 32 := Scalar.muli v14 c1_i32_1170
  let v1856 : BitVec 32 := Scalar.addi c0_i32_1171 v1855
  v1856.toNat
def k0_dev33 (d0 : Dev nD) : Nat :=
  let c0_i32_1181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v11 : BitVec 32 := Scalar.xori v5 c1_i32_6
  let c1_i32_7 : BitVec 32 := 1#32
  let v12 : BitVec 32 := Scalar.shrsi v11 c1_i32_7
  let c1_i32_8 : BitVec 32 := 1#32
  let v13 : BitVec 32 := Scalar.andi v12 c1_i32_8
  let v14 : BitVec 32 := Scalar.xori v11 v13
  let c1_i32_1180 : BitVec 32 := 1#32
  let v1867 : BitVec 32 := Scalar.muli v14 c1_i32_1180
  let v1868 : BitVec 32 := Scalar.addi c0_i32_1181 v1867
  v1868.toNat
def k0_dev34 (d0 : Dev nD) : Nat :=
  let c0_i32_1191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v11 : BitVec 32 := Scalar.xori v5 c1_i32_6
  let c1_i32_7 : BitVec 32 := 1#32
  let v12 : BitVec 32 := Scalar.shrsi v11 c1_i32_7
  let c1_i32_8 : BitVec 32 := 1#32
  let v13 : BitVec 32 := Scalar.andi v12 c1_i32_8
  let v14 : BitVec 32 := Scalar.xori v11 v13
  let c1_i32_1190 : BitVec 32 := 1#32
  let v1879 : BitVec 32 := Scalar.muli v14 c1_i32_1190
  let v1880 : BitVec 32 := Scalar.addi c0_i32_1191 v1879
  v1880.toNat
def k0_off83 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c_m2_i32 : BitVec 32 := 4294967294#32
  let v1603 : BitVec 32 := Scalar.andi v5 c_m2_i32
  let c2_i32_1194 : BitVec 32 := 2#32
  let v1887 : BitVec 32 := Scalar.xori v1603 c2_i32_1194
  let c128_i32_1195 : BitVec 32 := 128#32
  let v1888 : BitVec 32 := Scalar.muli v1887 c128_i32_1195
  let v1889 : Index := Scalar.indexCast v1888
  let c0_1196 : Index := 0#32
  ![v1889.toNat, 0]
def k0_off84 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1206 : BitVec 32 := 1#32
  let v1905 : BitVec 32 := Scalar.xori v5 c1_i32_1206
  let c4_i32_1207 : BitVec 32 := 4#32
  let v1906 : BitVec 32 := Scalar.xori v1905 c4_i32_1207
  let c128_i32_1208 : BitVec 32 := 128#32
  let v1907 : BitVec 32 := Scalar.muli v1906 c128_i32_1208
  let v1908 : Index := Scalar.indexCast v1907
  let c384_1209 : Index := 384#32
  ![v1908.toNat, 384]
def k0_off85 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c_m2_i32 : BitVec 32 := 4294967294#32
  let v1603 : BitVec 32 := Scalar.andi v5 c_m2_i32
  let c2_i32_1268 : BitVec 32 := 2#32
  let v1982 : BitVec 32 := Scalar.xori v1603 c2_i32_1268
  let c128_i32_1269 : BitVec 32 := 128#32
  let v1983 : BitVec 32 := Scalar.muli v1982 c128_i32_1269
  let v1984 : Index := Scalar.indexCast v1983
  let c384_1270 : Index := 384#32
  ![v1984.toNat, 384]
def k0_off86 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c_m2_i32 : BitVec 32 := 4294967294#32
  let v1603 : BitVec 32 := Scalar.andi v5 c_m2_i32
  let c2_i32_1293 : BitVec 32 := 2#32
  let v2013 : BitVec 32 := Scalar.xori v1603 c2_i32_1293
  let c4_i32_1294 : BitVec 32 := 4#32
  let v2014 : BitVec 32 := Scalar.xori v2013 c4_i32_1294
  let c128_i32_1295 : BitVec 32 := 128#32
  let v2015 : BitVec 32 := Scalar.muli v2014 c128_i32_1295
  let c384_i32_1300 : BitVec 32 := 384#32
  ![v2015.toNat, 384]
def k0_off87 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c_m2_i32 : BitVec 32 := 4294967294#32
  let v1603 : BitVec 32 := Scalar.andi v5 c_m2_i32
  let c2_i32_1302 : BitVec 32 := 2#32
  let v2022 : BitVec 32 := Scalar.xori v1603 c2_i32_1302
  let c4_i32_1303 : BitVec 32 := 4#32
  let v2023 : BitVec 32 := Scalar.xori v2022 c4_i32_1303
  let c128_i32_1304 : BitVec 32 := 128#32
  let v2024 : BitVec 32 := Scalar.muli v2023 c128_i32_1304
  let v2025 : Index := Scalar.indexCast v2024
  let c384_1305 : Index := 384#32
  ![v2025.toNat, 384]
def k0_off88 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c_m4_i32 : BitVec 32 := 4294967292#32
  let v1604 : BitVec 32 := Scalar.andi v5 c_m4_i32
  let c4_i32_1327 : BitVec 32 := 4#32
  let v2054 : BitVec 32 := Scalar.xori v1604 c4_i32_1327
  let c128_i32_1328 : BitVec 32 := 128#32
  let v2055 : BitVec 32 := Scalar.muli v2054 c128_i32_1328
  let c0_i32_1333 : BitVec 32 := 0#32
  ![v2055.toNat, 0]
def k0_off89 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c_m4_i32 : BitVec 32 := 4294967292#32
  let v1604 : BitVec 32 := Scalar.andi v5 c_m4_i32
  let c4_i32_1335 : BitVec 32 := 4#32
  let v2062 : BitVec 32 := Scalar.xori v1604 c4_i32_1335
  let c128_i32_1336 : BitVec 32 := 128#32
  let v2063 : BitVec 32 := Scalar.muli v2062 c128_i32_1336
  let v2064 : Index := Scalar.indexCast v2063
  let c0_1337 : Index := 0#32
  ![v2064.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x512 : Shape := ⟨2, ![1024, 512]⟩
abbrev S512x32 : Shape := ⟨2, ![512, 32]⟩
abbrev S1024x1 : Shape := ⟨2, ![1024, 1]⟩
abbrev S32x512x1024 : Shape := ⟨3, ![32, 512, 1024]⟩
abbrev S512x1024 : Shape := ⟨2, ![512, 1024]⟩
abbrev S1024x32 : Shape := ⟨2, ![1024, 32]⟩
abbrev S_ : Shape := ⟨0, ![]⟩
abbrev S1024 : Shape := ⟨1, ![1024]⟩
abbrev S1024x1024 : Shape := ⟨2, ![1024, 1024]⟩
abbrev S1024x2 : Shape := ⟨2, ![1024, 2]⟩
abbrev S2 : Shape := ⟨1, ![2]⟩
abbrev S1x2 : Shape := ⟨2, ![1, 2]⟩
abbrev S1 : Shape := ⟨1, ![1]⟩
abbrev S1x1 : Shape := ⟨2, ![1, 1]⟩
abbrev S1024x512x1024 : Shape := ⟨3, ![1024, 512, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x32, .f32⟩
  | .hbm, ⟨2, _⟩ => ⟨S1024x1, .i32⟩
  | .hbm, ⟨3, _⟩ => ⟨S32x512x1024, .f32⟩
  | .hbm, ⟨4, _⟩ => ⟨S512x1024, .f32⟩
  | .hbm, ⟨5, _⟩ => ⟨S1024x32, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024x32, .f32⟩
  | .hbm, ⟨10, _⟩ => ⟨S1024x32, .f32⟩
  | .hbm, ⟨11, _⟩ => ⟨S1024x32, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S1024x32, .f32⟩
  | .hbm, ⟨16, _⟩ => ⟨S1024x32, .f32⟩
  | .hbm, ⟨17, _⟩ => ⟨S1024x1024, .f32⟩
  | .hbm, ⟨18, _⟩ => ⟨S1024, .i32⟩
  | .hbm, ⟨19, _⟩ => ⟨S1024, .i32⟩
  | .hbm, ⟨20, _⟩ => ⟨S1024x1, .i32⟩
  | .hbm, ⟨21, _⟩ => ⟨S1024x1, .i32⟩
  | .hbm, ⟨22, _⟩ => ⟨S1024x2, .i32⟩
  | .hbm, ⟨23, _⟩ => ⟨S2, .i32⟩
  | .hbm, ⟨24, _⟩ => ⟨S_, .i32⟩
  | .hbm, ⟨25, _⟩ => ⟨S1024x2, .i32⟩
  | .hbm, ⟨26, _⟩ => ⟨S1024x2, .i1⟩
  | .hbm, ⟨27, _⟩ => ⟨S1x2, .i32⟩
  | .hbm, ⟨28, _⟩ => ⟨S1024x2, .i32⟩
  | .hbm, ⟨29, _⟩ => ⟨S1024x2, .i1⟩
  | .hbm, ⟨30, _⟩ => ⟨S1024x2, .i1⟩
  | .hbm, ⟨31, _⟩ => ⟨S_, .i1⟩
  | .hbm, ⟨32, _⟩ => ⟨S1024, .i1⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024x1, .i32⟩
  | .hbm, ⟨38, _⟩ => ⟨S1, .i32⟩
  | .hbm, ⟨39, _⟩ => ⟨S_, .i32⟩
  | .hbm, ⟨40, _⟩ => ⟨S1024x1, .i32⟩
  | .hbm, ⟨41, _⟩ => ⟨S1024x1, .i1⟩
  | .hbm, ⟨42, _⟩ => ⟨S1x1, .i32⟩
  | .hbm, ⟨43, _⟩ => ⟨S1024x1, .i32⟩
  | .hbm, ⟨44, _⟩ => ⟨S1024x1, .i1⟩
  | .hbm, ⟨45, _⟩ => ⟨S1024x1, .i1⟩
  | .hbm, ⟨46, _⟩ => ⟨S_, .i1⟩
  | .hbm, ⟨47, _⟩ => ⟨S1024, .i1⟩
  | .hbm, ⟨48, _⟩ => ⟨S1024x512x1024, .f32⟩
  | .hbm, ⟨49, _⟩ => ⟨S1024x512x1024, .i1⟩
  | .hbm, ⟨50, _⟩ => ⟨S_, .f32⟩
  | .hbm, ⟨51, _⟩ => ⟨S1024x512x1024, .f32⟩
  | .hbm, ⟨52, _⟩ => ⟨S1024x512x1024, .f32⟩
  | .hbm, ⟨53, _⟩ => ⟨S1024x1, .f32⟩
  | .hbm, ⟨54, _⟩ => ⟨S1024x1024, .f32⟩
  | .hbm, ⟨55, _⟩ => ⟨S1024x1024, .f32⟩
  | .hbm, ⟨56, _⟩ => ⟨S1024x1024, .f32⟩
  | .hbm, ⟨57, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Proof.Body.lean ====
module

public import proofs.«01_k».proof.Proof.Gen.KernelIdeal.Skeleton
public import proofs.«01_k».proof.Proof.Gen.KernelIdeal.Points
public import Idealize.ShloMosaic.Lib.Pipeline.Regions

@[expose] public section

noncomputable section

/-! # The kernel body as a sequence of steps

The printed body is a single run of memory operations; here it is the same run named step by step: a
block of the local expert sum (`compStep`), a remote copy (`sendT`), a wait for an arrival
(`recvD`, `recvG`), a received block added into the local partial sums (`addStep`), a block of the output cast
from the gathered buffer (`castOut`), a wait for a copy's own completion (`sentM`). `body_eq` says the printed
body is this sequence. -/

namespace Cert.KernelIdeal.Moe

open Idealize.ShloMosaic Idealize.ShloMosaic.TcCoe Idealize.SL.Sem
open Cert.KernelIdeal.Gen
open Idealize.ShloMosaic.Pipeline (chain)

variable {F : FTy → Type} [FloatOps F]

/-- Programs of the kernel's core. -/
abbrev Pg (F : FTy → Type) [FloatOps F] (α : Type) : Type 1 := Prog (TpuEff nD τ sig (Elt F) Λ₀ .tc) α

/-! ## The buffers -/

abbrev xM : Memref sig .tc .vmem S1024x512 .f32 := Memref.whole cc0_stg0_0
abbrev rwM : Memref sig .tc .vmem S512x32 .f32 := Memref.whole cc0_stg1_0
abbrev ixM : Memref sig .tc .vmem S1024x1 .i32 := Memref.whole cc0_stg2_0
abbrev ewM : Memref sig .tc .vmem S4x512x1024 .f32 := Memref.whole cc0_stg3_0
abbrev swM : Memref sig .tc .vmem S512x1024 .f32 := Memref.whole cc0_stg4_0
abbrev oM : Memref sig .tc .vmem S1024x1024 .f32 := Memref.whole cc0_stg5_0
/-- The partial sums. -/
abbrev pM : Memref sig .tc .vmem S1024x1024 .bf16 := Memref.whole cc0_scratch0
/-- The gathered result. -/
abbrev gM : Memref sig .tc .vmem S1024x1024 .bf16 := Memref.whole cc0_scratch1
abbrev hM : Memref sig .tc .vmem S1024x512 .bf16 := Memref.whole cc0_scratch2
/-- The landing buffers: column group A's three stages, B's and C's. -/
abbrev a0M : Memref sig .tc .vmem S512x384 .bf16 := Memref.whole cc0_scratch3
abbrev a1M : Memref sig .tc .vmem S256x384 .bf16 := Memref.whole cc0_scratch4
abbrev a2M : Memref sig .tc .vmem S128x384 .bf16 := Memref.whole cc0_scratch5
abbrev b0M : Memref sig .tc .vmem S512x384 .bf16 := Memref.whole cc0_scratch6
abbrev b1M : Memref sig .tc .vmem S256x384 .bf16 := Memref.whole cc0_scratch7
abbrev b2M : Memref sig .tc .vmem S128x384 .bf16 := Memref.whole cc0_scratch8
abbrev c0M : Memref sig .tc .vmem S512x256 .bf16 := Memref.whole cc0_scratch9
abbrev c1M : Memref sig .tc .vmem S256x256 .bf16 := Memref.whole cc0_scratch10
abbrev c2M : Memref sig .tc .vmem S128x256 .bf16 := Memref.whole cc0_scratch11
/-- The probability of each token's routed expert. -/
abbrev gtM : Memref sig .tc .vmem S1024x1 .f32 := Memref.whole cc0_scratch12

/-! ## Loads and stores -/

section Steps

variable {n : ℕ} {ss : Fin n → ℕ} {e : EltTy}

/-- Load the rectangle of sizes `ts` at `off`. -/
def ld (m : Memref sig .tc .vmem ⟨n, ss⟩ e) (off ts : Fin n → ℕ) (inb : ∀ a, off a + ts a ≤ ss a)
    (h : 0 < (⟨n, ts⟩ : Shape).numel) : Pg F (Vec F ⟨n, ts⟩ e) :=
  Prog.lift (.load m (Rect.unit (s := ⟨n, ss⟩) off ts inb).toLoadRect (View.loadsAt_vmem h))

/-- Load, and drop, the rectangle of sizes `ts` at `off`, then store `w` there. -/
def st (m : Memref sig .tc .vmem ⟨n, ss⟩ e) (off ts : Fin n → ℕ) (inb : ∀ a, off a + ts a ≤ ss a)
    (h : 0 < (⟨n, ts⟩ : Shape).numel)
    (hs : (m.access (Rect.unit (s := ⟨n, ss⟩) off ts inb)).Stores Finset.univ)
    (w : Vec F ⟨n, ts⟩ e) : Pg F PUnit := do
  let _ ← ld m off ts inb h
  Prog.lift (.store m (Rect.unit (s := ⟨n, ss⟩) off ts inb) w Finset.univ hs (.inl rfl))

end Steps

/-! ## A block of the local expert sum -/

/-- The first of this device's four experts, divided by four: the device's own number. -/
abbrev v2 (d : Dev nD) : BitVec 32 := Scalar.remsi (Scalar.divsi (Dev.word d) 1#32) 8#32

section Comp

variable {R W : ℕ} (dot : DotDims ⟨2, ![R, 512]⟩ ⟨2, ![512, W]⟩ ⟨2, ![R, W]⟩)
  (hc : (⟨3, ![1, 512, W]⟩ : Shape).ShapeCasts ⟨2, ![512, W]⟩)
  (hi : (⟨2, ![R, 1]⟩ : Shape).ShapeCasts ⟨2, ![R, 1]⟩)
  (ho : (⟨2, ![R, W]⟩ : Shape).ShapeCasts ⟨2, ![R, W]⟩)
  (hb : (⟨2, ![R, 1]⟩ : Shape).Broadcasts ⟨2, ![R, W]⟩)

/-- One expert's term of a block: the block's rows times the expert's matrix, each row scaled by the
    routed probability where expert `4 v + k` is the row's, by zero elsewhere. -/
def compTerm (v k : BitVec 32) (xb : Vec F ⟨2, ![R, 512]⟩ .bf16) (ix : Vec F ⟨2, ![R, 1]⟩ .i32)
    (pr : Vec F ⟨2, ![R, 1]⟩ .f32) (w : Vec F ⟨3, ![1, 512, W]⟩ .f32) : FVec F ⟨2, ![R, W]⟩ .f32 :=
  mulf (broadcastTo ⟨2, ![R, W]⟩
      (select (cmpi .eq (shapeCast ⟨2, ![R, 1]⟩ ix hi : IVec ⟨2, ![R, 1]⟩ 32)
          (broadcast ⟨2, ![R, 1]⟩ (Scalar.addi (Scalar.muli v 4#32) k)))
        pr (broadcast ⟨2, ![R, 1]⟩ (Scalar.ofBits .f32 0x00000000#32))) hb)
    (matmul dot none xb (truncf .bf16 (shapeCast ⟨2, ![512, W]⟩ w hc : FVec F ⟨2, ![512, W]⟩ .f32) bitsLt_bf16_f32)
      (constant ⟨2, ![R, W]⟩ .f32 0x00000000#32))

/-- A block's sum over the device's four experts, rounded for storing. -/
def compVal (v : BitVec 32) (xb : Vec F ⟨2, ![R, 512]⟩ .bf16) (ix : Vec F ⟨2, ![R, 1]⟩ .i32)
    (pr : Vec F ⟨2, ![R, 1]⟩ .f32) (w0 w1 w2 w3 : Vec F ⟨3, ![1, 512, W]⟩ .f32) : Vec F ⟨2, ![R, W]⟩ .bf16 :=
  shapeCast ⟨2, ![R, W]⟩ (truncf .bf16
    (addf (addf (addf (addf (broadcast ⟨2, ![R, W]⟩ (Scalar.ofBits .f32 0x00000000#32))
      (compTerm dot hc hi hb v 0#32 xb ix pr w0)) (compTerm dot hc hi hb v 1#32 xb ix pr w1))
      (compTerm dot hc hi hb v 2#32 xb ix pr w2)) (compTerm dot hc hi hb v 3#32 xb ix pr w3) : FVec F ⟨2, ![R, W]⟩ .f32)
    bitsLt_bf16_f32) ho

/-- A window of one expert's columns lies within the device's weights. -/
theorem winb {W : ℕ} (k col : ℕ) (hk : k < 4) (hcol : col + W ≤ 1024) :
    ∀ a, (![k, 0, col] : Fin 3 → ℕ) a + (![1, 512, W] : Fin 3 → ℕ) a ≤ S4x512x1024.size a := by
  intro a; fin_cases a
  · show k + 1 ≤ 4; omega
  · show 0 + 512 ≤ 512; omega
  · show col + W ≤ 1024; omega

variable (hR : 0 < (⟨2, ![R, 512]⟩ : Shape).numel) (hR1 : 0 < (⟨2, ![R, 1]⟩ : Shape).numel)
  (hW : 0 < (⟨3, ![1, 512, W]⟩ : Shape).numel) (hRW : 0 < (⟨2, ![R, W]⟩ : Shape).numel)

/-- Compute the block of rows at `offx` / `offi` and columns `[col, col + W)` and store it in the
    partial sums at `offp`. -/
def compStep (v : BitVec 32) (col : ℕ) (hcol : col + W ≤ 1024)
    (offx : Fin 2 → ℕ) (hx : ∀ a, offx a + (![R, 512] : Fin 2 → ℕ) a ≤ S1024x512.size a)
    (offi : Fin 2 → ℕ) (hii : ∀ a, offi a + (![R, 1] : Fin 2 → ℕ) a ≤ S1024x1.size a)
    (offp : Fin 2 → ℕ) (hp : ∀ a, offp a + (![R, W] : Fin 2 → ℕ) a ≤ S1024x1024.size a)
    (hs : (pM.access (Rect.unit (s := S1024x1024) offp ![R, W] hp)).Stores Finset.univ) : Pg F PUnit := do
  let xb ← ld hM offx ![R, 512] hx hR
  let ix ← ld ixM offi ![R, 1] hii hR1
  let pr ← ld gtM offi ![R, 1] hii hR1
  let w0 ← ld ewM ![0, 0, col] ![1, 512, W] (winb 0 col (by decide) hcol) hW
  let w1 ← ld ewM ![1, 0, col] ![1, 512, W] (winb 1 col (by decide) hcol) hW
  let w2 ← ld ewM ![2, 0, col] ![1, 512, W] (winb 2 col (by decide) hcol) hW
  let w3 ← ld ewM ![3, 0, col] ![1, 512, W] (winb 3 col (by decide) hcol) hW
  st pM offp ![R, W] hp hRW hs (compVal dot hc hi ho hb v xb ix pr w0 w1 w2 w3)

end Comp

/-- The three block sizes of the local expert sum. -/
def comp256 (d : Dev nD) (col : ℕ) (hcol : col + 384 ≤ 1024)
    (offx : Fin 2 → ℕ) (hx : ∀ a, offx a + S256x512.size a ≤ S1024x512.size a)
    (offi : Fin 2 → ℕ) (hii : ∀ a, offi a + S256x1.size a ≤ S1024x1.size a)
    (offp : Fin 2 → ℕ) (hp : ∀ a, offp a + S256x384.size a ≤ S1024x1024.size a)
    (hs : (Rect.unit (s := S1024x1024) offp S256x384.size hp).PackedRows (EltTy.packing .bf16)) : Pg F PUnit :=
  compStep dot_S256x512_S512x384_S256x384_1_0_0_1_n_n shapeCasts_S1x512x384_S512x384 shapeCasts_S256x1_S256x1
    shapeCasts_S256x384_S256x384 broadcasts_S256x1_S256x384 h_S256x512 h_S256x1 h_S1x512x384 h_S256x384
    (v2 d) col hcol offx hx offi hii offp hp
    (View.stores_vmem h_S256x384 ((Memref.isWhole_whole cc0_scratch0).storeExact_slice rfl _ hs) (fun _ => rfl))

def comp512 (d : Dev nD) (col : ℕ) (hcol : col + 384 ≤ 1024)
    (offx : Fin 2 → ℕ) (hx : ∀ a, offx a + S512x512.size a ≤ S1024x512.size a)
    (offi : Fin 2 → ℕ) (hii : ∀ a, offi a + S512x1.size a ≤ S1024x1.size a)
    (offp : Fin 2 → ℕ) (hp : ∀ a, offp a + S512x384.size a ≤ S1024x1024.size a)
    (hs : (Rect.unit (s := S1024x1024) offp S512x384.size hp).PackedRows (EltTy.packing .bf16)) : Pg F PUnit :=
  compStep dot_S512x512_S512x384_S512x384_1_0_0_1_n_n shapeCasts_S1x512x384_S512x384 shapeCasts_S512x1_S512x1
    shapeCasts_S512x384_S512x384 broadcasts_S512x1_S512x384 h_S512x512 h_S512x1 h_S1x512x384 h_S512x384
    (v2 d) col hcol offx hx offi hii offp hp
    (View.stores_vmem h_S512x384 ((Memref.isWhole_whole cc0_scratch0).storeExact_slice rfl _ hs) (fun _ => rfl))

def comp128 (d : Dev nD)
    (offx : Fin 2 → ℕ) (hx : ∀ a, offx a + S128x512.size a ≤ S1024x512.size a)
    (offi : Fin 2 → ℕ) (hii : ∀ a, offi a + S128x1.size a ≤ S1024x1.size a)
    (offp : Fin 2 → ℕ) (hp : ∀ a, offp a + S128x256.size a ≤ S1024x1024.size a)
    (hs : (Rect.unit (s := S1024x1024) offp S128x256.size hp).PackedRows (EltTy.packing .bf16)) : Pg F PUnit :=
  compStep dot_S128x512_S512x256_S128x256_1_0_0_1_n_n shapeCasts_S1x512x256_S512x256 shapeCasts_S128x1_S128x1
    shapeCasts_S128x256_S128x256 broadcasts_S128x1_S128x256 h_S128x512 h_S128x1 h_S1x512x256 h_S128x256
    (v2 d) 768 (by decide) offx hx offi hii offp hp
    (View.stores_vmem h_S128x256 ((Memref.isWhole_whole cc0_scratch0).storeExact_slice rfl _ hs) (fun _ => rfl))

/-! ## The transfers -/

/-- The remote copies of one device, in the order it starts them: `a`, `b`, `c` the reduction's over
    the three column groups, `ga`, `gb`, `gc` the gather's. -/
inductive Tr
  | a0 | b0 | a1 | b1 | c0 | c1 | c2 | c3 | a2 | b2 | b3 | c4 | c5 | a3 | b4 | c6 | ga0 | gb0 | gc0 | ga1 | gb1 | gb2 | gc1 | gc2 | ga2 | gb3 | gb4 | gc3 | gc4 | gc5 | gc6
  deriving DecidableEq

/-- All of them, in the order a device starts them. -/
def Tr.all : List Tr :=
  [.a0, .b0, .a1, .b1, .c0, .c1, .c2, .c3, .a2, .b2, .b3, .c4, .c5, .a3, .b4, .c6, .ga0, .gb0, .gc0, .ga1, .gb1, .gb2, .gc1, .gc2, .ga2, .gb3, .gb4, .gc3, .gc4, .gc5, .gc6]

instance : Fintype Tr := Fintype.ofList Tr.all fun j => by cases j <;> decide

/-- A remote copy's two ends: a rectangle of a 1024×1024 buffer, and where it lands. -/
structure Ends where
  {ts : Fin 2 → ℕ}
  sm : Memref sig .tc .vmem S1024x1024 .bf16
  soff : Fin 2 → ℕ
  inb : ∀ a, soff a + ts a ≤ S1024x1024.size a
  dst : Memref sig .tc .vmem ⟨2, ts⟩ .bf16
  hsrc : (sm.slice (Rect.unit (s := S1024x1024) soff ts inb) (fun _ => rfl)).view.WordExact
  hdst : dst.view.WordExact

/-- The rectangle a copy reads. -/
abbrev Ends.src (E : Ends) : Memref sig .tc .vmem ⟨2, E.ts⟩ .bf16 :=
  E.sm.slice (Rect.unit (s := S1024x1024) E.soff E.ts E.inb) (fun _ => rfl)

/-- Ends that are rectangles of a source and of a destination buffer. -/
def endsR (ts : Fin 2 → ℕ) {sd : Fin 2 → ℕ} (m : Memref sig .tc .vmem S1024x1024 .bf16) (m' : Memref sig .tc .vmem ⟨2, sd⟩ .bf16)
    (hm : m.IsWhole) (hm' : m'.IsWhole)
    (off off' : Fin 2 → ℕ) (inb : ∀ a, off a + ts a ≤ S1024x1024.size a) (inb' : ∀ a, off' a + ts a ≤ sd a)
    (w : (Rect.unit (s := S1024x1024) off ts inb).WholeWords (EltTy.packing .bf16))
    (w' : (Rect.unit (s := ⟨2, sd⟩) off' ts inb').WholeWords (EltTy.packing .bf16)) : Ends where
  ts := ts
  sm := m
  soff := off
  inb := inb
  dst := m'.slice (Rect.unit (s := ⟨2, sd⟩) off' ts inb') (fun _ => rfl)
  hsrc := hm.wordExact_slice rfl _ w
  hdst := hm'.wordExact_slice rfl _ w'

/-- Ends that are a rectangle of a source buffer and a whole destination buffer. -/
def endsW (ts : Fin 2 → ℕ) (m : Memref sig .tc .vmem S1024x1024 .bf16) (m' : Memref sig .tc .vmem ⟨2, ts⟩ .bf16)
    (hm : m.IsWhole) (hm' : m'.IsWhole)
    (off : Fin 2 → ℕ) (inb : ∀ a, off a + ts a ≤ S1024x1024.size a)
    (w : (Rect.unit (s := S1024x1024) off ts inb).WholeWords (EltTy.packing .bf16)) : Ends where
  ts := ts
  sm := m
  soff := off
  inb := inb
  dst := m'
  hsrc := hm.wordExact_slice rfl _ w
  hdst := hm'.wordExact

abbrev isW (b : Ref sig .tc) : (Memref.whole b).IsWhole := Memref.isWhole_whole b

/-- Ends that are the same rectangle of the gathered result, on the two devices. -/
abbrev gEnds (ts : Fin 2 → ℕ) (off : Fin 2 → ℕ) (inb : ∀ a, off a + ts a ≤ S1024x1024.size a)
    (w : (Rect.unit (s := S1024x1024) off ts inb).WholeWords (EltTy.packing .bf16)) : Ends :=
  endsR ts gM gM (isW _) (isW _) off off inb inb w w

/-- The ends of each copy device `d` starts. -/
def ends (d : Dev nD) : Tr → Ends
  | .a0 => endsR S256x384.size pM a0M (isW _) (isW _) (k0_off4 d) ![0, 0] (k0_off4_inb d) inb_S512x384_S256x384_0_0
      (k0_off4_wordsbf16 d) wordsbf16_S512x384_S256x384_0_0
  | .a1 => endsR S256x384.size pM a0M (isW _) (isW _) (k0_off10 d) ![256, 0] (k0_off10_inb d) inb_S512x384_S256x384_256_0
      (k0_off10_wordsbf16 d) wordsbf16_S512x384_S256x384_256_0
  | .b0 => endsR S256x384.size pM b0M (isW _) (isW _) (k0_off6 d) ![0, 0] (k0_off6_inb d) inb_S512x384_S256x384_0_0
      (k0_off6_wordsbf16 d) wordsbf16_S512x384_S256x384_0_0
  | .b1 => endsR S256x384.size pM b0M (isW _) (isW _) (k0_off14 d) ![256, 0] (k0_off14_inb d) inb_S512x384_S256x384_256_0
      (k0_off14_wordsbf16 d) wordsbf16_S512x384_S256x384_256_0
  | .c0 => endsR S128x256.size pM c0M (isW _) (isW _) (k0_off18 d 0#32) ![0, 0] (k0_off18_inb d 0) inb_S512x256_S128x256_0_0
      (k0_off18_wordsbf16 d 0) wordsbf16_S512x256_S128x256_0_0
  | .c1 => endsR S128x256.size pM c0M (isW _) (isW _) (k0_off18 d 2#32) ![128, 0] (k0_off18_inb d 1) inb_S512x256_S128x256_128_0
      (k0_off18_wordsbf16 d 1) wordsbf16_S512x256_S128x256_128_0
  | .c2 => endsR S128x256.size pM c0M (isW _) (isW _) (k0_off18 d 4#32) ![256, 0] (k0_off18_inb d 2) inb_S512x256_S128x256_256_0
      (k0_off18_wordsbf16 d 2) wordsbf16_S512x256_S128x256_256_0
  | .c3 => endsR S128x256.size pM c0M (isW _) (isW _) (k0_off18 d 6#32) ![384, 0] (k0_off18_inb d 3) inb_S512x256_S128x256_384_0
      (k0_off18_wordsbf16 d 3) wordsbf16_S512x256_S128x256_384_0
  | .b2 => endsR S128x384.size pM b1M (isW _) (isW _) (k0_off40 d) ![0, 0] (k0_off40_inb d) inb_S256x384_S128x384_0_0
      (k0_off40_wordsbf16 d) wordsbf16_S256x384_S128x384_0_0
  | .b3 => endsR S128x384.size pM b1M (isW _) (isW _) (k0_off41 d) ![128, 0] (k0_off41_inb d) inb_S256x384_S128x384_128_0
      (k0_off41_wordsbf16 d) wordsbf16_S256x384_S128x384_128_0
  | .c4 => endsR S128x256.size pM c1M (isW _) (isW _) (k0_off48 d 0#32) ![0, 0] (k0_off48_inb d 0) inb_S256x256_S128x256_0_0
      (k0_off48_wordsbf16 d 0) wordsbf16_S256x256_S128x256_0_0
  | .c5 => endsR S128x256.size pM c1M (isW _) (isW _) (k0_off48 d 1#32) ![128, 0] (k0_off48_inb d 1) inb_S256x256_S128x256_128_0
      (k0_off48_wordsbf16 d 1) wordsbf16_S256x256_S128x256_128_0
  | .a2 => endsW S256x384.size pM a1M (isW _) (isW _) (k0_off33 d) (k0_off33_inb d) (k0_off33_wordsbf16 d)
  | .a3 => endsW S128x384.size pM a2M (isW _) (isW _) (k0_off54 d) (k0_off54_inb d) (k0_off54_wordsbf16 d)
  | .b4 => endsW S128x384.size pM b2M (isW _) (isW _) (k0_off59 d) (k0_off59_inb d) (k0_off59_wordsbf16 d)
  | .c6 => endsW S128x256.size pM c2M (isW _) (isW _) (k0_off64 d) (k0_off64_inb d) (k0_off64_wordsbf16 d)
  | .ga0 => gEnds S128x384.size (k0_off67 d) (k0_off67_inb d) (k0_off67_wordsbf16 d)
  | .gb0 => gEnds S128x384.size (k0_off68 d) (k0_off68_inb d) (k0_off68_wordsbf16 d)
  | .gc0 => gEnds S128x256.size (k0_off69 d) (k0_off69_inb d) (k0_off69_wordsbf16 d)
  | .ga1 => gEnds S256x384.size (k0_off73 d) (k0_off73_inb d) (k0_off73_wordsbf16 d)
  | .gb1 => gEnds S128x384.size (k0_off68 d) (k0_off68_inb d) (k0_off68_wordsbf16 d)
  | .gb2 => gEnds S128x384.size (k0_off71 d 4#32) (k0_off71_inb d 1) (k0_off71_wordsbf16 d 1)
  | .gc1 => gEnds S128x256.size (k0_off69 d) (k0_off69_inb d) (k0_off69_wordsbf16 d)
  | .gc2 => gEnds S128x256.size (k0_off72 d 2#32) (k0_off72_inb d 1) (k0_off72_wordsbf16 d 1)
  | .ga2 => gEnds S512x384.size (k0_off80 d) (k0_off80_inb d) (k0_off80_wordsbf16 d)
  | .gb3 => gEnds S256x384.size (k0_off81 d) (k0_off81_inb d) (k0_off81_wordsbf16 d)
  | .gb4 => gEnds S256x384.size (k0_off82 d 4#32) (k0_off82_inb d 1) (k0_off82_wordsbf16 d 1)
  | .gc3 => gEnds S128x256.size (k0_off69 d) (k0_off69_inb d) (k0_off69_wordsbf16 d)
  | .gc4 => gEnds S128x256.size (k0_off72 d 2#32) (k0_off72_inb d 1) (k0_off72_wordsbf16 d 1)
  | .gc5 => gEnds S128x256.size (k0_off72 d 4#32) (k0_off72_inb d 3) (k0_off72_wordsbf16 d 3)
  | .gc6 => gEnds S128x256.size (k0_off72 d 6#32) (k0_off72_inb d 5) (k0_off72_wordsbf16 d 5)

/-- The device each copy goes to. -/
def peer (d : Dev nD) : Tr → Dev nD
  | .a0 => ⟨k0_dev4 d, k0_dev4_lt d⟩
  | .b0 => ⟨k0_dev5 d, k0_dev5_lt d⟩
  | .a1 => ⟨k0_dev6 d, k0_dev6_lt d⟩
  | .b1 => ⟨k0_dev7 d, k0_dev7_lt d⟩
  | .c0 => ⟨k0_dev8 d, k0_dev8_lt d⟩
  | .c1 => ⟨k0_dev9 d, k0_dev9_lt d⟩
  | .c2 => ⟨k0_dev10 d, k0_dev10_lt d⟩
  | .c3 => ⟨k0_dev11 d, k0_dev11_lt d⟩
  | .a2 => ⟨k0_dev12 d, k0_dev12_lt d⟩
  | .b2 => ⟨k0_dev13 d, k0_dev13_lt d⟩
  | .b3 => ⟨k0_dev14 d, k0_dev14_lt d⟩
  | .c4 => ⟨k0_dev15 d, k0_dev15_lt d⟩
  | .c5 => ⟨k0_dev16 d, k0_dev16_lt d⟩
  | .a3 => ⟨k0_dev17 d, k0_dev17_lt d⟩
  | .b4 => ⟨k0_dev18 d, k0_dev18_lt d⟩
  | .c6 => ⟨k0_dev19 d, k0_dev19_lt d⟩
  | .ga0 => ⟨k0_dev20 d, k0_dev20_lt d⟩
  | .gb0 => ⟨k0_dev21 d, k0_dev21_lt d⟩
  | .gc0 => ⟨k0_dev22 d, k0_dev22_lt d⟩
  | .ga1 => ⟨k0_dev23 d, k0_dev23_lt d⟩
  | .gb1 => ⟨k0_dev24 d, k0_dev24_lt d⟩
  | .gb2 => ⟨k0_dev25 d, k0_dev25_lt d⟩
  | .gc1 => ⟨k0_dev26 d, k0_dev26_lt d⟩
  | .gc2 => ⟨k0_dev27 d, k0_dev27_lt d⟩
  | .ga2 => ⟨k0_dev28 d, k0_dev28_lt d⟩
  | .gb3 => ⟨k0_dev29 d, k0_dev29_lt d⟩
  | .gb4 => ⟨k0_dev30 d, k0_dev30_lt d⟩
  | .gc3 => ⟨k0_dev31 d, k0_dev31_lt d⟩
  | .gc4 => ⟨k0_dev32 d, k0_dev32_lt d⟩
  | .gc5 => ⟨k0_dev33 d, k0_dev33_lt d⟩
  | .gc6 => ⟨k0_dev34 d, k0_dev34_lt d⟩

/-- The DMA semaphore number `k` of the array `a`. -/
abbrev semAt {s : Shape} (a : DmaSems sig s) (off : Fin s.rank → ℕ) (ts : Fin s.rank → ℕ) (inb : ∀ x, off x + ts x ≤ s.size x)
    (h : (⟨s.rank, ts⟩ : Shape).Squeezes S_) : DmaSem sig :=
  ((a.slice (Rect.unit (s := s) off ts inb)).squeeze S_ h).sem

/-- The semaphore that says a copy's source was read. -/
def ssem : Tr → DmaSem sig
  | .a0 => semAt cc0_scratch13 ![0] S1.size inb_S4_S1_0 squeezes_S1_S_
  | .b0 => semAt cc0_scratch15 ![0] S1.size inb_S5_S1_0 squeezes_S1_S_
  | .a1 => semAt cc0_scratch13 ![1] S1.size inb_S4_S1_1 squeezes_S1_S_
  | .b1 => semAt cc0_scratch15 ![1] S1.size inb_S5_S1_1 squeezes_S1_S_
  | .c0 => semAt cc0_scratch17 ![0] S1.size inb_S7_S1_0 squeezes_S1_S_
  | .c1 => semAt cc0_scratch17 ![1] S1.size inb_S7_S1_1 squeezes_S1_S_
  | .c2 => semAt cc0_scratch17 ![2] S1.size inb_S7_S1_2 squeezes_S1_S_
  | .c3 => semAt cc0_scratch17 ![3] S1.size inb_S7_S1_3 squeezes_S1_S_
  | .a2 => semAt cc0_scratch13 ![2] S1.size inb_S4_S1_2 squeezes_S1_S_
  | .b2 => semAt cc0_scratch15 ![2] S1.size inb_S5_S1_2 squeezes_S1_S_
  | .b3 => semAt cc0_scratch15 ![3] S1.size inb_S5_S1_3 squeezes_S1_S_
  | .c4 => semAt cc0_scratch17 ![4] S1.size inb_S7_S1_4 squeezes_S1_S_
  | .c5 => semAt cc0_scratch17 ![5] S1.size inb_S7_S1_5 squeezes_S1_S_
  | .a3 => semAt cc0_scratch13 ![3] S1.size inb_S4_S1_3 squeezes_S1_S_
  | .b4 => semAt cc0_scratch15 ![4] S1.size inb_S5_S1_4 squeezes_S1_S_
  | .c6 => semAt cc0_scratch17 ![6] S1.size inb_S7_S1_6 squeezes_S1_S_
  | .ga0 => semAt cc0_scratch19 ![0] S1.size inb_S3_S1_0 squeezes_S1_S_
  | .gb0 => semAt cc0_scratch21 ![0] S1.size inb_S5_S1_0 squeezes_S1_S_
  | .gc0 => semAt cc0_scratch23 ![0] S1.size inb_S7_S1_0 squeezes_S1_S_
  | .ga1 => semAt cc0_scratch19 ![1] S1.size inb_S3_S1_1 squeezes_S1_S_
  | .gb1 => semAt cc0_scratch21 ![1] S1.size inb_S5_S1_1 squeezes_S1_S_
  | .gb2 => semAt cc0_scratch21 ![2] S1.size inb_S5_S1_2 squeezes_S1_S_
  | .gc1 => semAt cc0_scratch23 ![1] S1.size inb_S7_S1_1 squeezes_S1_S_
  | .gc2 => semAt cc0_scratch23 ![2] S1.size inb_S7_S1_2 squeezes_S1_S_
  | .ga2 => semAt cc0_scratch19 ![2] S1.size inb_S3_S1_2 squeezes_S1_S_
  | .gb3 => semAt cc0_scratch21 ![3] S1.size inb_S5_S1_3 squeezes_S1_S_
  | .gb4 => semAt cc0_scratch21 ![4] S1.size inb_S5_S1_4 squeezes_S1_S_
  | .gc3 => semAt cc0_scratch23 ![3] S1.size inb_S7_S1_3 squeezes_S1_S_
  | .gc4 => semAt cc0_scratch23 ![4] S1.size inb_S7_S1_4 squeezes_S1_S_
  | .gc5 => semAt cc0_scratch23 ![5] S1.size inb_S7_S1_5 squeezes_S1_S_
  | .gc6 => semAt cc0_scratch23 ![6] S1.size inb_S7_S1_6 squeezes_S1_S_

/-- The semaphore that says a copy landed. -/
def rsem : Tr → DmaSem sig
  | .a0 => semAt cc0_scratch14 ![0] S1.size inb_S4_S1_0 squeezes_S1_S_
  | .b0 => semAt cc0_scratch16 ![0] S1.size inb_S5_S1_0 squeezes_S1_S_
  | .a1 => semAt cc0_scratch14 ![1] S1.size inb_S4_S1_1 squeezes_S1_S_
  | .b1 => semAt cc0_scratch16 ![1] S1.size inb_S5_S1_1 squeezes_S1_S_
  | .c0 => semAt cc0_scratch18 ![0] S1.size inb_S7_S1_0 squeezes_S1_S_
  | .c1 => semAt cc0_scratch18 ![1] S1.size inb_S7_S1_1 squeezes_S1_S_
  | .c2 => semAt cc0_scratch18 ![2] S1.size inb_S7_S1_2 squeezes_S1_S_
  | .c3 => semAt cc0_scratch18 ![3] S1.size inb_S7_S1_3 squeezes_S1_S_
  | .a2 => semAt cc0_scratch14 ![2] S1.size inb_S4_S1_2 squeezes_S1_S_
  | .b2 => semAt cc0_scratch16 ![2] S1.size inb_S5_S1_2 squeezes_S1_S_
  | .b3 => semAt cc0_scratch16 ![3] S1.size inb_S5_S1_3 squeezes_S1_S_
  | .c4 => semAt cc0_scratch18 ![4] S1.size inb_S7_S1_4 squeezes_S1_S_
  | .c5 => semAt cc0_scratch18 ![5] S1.size inb_S7_S1_5 squeezes_S1_S_
  | .a3 => semAt cc0_scratch14 ![3] S1.size inb_S4_S1_3 squeezes_S1_S_
  | .b4 => semAt cc0_scratch16 ![4] S1.size inb_S5_S1_4 squeezes_S1_S_
  | .c6 => semAt cc0_scratch18 ![6] S1.size inb_S7_S1_6 squeezes_S1_S_
  | .ga0 => semAt cc0_scratch20 ![0] S1.size inb_S3_S1_0 squeezes_S1_S_
  | .gb0 => semAt cc0_scratch22 ![0] S1.size inb_S5_S1_0 squeezes_S1_S_
  | .gc0 => semAt cc0_scratch24 ![0] S1.size inb_S7_S1_0 squeezes_S1_S_
  | .ga1 => semAt cc0_scratch20 ![1] S1.size inb_S3_S1_1 squeezes_S1_S_
  | .gb1 => semAt cc0_scratch22 ![1] S1.size inb_S5_S1_1 squeezes_S1_S_
  | .gb2 => semAt cc0_scratch22 ![2] S1.size inb_S5_S1_2 squeezes_S1_S_
  | .gc1 => semAt cc0_scratch24 ![1] S1.size inb_S7_S1_1 squeezes_S1_S_
  | .gc2 => semAt cc0_scratch24 ![2] S1.size inb_S7_S1_2 squeezes_S1_S_
  | .ga2 => semAt cc0_scratch20 ![2] S1.size inb_S3_S1_2 squeezes_S1_S_
  | .gb3 => semAt cc0_scratch22 ![3] S1.size inb_S5_S1_3 squeezes_S1_S_
  | .gb4 => semAt cc0_scratch22 ![4] S1.size inb_S5_S1_4 squeezes_S1_S_
  | .gc3 => semAt cc0_scratch24 ![3] S1.size inb_S7_S1_3 squeezes_S1_S_
  | .gc4 => semAt cc0_scratch24 ![4] S1.size inb_S7_S1_4 squeezes_S1_S_
  | .gc5 => semAt cc0_scratch24 ![5] S1.size inb_S7_S1_5 squeezes_S1_S_
  | .gc6 => semAt cc0_scratch24 ![6] S1.size inb_S7_S1_6 squeezes_S1_S_

/-- Start the copy `j`, to device `p`. -/
def sendTo (d : Dev nD) (j : Tr) (p : Dev nD) : Pg F PUnit :=
  Prog.lift (.enqueueDma (ends d j).src (.remote (Dev.tc p) (ends d j).dst (.dma (ssem j))) (.dma (rsem j))
    (ends d j).hsrc (ends d j).hdst ⟨⟨rfl, Or.inl rfl⟩, trivial⟩)

/-- Start the copy `j`. -/
def sendT (d : Dev nD) (j : Tr) : Pg F PUnit := sendTo d j (peer d j)

/-- Wait on `sm` for as much as a copy into `m` adds. -/
def waitM (sm : DmaSem sig) {s : Shape} (m : Memref sig .tc .vmem s .bf16) (h : m.view.WordExact) : Pg F PUnit :=
  Prog.lift (.waitDma2 sm m m h h)

/-- The same, the memref a rectangle of `m`. -/
def waitR (sm : DmaSem sig) (ts : Fin 2 → ℕ) {ss : Fin 2 → ℕ} (m : Memref sig .tc .vmem ⟨2, ss⟩ .bf16) (hm : m.IsWhole)
    (off : Fin 2 → ℕ) (inb : ∀ a, off a + ts a ≤ ss a)
    (w : (Rect.unit (s := ⟨2, ss⟩) off ts inb).WholeWords (EltTy.packing .bf16)) : Pg F PUnit :=
  waitM sm (m.slice (Rect.unit (s := ⟨2, ss⟩) off ts inb) (fun _ => rfl)) (hm.wordExact_slice rfl _ w)

/-- Wait for the copy `j` to land where a copy `j` of `d`'s own would land. -/
def recvD (d : Dev nD) (j : Tr) : Pg F PUnit := waitM (rsem j) (ends d j).dst (ends d j).hdst

/-- Wait for the copy `j` to land in a rectangle of the gathered result. -/
def recvG (j : Tr) (ts off : Fin 2 → ℕ) (inb : ∀ a, off a + ts a ≤ S1024x1024.size a)
    (w : (Rect.unit (s := S1024x1024) off ts inb).WholeWords (EltTy.packing .bf16)) : Pg F PUnit :=
  waitR (rsem j) ts gM (isW _) off inb w

/-- Wait for the source of the copy `j` to have been read, the wait naming `m`. -/
def sentM (j : Tr) {s : Shape} (m : Memref sig .tc .vmem s .bf16) (h : m.view.WordExact) : Pg F PUnit := waitM (ssem j) m h

/-! ## Adding a received block, casting a gathered one -/

/-- Add the block of `m` at `offr` into the partial sums at `offp`. -/
def addStep {R W : ℕ} (ho : (⟨2, ![R, W]⟩ : Shape).ShapeCasts ⟨2, ![R, W]⟩) (hRW : 0 < (⟨2, ![R, W]⟩ : Shape).numel)
    {sr : Fin 2 → ℕ} (m : Memref sig .tc .vmem ⟨2, sr⟩ .bf16)
    (offp : Fin 2 → ℕ) (hp : ∀ a, offp a + (![R, W] : Fin 2 → ℕ) a ≤ S1024x1024.size a)
    (hs : (Rect.unit (s := S1024x1024) offp ![R, W] hp).PackedRows (EltTy.packing .bf16))
    (offr : Fin 2 → ℕ) (hr : ∀ a, offr a + (![R, W] : Fin 2 → ℕ) a ≤ sr a) : Pg F PUnit := do
  let p ← ld pM offp ![R, W] hp hRW
  let r ← ld m offr ![R, W] hr hRW
  st pM offp ![R, W] hp hRW (View.stores_vmem hRW ((Memref.isWhole_whole cc0_scratch0).storeExact_slice rfl _ hs) (fun _ => rfl))
    (shapeCast ⟨2, ![R, W]⟩ (addf p r : FVec F ⟨2, ![R, W]⟩ .bf16) ho)

abbrev add256A {sr : Fin 2 → ℕ} (m : Memref sig .tc .vmem ⟨2, sr⟩ .bf16)
    (offp : Fin 2 → ℕ) (hp : ∀ a, offp a + S256x384.size a ≤ S1024x1024.size a)
    (hs : (Rect.unit (s := S1024x1024) offp S256x384.size hp).PackedRows (EltTy.packing .bf16))
    (offr : Fin 2 → ℕ) (hr : ∀ a, offr a + S256x384.size a ≤ sr a) : Pg F PUnit :=
  addStep shapeCasts_S256x384_S256x384 h_S256x384 m offp hp hs offr hr
abbrev add128A {sr : Fin 2 → ℕ} (m : Memref sig .tc .vmem ⟨2, sr⟩ .bf16)
    (offp : Fin 2 → ℕ) (hp : ∀ a, offp a + S128x384.size a ≤ S1024x1024.size a)
    (hs : (Rect.unit (s := S1024x1024) offp S128x384.size hp).PackedRows (EltTy.packing .bf16))
    (offr : Fin 2 → ℕ) (hr : ∀ a, offr a + S128x384.size a ≤ sr a) : Pg F PUnit :=
  addStep shapeCasts_S128x384_S128x384 h_S128x384 m offp hp hs offr hr
abbrev add128C {sr : Fin 2 → ℕ} (m : Memref sig .tc .vmem ⟨2, sr⟩ .bf16)
    (offp : Fin 2 → ℕ) (hp : ∀ a, offp a + S128x256.size a ≤ S1024x1024.size a)
    (hs : (Rect.unit (s := S1024x1024) offp S128x256.size hp).PackedRows (EltTy.packing .bf16))
    (offr : Fin 2 → ℕ) (hr : ∀ a, offr a + S128x256.size a ≤ sr a) : Pg F PUnit :=
  addStep shapeCasts_S128x256_S128x256 h_S128x256 m offp hp hs offr hr

/-- Cast the gathered block at `off` into the output. -/
def castOut (ts : Fin 2 → ℕ) (h : 0 < (⟨2, ts⟩ : Shape).numel) (off : Fin 2 → ℕ) (hp : ∀ a, off a + ts a ≤ S1024x1024.size a) : Pg F PUnit := do
  let g ← ld gM off ts hp h
  st oM off ts hp h (View.stores_vmem_bits_univ h rfl) (extf .f32 (g : FVec F ⟨2, ts⟩ .bf16) bitsLt_bf16_f32 : FVec F ⟨2, ts⟩ .f32)

/-! ## The body, in phases -/

/-- Round the tokens for the matrix unit, find each token's routed probability, and tell the three
    neighbours that this device is ready. -/
def phPro (d : Dev nD) : Pg F PUnit := do
  let x ← ld xM ![0, 0] S1024x512.size inb_S1024x512_S1024x512_0_0 h_S1024x512
  st hM ![0, 0] S1024x512.size inb_S1024x512_S1024x512_0_0 h_S1024x512
    (View.stores_vmem h_S1024x512 ((isW _).storeExact_slice rfl _ packedbf16_S1024x512_S1024x512_0_0) (fun _ => rfl)) (k0_pay2 x)
  let w ← ld rwM ![0, 0] S512x32.size inb_S512x32_S512x32_0_0 h_S512x32
  let ix ← ld ixM ![0, 0] S1024x1.size inb_S1024x1_S1024x1_0_0 h_S1024x1
  st gtM ![0, 0] S1024x1.size inb_S1024x1_S1024x1_0_0 h_S1024x1 (View.stores_vmem_bits_univ h_S1024x1 rfl)
    (k0_pay4 (k0_pay3 x w) ix)

/-- The barrier semaphore. -/
abbrev barS : Sem sig := (SemArray.scalar (sig.barrier 0 rfl) : SemArray (Sem sig) S_).sem

/-- The hand-shake with the three neighbours. -/
def phBar (d : Dev nD) : Pg F PUnit := chain [
  semSignalWord (⟨k0_dev1 d, k0_dev1_lt d⟩ : Dev nD) barS 1#32,
  semSignalWord (⟨k0_dev2 d, k0_dev2_lt d⟩ : Dev nD) barS 1#32,
  semSignalWord (⟨k0_dev3 d, k0_dev3_lt d⟩ : Dev nD) barS 1#32,
  semWaitWord barS 3#32]

/-- The blocks other devices will finish, each sent as soon as it is computed. -/
def phSend (d : Dev nD) : Pg F PUnit := chain [
  comp256 d 0 (by decide) (k0_off1 d 2#32 4#32) (k0_off1_inb d 0) (k0_off2 d 2#32 4#32) (k0_off2_inb d 0) (k0_off3 d) (k0_off3_inb d) (k0_off3_packedbf16 d),
  sendT d .a0,
  comp256 d 384 (by decide) (k0_off1 d 1#32 2#32) (k0_off1_inb d 1) (k0_off2 d 1#32 2#32) (k0_off2_inb d 1) (k0_off5 d) (k0_off5_inb d) (k0_off5_packedbf16 d),
  sendT d .b0,
  comp256 d 0 (by decide) (k0_off7 d) (k0_off7_inb d) (k0_off8 d) (k0_off8_inb d) (k0_off9 d) (k0_off9_inb d) (k0_off9_packedbf16 d),
  sendT d .a1,
  comp256 d 384 (by decide) (k0_off11 d) (k0_off11_inb d) (k0_off12 d) (k0_off12_inb d) (k0_off13 d) (k0_off13_inb d) (k0_off13_packedbf16 d),
  sendT d .b1,
  comp128 d (k0_off15 d 0#32) (k0_off15_inb d 0) (k0_off16 d 0#32) (k0_off16_inb d 0) (k0_off17 d 0#32) (k0_off17_inb d 0) (k0_off17_packedbf16 d 0),
  sendT d .c0,
  comp128 d (k0_off15 d 2#32) (k0_off15_inb d 1) (k0_off16 d 2#32) (k0_off16_inb d 1) (k0_off17 d 2#32) (k0_off17_inb d 1) (k0_off17_packedbf16 d 1),
  sendT d .c1,
  comp128 d (k0_off15 d 4#32) (k0_off15_inb d 2) (k0_off16 d 4#32) (k0_off16_inb d 2) (k0_off17 d 4#32) (k0_off17_inb d 2) (k0_off17_packedbf16 d 2),
  sendT d .c2,
  comp128 d (k0_off15 d 6#32) (k0_off15_inb d 3) (k0_off16 d 6#32) (k0_off16_inb d 3) (k0_off17 d 6#32) (k0_off17_inb d 3) (k0_off17_packedbf16 d 3),
  sendT d .c3]

/-- The blocks this device keeps for the next stage. -/
def phKeep (d : Dev nD) : Pg F PUnit := chain [
  comp512 d 0 (by decide) (k0_off19 d) (k0_off19_inb d) (k0_off20 d) (k0_off20_inb d) (k0_off21 d) (k0_off21_inb d) (k0_off21_packedbf16 d),
  comp256 d 384 (by decide) (k0_off22 d) (k0_off22_inb d) (k0_off23 d) (k0_off23_inb d) (k0_off24 d) (k0_off24_inb d) (k0_off24_packedbf16 d),
  comp256 d 384 (by decide) (k0_off25 d) (k0_off25_inb d) (k0_off26 d) (k0_off26_inb d) (k0_off27 d) (k0_off27_inb d) (k0_off27_packedbf16 d),
  comp128 d (k0_off28 d 0#32) (k0_off28_inb d 0) (k0_off29 d 0#32) (k0_off29_inb d 0) (k0_off30 d 0#32) (k0_off30_inb d 0) (k0_off30_packedbf16 d 0),
  comp128 d (k0_off28 d 2#32) (k0_off28_inb d 1) (k0_off29 d 2#32) (k0_off29_inb d 1) (k0_off30 d 2#32) (k0_off30_inb d 1) (k0_off30_packedbf16 d 1),
  comp128 d (k0_off28 d 4#32) (k0_off28_inb d 2) (k0_off29 d 4#32) (k0_off29_inb d 2) (k0_off30 d 4#32) (k0_off30_inb d 2) (k0_off30_packedbf16 d 2),
  comp128 d (k0_off28 d 6#32) (k0_off28_inb d 3) (k0_off29 d 6#32) (k0_off29_inb d 3) (k0_off30 d 6#32) (k0_off30_inb d 3) (k0_off30_packedbf16 d 3)]

/-- Column group A, first stage: add what arrived, send half on. -/
def phA1 (d : Dev nD) : Pg F PUnit := chain [
  recvD d .a0,
  recvD d .a1,
  add256A a0M (k0_off31 d) (k0_off31_inb d) (k0_off31_packedbf16 d) (k0_off32 d) (k0_off32_inb d),
  sendT d .a2,
  add256A a0M (k0_off34 d) (k0_off34_inb d) (k0_off34_packedbf16 d) (k0_off35 d) (k0_off35_inb d)]

/-- Column group B, first stage. -/
def phB1 (d : Dev nD) : Pg F PUnit := chain [
  recvD d .b0,
  recvD d .b1,
  add128A b0M (k0_off36 d) (k0_off36_inb d) (k0_off36_packedbf16 d) (k0_off37 d) (k0_off37_inb d),
  add128A b0M (k0_off38 d) (k0_off38_inb d) (k0_off38_packedbf16 d) (k0_off39 d) (k0_off39_inb d),
  sendT d .b2,
  sendT d .b3,
  add128A b0M (k0_off42 d) (k0_off42_inb d) (k0_off42_packedbf16 d) (k0_off43 d) (k0_off43_inb d),
  add128A b0M (k0_off44 d) (k0_off44_inb d) (k0_off44_packedbf16 d) (k0_off45 d) (k0_off45_inb d)]

/-- Column group C, first stage. -/
def phC1 (d : Dev nD) : Pg F PUnit := chain [
  recvD d .c0,
  recvD d .c1,
  recvD d .c2,
  recvD d .c3,
  add128C c0M (k0_off46 d 0#32) (k0_off46_inb d 0) (k0_off46_packedbf16 d 0) (k0_off47 d 0#32) (k0_off47_inb d 0),
  sendT d .c4,
  add128C c0M (k0_off46 d 1#32) (k0_off46_inb d 1) (k0_off46_packedbf16 d 1) (k0_off47 d 1#32) (k0_off47_inb d 1),
  sendT d .c5,
  add128C c0M (k0_off49 d 0#32) (k0_off49_inb d 0) (k0_off49_packedbf16 d 0) (k0_off50 d 0#32) (k0_off50_inb d 0),
  add128C c0M (k0_off49 d 1#32) (k0_off49_inb d 1) (k0_off49_packedbf16 d 1) (k0_off50 d 1#32) (k0_off50_inb d 1)]

/-- The shared expert's values on this device's own rows. -/
def phShared (d : Dev nD) : Pg F (FVec F S128x1024 .f32) := do
  let x ← ld xM (k0_off51 d) S128x512.size (k0_off51_inb d) h_S128x512
  let w ← ld swM ![0, 0] S512x1024.size inb_S512x1024_S512x1024_0_0 h_S512x1024
  pure (k0_pay88 x w)

/-- Column group A, second stage. -/
def phA2 (d : Dev nD) : Pg F PUnit := chain [
  recvD d .a2,
  add128A a1M (k0_off52 d) (k0_off52_inb d) (k0_off52_packedbf16 d) (k0_off53 d) (k0_off53_inb d),
  sendT d .a3,
  add128A a1M (k0_off55 d) (k0_off55_inb d) (k0_off55_packedbf16 d) (k0_off56 d) (k0_off56_inb d)]

/-- Column group B, second stage. -/
def phB2 (d : Dev nD) : Pg F PUnit := chain [
  recvD d .b2,
  recvD d .b3,
  add128A b1M (k0_off57 d) (k0_off57_inb d) (k0_off57_packedbf16 d) (k0_off58 d) (k0_off58_inb d),
  sendT d .b4,
  add128A b1M (k0_off60 d) (k0_off60_inb d) (k0_off60_packedbf16 d) (k0_off61 d) (k0_off61_inb d)]

/-- Column group C, second stage. -/
def phC2 (d : Dev nD) : Pg F PUnit := chain [
  recvD d .c4,
  recvD d .c5,
  add128C c1M (k0_off62 d) (k0_off62_inb d) (k0_off62_packedbf16 d) (k0_off63 d) (k0_off63_inb d),
  sendT d .c6,
  add128C c1M (k0_off65 d) (k0_off65_inb d) (k0_off65_packedbf16 d) (k0_off66 d) (k0_off66_inb d)]

/-- The last arrivals of the reduction, and this device's own rows finished: put in the gathered result,
    sent to the three neighbours, and written out. -/
def phOwn (d : Dev nD) (sh : FVec F S128x1024 .f32) : Pg F PUnit := do
  recvD d .a3
  recvD d .b4
  recvD d .c6
  let pa ← ld pM (k0_off55 d) S128x384.size (k0_off55_inb d) h_S128x384
  let ra ← ld a2M ![0, 0] S128x384.size inb_S128x384_S128x384_0_0 h_S128x384
  let pb ← ld pM (k0_off60 d) S128x384.size (k0_off60_inb d) h_S128x384
  let rb ← ld b2M ![0, 0] S128x384.size inb_S128x384_S128x384_0_0 h_S128x384
  let pc ← ld pM (k0_off65 d) S128x256.size (k0_off65_inb d) h_S128x256
  let rc ← ld c2M ![0, 0] S128x256.size inb_S128x256_S128x256_0_0 h_S128x256
  st gM (k0_off55 d) S128x384.size (k0_off55_inb d) h_S128x384
    (View.stores_vmem h_S128x384 ((isW _).storeExact_slice rfl _ (k0_off55_packedbf16 d)) (fun _ => rfl)) (k0_pay99 sh pa ra)
  st gM (k0_off60 d) S128x384.size (k0_off60_inb d) h_S128x384
    (View.stores_vmem h_S128x384 ((isW _).storeExact_slice rfl _ (k0_off60_packedbf16 d)) (fun _ => rfl)) (k0_pay100 sh pb rb)
  st gM (k0_off65 d) S128x256.size (k0_off65_inb d) h_S128x256
    (View.stores_vmem h_S128x256 ((isW _).storeExact_slice rfl _ (k0_off65_packedbf16 d)) (fun _ => rfl)) (k0_pay101 (k0_pay98 sh pc rc))
  sendT d .ga0
  sendT d .gb0
  sendT d .gc0
  st oM (k0_off55 d) S128x384.size (k0_off55_inb d) h_S128x384 (View.stores_vmem_bits_univ h_S128x384 rfl) (k0_pay96 sh pa ra)
  st oM (k0_off60 d) S128x384.size (k0_off60_inb d) h_S128x384 (View.stores_vmem_bits_univ h_S128x384 rfl) (k0_pay97 sh pb rb)
  st oM (k0_off65 d) S128x256.size (k0_off65_inb d) h_S128x256 (View.stores_vmem_bits_univ h_S128x256 rfl) (k0_pay98 sh pc rc)

/-- The gather, first stage: what arrived is sent on and written out. -/
def phG1 (d : Dev nD) : Pg F PUnit := chain [
  recvG .ga0 S128x384.size (k0_off70 d) (k0_off70_inb d) (k0_off70_wordsbf16 d),
  recvG .gb0 S128x384.size (k0_off71 d 4#32) (k0_off71_inb d 1) (k0_off71_wordsbf16 d 1),
  recvG .gc0 S128x256.size (k0_off72 d 2#32) (k0_off72_inb d 1) (k0_off72_wordsbf16 d 1),
  sendT d .ga1,
  sendT d .gb1,
  sendT d .gb2,
  sendT d .gc1,
  sendT d .gc2,
  castOut S128x384.size h_S128x384 (k0_off74 d) (k0_off74_inb d),
  castOut S128x384.size h_S128x384 (k0_off75 d 4#32) (k0_off75_inb d 1),
  castOut S128x256.size h_S128x256 (k0_off76 d 2#32) (k0_off76_inb d 1)]

/-- The gather, second stage. -/
def phG2 (d : Dev nD) : Pg F PUnit := chain [
  recvG .ga1 S256x384.size (k0_off77 d) (k0_off77_inb d) (k0_off77_wordsbf16 d),
  recvG .gb1 S128x384.size (k0_off71 d 1#32) (k0_off71_inb d 0) (k0_off71_wordsbf16 d 0),
  recvG .gb2 S128x384.size (k0_off78 d) (k0_off78_inb d) (k0_off78_wordsbf16 d),
  recvG .gc1 S128x256.size (k0_off72 d 4#32) (k0_off72_inb d 3) (k0_off72_wordsbf16 d 3),
  recvG .gc2 S128x256.size (k0_off79 d) (k0_off79_inb d) (k0_off79_wordsbf16 d),
  sendT d .ga2,
  sendT d .gb3,
  sendT d .gb4,
  sendT d .gc3,
  sendT d .gc4,
  sendT d .gc5,
  sendT d .gc6,
  castOut S256x384.size h_S256x384 (k0_off83 d) (k0_off83_inb d),
  castOut S128x384.size h_S128x384 (k0_off75 d 1#32) (k0_off75_inb d 0),
  castOut S128x384.size h_S128x384 (k0_off84 d) (k0_off84_inb d),
  castOut S128x256.size h_S128x256 (k0_off76 d 4#32) (k0_off76_inb d 3),
  castOut S128x256.size h_S128x256 (k0_off76 d 6#32) (k0_off76_inb d 5)]

/-- The gather, last stage. -/
def phG3 (d : Dev nD) : Pg F PUnit := chain [
  recvG .gc3 S128x256.size (k0_off72 d 1#32) (k0_off72_inb d 0) (k0_off72_wordsbf16 d 0),
  castOut S128x256.size h_S128x256 (k0_off76 d 1#32) (k0_off76_inb d 0),
  recvG .gc4 S128x256.size (k0_off72 d 3#32) (k0_off72_inb d 2) (k0_off72_wordsbf16 d 2),
  castOut S128x256.size h_S128x256 (k0_off76 d 3#32) (k0_off76_inb d 2),
  recvG .gb3 S256x384.size (k0_off82 d 2#32) (k0_off82_inb d 0) (k0_off82_wordsbf16 d 0),
  castOut S256x384.size h_S256x384 (k0_off85 d) (k0_off85_inb d),
  recvG .gc5 S128x256.size (k0_off72 d 5#32) (k0_off72_inb d 4) (k0_off72_wordsbf16 d 4),
  castOut S128x256.size h_S128x256 (k0_off76 d 5#32) (k0_off76_inb d 4),
  recvG .gb4 S256x384.size (k0_off86 d) (k0_off86_inb d) (k0_off86_wordsbf16 d),
  castOut S256x384.size h_S256x384 (k0_off87 d) (k0_off87_inb d),
  recvG .gc6 S128x256.size (k0_off72 d 7#32) (k0_off72_inb d 6) (k0_off72_wordsbf16 d 6),
  castOut S128x256.size h_S128x256 (k0_off76 d 7#32) (k0_off76_inb d 6),
  recvG .ga2 S512x384.size (k0_off88 d) (k0_off88_inb d) (k0_off88_wordsbf16 d),
  castOut S512x384.size h_S512x384 (k0_off89 d) (k0_off89_inb d)]

/-- Every copy of the reduction has left. -/
def phEnd1 (d : Dev nD) : Pg F PUnit := chain [
  sentM .a0 a1M (isW _).wordExact,
  sentM .a1 a1M (isW _).wordExact,
  sentM .a2 a1M (isW _).wordExact,
  sentM .a3 a2M (isW _).wordExact,
  sentM .b0 (ends d .b0).dst (ends d .b0).hdst,
  sentM .b1 (ends d .b0).dst (ends d .b0).hdst,
  sentM .b2 b2M (isW _).wordExact,
  sentM .b3 b2M (isW _).wordExact,
  sentM .b4 b2M (isW _).wordExact,
  sentM .c0 c2M (isW _).wordExact,
  sentM .c1 c2M (isW _).wordExact,
  sentM .c2 c2M (isW _).wordExact,
  sentM .c3 c2M (isW _).wordExact,
  sentM .c4 c2M (isW _).wordExact,
  sentM .c5 c2M (isW _).wordExact,
  sentM .c6 c2M (isW _).wordExact]

/-- Every copy of the gather has left. -/
def phEnd2 (d : Dev nD) : Pg F PUnit := chain [
  sentM .ga0 (ends d .ga0).src (ends d .ga0).hsrc,
  sentM .ga1 (ends d .ga1).src (ends d .ga1).hsrc,
  sentM .ga2 (ends d .ga2).src (ends d .ga2).hsrc,
  sentM .gb0 (ends d .gb0).src (ends d .gb0).hsrc,
  sentM .gb1 (ends d .gb1).src (ends d .gb1).hsrc,
  sentM .gb2 (ends d .gb1).src (ends d .gb1).hsrc,
  sentM .gb3 (ends d .gb3).src (ends d .gb3).hsrc,
  sentM .gb4 (ends d .gb3).src (ends d .gb3).hsrc,
  sentM .gc0 (ends d .gc0).src (ends d .gc0).hsrc,
  sentM .gc1 (ends d .gc0).src (ends d .gc0).hsrc,
  sentM .gc2 (ends d .gc0).src (ends d .gc0).hsrc,
  sentM .gc3 (ends d .gc0).src (ends d .gc0).hsrc,
  sentM .gc4 (ends d .gc0).src (ends d .gc0).hsrc,
  sentM .gc5 (ends d .gc0).src (ends d .gc0).hsrc,
  sentM .gc6 (ends d .gc0).src (ends d .gc0).hsrc]

/-- The whole body. -/
def body : Pg F PUnit := do
  let d : Dev nD ← Prog.lift .deviceId
  phPro d
  phBar d
  phSend d
  phKeep d
  phA1 d
  phB1 d
  phC1 d
  let sh ← phShared d
  phA2 d
  phB2 d
  phC2 d
  phOwn d sh
  phG1 d
  phG2 d
  phG3 d
  phEnd1 d
  phEnd2 d

end Cert.KernelIdeal.Moe
-- ==== Proof.Own.lean ====
module

public import proofs.«01_k».proof.Proof.Body
public import Idealize.ShloMosaic.Lib.Memref
public import Idealize.ShloMosaic.Lib.Rounds
public import Idealize.ShloMosaic.Lib.Pipeline.Launch
public import Idealize.ShloMosaic.Lib.Pipeline.Kit
public import Idealize.ShloMosaic.Lib.Tactic

@[expose] public section

noncomputable section

/-! # Holding part of a buffer

`own c m q I g` : device `c` holds, at share `q`, the elements of the memref `m` at the indices `I`, and they
read as `g`. The rules here split and join such holdings, load and store through them, and pass between
them and the whole slices a remote copy moves. -/

namespace Cert.KernelIdeal.Moe

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline library's and this protocol's, a cell's duties named by three names. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-- The weakest precondition of a program of device `c`'s core. -/
abbrev wpc {α : Type} (c : Dev nD) (e : Pg F α) (Q : α → sProp 𝕄) : sProp 𝕄 :=
  wp frame (wpE (defs₀ (F := F)) 𝒱₀ (c : Thread nD τ) none) Set.univ e Q

section Own
variable {s : Shape} {e : EltTy}

/-- Device `c` holds `m`'s elements at the indices `I`, reading as `g`. -/
def own (c : Dev nD) (m : Memref sig .tc .vmem s e) (q : PosShare TreeShare) (I : Finset s.Idx) (g : s.Idx → Elt F e) : sProp 𝕄 :=
  iprop(∃ f, ⌜∀ i ∈ I, m.view.read (Elt F) f i = g i⌝ ∗ (m.view.loc (c : Thread nD τ) ↦[m.view.setOn I]{q} f))

instance own_storable (c : Dev nD) (m : Memref sig .tc .vmem s e) (q : PosShare TreeShare) (I : Finset s.Idx) (g : s.Idx → Elt F e) :
    BI.Storable (upEmb : UEmb _ 𝕄) (own c m q I g) := by unfold own; infer_instance

variable (c : Dev nD) (m : Memref sig .tc .vmem s e) {q : PosShare TreeShare} {I J : Finset s.Idx} {g g' : s.Idx → Elt F e}

/-- Only the values at the held indices matter. -/
theorem own_congr (h : ∀ i ∈ I, g i = g' i) : (own c m q I g : sProp 𝕄) ⊢ own c m q I g' := by
  unfold own
  iintro ⟨%f, %hf, H⟩
  iexists f
  isplitr
  · ipureintro; exact fun i hi => (hf i hi).trans (h i hi)
  iexact H

/-- A holding splits along disjoint index sets. -/
theorem own_split (h : Disjoint I J) : (own c m q (I ∪ J) g : sProp 𝕄) ⊢ iprop(own c m q I g ∗ own c m q J g) := by
  unfold own
  iintro ⟨%f, %hf, H⟩
  have hd : Disjoint (m.view.setOn I) (m.view.setOn J) := (Finset.disjoint_map _).mpr h
  rw [show m.view.setOn (I ∪ J) = m.view.setOn I ∪ m.view.setOn J from Finset.map_union _ _]
  ihave H := (pointsTo_union hd).1 $$ H
  icases H with ⟨H1, H2⟩
  isplitl [H1]
  · iexists f; isplitr
    · ipureintro; exact fun i hi => hf i (Finset.mem_union_left _ hi)
    iexact H1
  · iexists f; isplitr
    · ipureintro; exact fun i hi => hf i (Finset.mem_union_right _ hi)
    iexact H2

/-- Two holdings of disjoint index sets, of the same values, join. -/
theorem own_join (h : Disjoint I J) : iprop(own c m q I g ∗ own c m q J g) ⊢ (own c m q (I ∪ J) g : sProp 𝕄) := by
  unfold own
  iintro ⟨⟨%f, %hf, H1⟩, ⟨%f', %hf', H2⟩⟩
  have hd : Disjoint (m.view.setOn I) (m.view.setOn J) := (Finset.disjoint_map _).mpr h
  rw [show m.view.setOn (I ∪ J) = m.view.setOn I ∪ m.view.setOn J from Finset.map_union _ _]
  iexists ((m.view.setOn J).piecewise f' f)
  isplitr
  · ipureintro
    intro i hi
    by_cases hj : i ∈ J
    · rw [View.read_apply, Finset.piecewise_eq_of_mem _ _ _ (m.view.mem_setOn.mpr hj)]; exact hf' i hj
    · rw [View.read_apply, Finset.piecewise_eq_of_notMem _ _ _ (fun hh => hj (m.view.mem_setOn.mp hh))]
      exact hf i ((Finset.mem_union.mp hi).resolve_right hj)
  iapply (pointsTo_join hd)
  isplitl [H1] <;> iassumption

/-- A holding of anything. -/
def junk (c : Dev nD) (m : Memref sig .tc .vmem s e) (q : PosShare TreeShare) (I : Finset s.Idx) : sProp 𝕄 := iprop(∃ g, own c m q I g)

instance junk_storable (c : Dev nD) (m : Memref sig .tc .vmem s e) (q : PosShare TreeShare) (I : Finset s.Idx) :
    BI.Storable (upEmb : UEmb _ 𝕄) (junk (F := F) c m q I) := by unfold junk; infer_instance

/-- Known contents may be forgotten. -/
theorem own_junk : (own c m q I g : sProp 𝕄) ⊢ junk c m q I := by unfold junk; iintro H; iexists g; iexact H

/-- Ownership without contents splits over disjoint sets of elements. -/
theorem junk_split (h : Disjoint I J) : (junk c m q (I ∪ J) : sProp 𝕄) ⊢ iprop(junk c m q I ∗ junk c m q J) := by
  unfold junk
  iintro ⟨%g, H⟩
  ihave H := (own_split c m h) $$ H
  icases H with ⟨H1, H2⟩
  isplitl [H1] <;> (iexists g; iassumption)

/-- Ownership without contents joins over disjoint sets of elements. -/
theorem junk_join (h : Disjoint I J) : iprop(junk c m q I ∗ junk c m q J) ⊢ (junk c m q (I ∪ J) : sProp 𝕄) := by
  unfold junk
  iintro ⟨⟨%g, H1⟩, ⟨%g', H2⟩⟩
  iexists (J.piecewise g' g)
  iapply (own_join c m h)
  isplitl [H1]
  · iapply (own_congr c m (g := g) fun i hi => (Finset.piecewise_eq_of_notMem _ _ _ (Finset.disjoint_left.mp h hi)).symm); iexact H1
  · iapply (own_congr c m (g := g') fun i hi => (Finset.piecewise_eq_of_mem _ _ _ hi).symm); iexact H2

/-- A holding splits along its share. -/
theorem own_share : (own c m q I g : sProp 𝕄) ⊢ iprop(own c m q.left I g ∗ own c m q.right I g) := by
  unfold own
  iintro ⟨%f, %hf, H⟩
  ihave H := (pointsTo_share (PosShare.mem_left_op_right q)).1 $$ H
  icases H with ⟨H1, H2⟩
  isplitl [H1] <;> (iexists f; isplitr; · (ipureintro; exact hf))
  · iexact H1
  · iexact H2

/-- The two halves of a share make the share. -/
theorem own_unshare : iprop(own c m q.left I g ∗ own c m q.right I g) ⊢ (own c m q I g : sProp 𝕄) := by
  unfold own
  iintro ⟨⟨%f, %hf, H1⟩, ⟨%f', %hf', H2⟩⟩
  iexists f
  isplitr
  · ipureintro; exact hf
  have hc : ∀ i ∈ m.view.setOn I, f' i = f i := by
    intro i hi
    obtain ⟨x, hx, rfl⟩ := Finset.mem_map.mp hi
    have := (hf' x hx).trans (hf x hx).symm
    rw [View.read_apply, View.read_apply] at this
    exact (_root_.cast_inj _).mp this
  ihave H2 := (Entails.of_eq (pointsTo_congr hc)) $$ H2
  iapply (pointsTo_share (PosShare.mem_left_op_right q)).2
  isplitl [H1] <;> iassumption

/-- A slice owned at contents `h` is its rectangle held, where `g` at the rectangle's elements is `h`. -/
theorem owns_own (r : Rect s) (hr : ∀ a, r.stride a = 1) (hI : r.set = I) {h : r.shape.Idx → Elt F e} (hg : ∀ j, h j = g (r.emb j)) :
    (owns (c : Thread nD τ) (m.slice r hr) q h : sProp 𝕄) ⊢ own c m q I g := by
  subst hI
  unfold owns own
  iintro ⟨%f, %hf, H⟩
  iexists f
  isplitr
  · ipureintro
    intro i hi
    obtain ⟨j, rfl⟩ := r.exists_idx_of_mem hi
    exact (congrFun hf j).trans (hg j)
  rw [show m.view.setOn r.set = (m.slice r hr).view.set from (m.view.set_slice r).symm]
  iexact H

/-- Ownership of a rectangle's elements is a slice with the contents read there. -/
theorem own_owns (r : Rect s) (hr : ∀ a, r.stride a = 1) (hI : r.set = I) {h : r.shape.Idx → Elt F e} (hg : ∀ j, g (r.emb j) = h j) :
    (own c m q I g : sProp 𝕄) ⊢ owns (c : Thread nD τ) (m.slice r hr) q h := by
  subst hI
  unfold owns own
  iintro ⟨%f, %hf, H⟩
  iexists f
  isplitr
  · ipureintro
    exact funext fun j => (hf _ (r.idx_mem j)).trans (hg j)
  rw [show m.view.setOn r.set = (m.slice r hr).view.set from (m.view.set_slice r).symm]
  iexact H

/-- A memref owned whole is all its indices held. -/
theorem owns_own_univ {h : s.Idx → Elt F e} (hg : ∀ j, h j = g j) :
    (owns (c : Thread nD τ) m q h : sProp 𝕄) ⊢ own c m q Finset.univ g := by
  unfold owns own
  iintro ⟨%f, %hf, H⟩
  iexists f
  isplitr
  · ipureintro; exact fun i _ => (congrFun hf i).trans (hg i)
  iexact H

/-- Ownership of all the elements is the buffer with its contents. -/
theorem own_owns_univ {h : s.Idx → Elt F e} (hg : ∀ j, g j = h j) :
    (own c m q Finset.univ g : sProp 𝕄) ⊢ owns (c : Thread nD τ) m q h := by
  unfold owns own
  iintro ⟨%f, %hf, H⟩
  iexists f
  isplitr
  · ipureintro; exact funext fun i => (hf i (Finset.mem_univ _)).trans (hg i)
  iexact H

end Own

section Steps
variable {n : ℕ} {ss : Fin n → ℕ} {e : EltTy} (c : Dev nD) (m : Memref sig .tc .vmem ⟨n, ss⟩ e)
  {q : PosShare TreeShare} {I : Finset (⟨n, ss⟩ : Shape).Idx} {g g' : (⟨n, ss⟩ : Shape).Idx → Elt F e}

/-- Load a rectangle of what is held. -/
theorem wp_ld (off ts : Fin n → ℕ) (inb : ∀ a, off a + ts a ≤ ss a) (h : 0 < (⟨n, ts⟩ : Shape).numel)
    (hI : (Rect.unit (s := ⟨n, ss⟩) off ts inb).set ⊆ I) {α : Type} {Q : α → sProp 𝕄} {k : Vec F ⟨n, ts⟩ e → Pg F α} :
    (own c m q I g : sProp 𝕄) ⊢ iprop((own c m q I g -∗ wpc c (k fun j => g ((Rect.unit (s := ⟨n, ss⟩) off ts inb).emb j)) Q) -∗ wpc c (ld m off ts inb h >>= k) Q) := by
  unfold own ld wpc
  simp only [Prog.lift, Prog.bind_op, Prog.bind_ret]
  iintro ⟨%f, %hf, H⟩ Hk
  iapply (wp_load 𝒱₀ (c : Thread nD τ) none Set.univ (m := m) (S := m.view.setOn I) (Finset.map_subset_map.mpr hI)) $$ H
  iintro H
  rw [show m.view.readAt (Elt F) (Rect.unit (s := ⟨n, ss⟩) off ts inb).toLoadRect f = (fun j => g ((Rect.unit (s := ⟨n, ss⟩) off ts inb).emb j)) from
    funext fun j => hf _ (hI ((Rect.unit (s := ⟨n, ss⟩) off ts inb).toLoadRect.idx_mem j))]
  iapply Hk
  iexists f
  isplitr
  · ipureintro; exact hf
  iexact H

/-- Store a rectangle that is held in full. -/
theorem wp_st (off ts : Fin n → ℕ) (inb : ∀ a, off a + ts a ≤ ss a) (h : 0 < (⟨n, ts⟩ : Shape).numel)
    (hs : (m.access (Rect.unit (s := ⟨n, ss⟩) off ts inb)).Stores Finset.univ) (w : Vec F ⟨n, ts⟩ e)
    (hI : (Rect.unit (s := ⟨n, ss⟩) off ts inb).set = I) (hw : ∀ j, w j = g' ((Rect.unit (s := ⟨n, ss⟩) off ts inb).emb j)) {α : Type} {Q : α → sProp 𝕄} {k : PUnit → Pg F α} :
    (junk c m fullShare I : sProp 𝕄) ⊢ iprop((own c m fullShare I g' -∗ wpc c (k ⟨⟩) Q) -∗ wpc c (st m off ts inb h hs w >>= k) Q) := by
  subst hI
  unfold junk own st ld wpc
  simp only [Prog.lift, Prog.bind_op, Prog.bind_ret]
  iintro ⟨%g, %f, %hf, H⟩ Hk
  iapply (wp_load 𝒱₀ (c : Thread nD τ) none Set.univ (m := m) (r := (Rect.unit (s := ⟨n, ss⟩) off ts inb).toLoadRect) (S := m.view.setOn (Rect.unit (s := ⟨n, ss⟩) off ts inb).set) (Finset.Subset.refl _)) $$ H
  iintro H
  iapply (wp_store 𝒱₀ (c : Thread nD τ) none Set.univ (m := m) (r := Rect.unit (s := ⟨n, ss⟩) off ts inb) (Mk := Finset.univ)
    (S := m.view.setOn (Rect.unit (s := ⟨n, ss⟩) off ts inb).set) (le_of_eq (m.view.set_slice (Rect.unit (s := ⟨n, ss⟩) off ts inb)))) $$ H
  iintro H
  iapply Hk
  iexists _
  isplitr
  · ipureintro
    intro i hi
    obtain ⟨j, rfl⟩ := (Rect.unit (s := ⟨n, ss⟩) off ts inb).exists_idx_of_mem hi
    exact (View.read_slice_write_emb (v := m.view) (Rect.unit (s := ⟨n, ss⟩) off ts inb) f w (Finset.mem_univ j)).trans (hw j)
  iexact H

end Steps

end Cert.KernelIdeal.Moe
-- ==== Proof.Tables.lean ====
module

public import proofs.«01_k».proof.Proof.Own

@[expose] public section

noncomputable section

/-! # The protocol's arithmetic

Where each device stands on the three exchanges, which 128-row chunks each transfer carries, and the
printed offsets and device numbers as these. -/

namespace Cert.KernelIdeal.Moe

open Cert.KernelIdeal.Gen
open Idealize.ShloMosaic Idealize.ShloMosaic.TcCoe

/-! ## Devices -/

/-- The chunk of rows device `c` finishes. -/
def ell (c : Dev nD) : ℕ := c.val ^^^ (c.val / 2 % 2)
abbrev b1 (c : Dev nD) : ℕ := ell c % 2
abbrev b2 (c : Dev nD) : ℕ := ell c / 2 % 2
abbrev b4 (c : Dev nD) : ℕ := ell c / 4

/-- The neighbour along axis `x`: the device whose chunk differs from `c`'s in bit `x`. -/
def nb (x : Fin 3) (c : Dev nD) : Dev nD :=
  ⟨(c.val ^^^ (match x with | 0 => 1 | 1 => 3 | 2 => 4)) % 8, Nat.mod_lt _ (by decide)⟩

/-- A neighbour's neighbour along the same axis is the device. -/
theorem nb_nb (x : Fin 3) (c : Dev nD) : nb x (nb x c) = c := by revert x c; decide

/-- Distinct devices have distinct neighbours along an axis. -/
theorem nb_inj {x : Fin 3} {c d : Dev nD} : nb x c = nb x d ↔ c = d :=
  ⟨fun h => by rw [← nb_nb x c, h, nb_nb], fun h => h ▸ rfl⟩

/-- Neighbours along distinct axes are distinct. -/
theorem nb_ne {x y : Fin 3} (h : x ≠ y) (c : Dev nD) : nb x c ≠ nb y c := by revert x y c; decide

def nbEquiv (x : Fin 3) : Dev nD ≃ Dev nD := ⟨nb x, nb x, nb_nb x, nb_nb x⟩

/-- There are eight chunks. -/
theorem ell_lt (c : Dev nD) : ell c < 8 := by revert c; decide

/-- The device that finishes chunk `k`. -/
def owner (k : ℕ) : Dev nD := ⟨(k ^^^ (k / 2 % 2)) % 8, Nat.mod_lt _ (by decide)⟩

/-- The owner of the chunk a device finishes is the device. -/
theorem owner_ell (c : Dev nD) : owner (ell c) = c := by revert c; decide

/-- The chunk that a chunk's owner finishes is that chunk. -/
theorem ell_owner (k : Fin 8) : ell (owner k.val) = k.val := by revert k; decide

/-! ## Transfers -/

/-- The axis a transfer goes along. -/
def ax : Tr → Fin 3
  | .c0 | .c1 | .c2 | .c3 | .b2 | .b3 | .a3 | .ga0 | .gb1 | .gb2 | .gc3 | .gc4 | .gc5 | .gc6 => 0
  | .b0 | .b1 | .a2 | .c6 | .gc0 | .ga1 | .gb3 | .gb4 => 1
  | .a0 | .a1 | .c4 | .c5 | .b4 | .gb0 | .gc1 | .gc2 | .ga2 => 2

/-- A transfer goes to the neighbour along its axis. -/
theorem peer_eq (d : Dev nD) (j : Tr) : peer d j = nb (ax j) d := by
  cases j <;> exact Fin.ext (by revert d; decide +kernel)

/-- The column group a transfer belongs to. -/
def gr : Tr → Fin 3
  | .a0 | .a1 | .a2 | .a3 | .ga0 | .ga1 | .ga2 => 0
  | .b0 | .b1 | .b2 | .b3 | .b4 | .gb0 | .gb1 | .gb2 | .gb3 | .gb4 => 1
  | .c0 | .c1 | .c2 | .c3 | .c4 | .c5 | .c6 | .gc0 | .gc1 | .gc2 | .gc3 | .gc4 | .gc5 | .gc6 => 2

/-- The stage of the reduction, or of the gather, a transfer belongs to. -/
def stage : Tr → Fin 3
  | .a0 | .b0 | .a1 | .b1 | .c0 | .c1 | .c2 | .c3 | .ga0 | .gb0 | .gc0 => 0
  | .a2 | .b2 | .b3 | .c4 | .c5 | .ga1 | .gb1 | .gb2 | .gc1 | .gc2 => 1
  | .a3 | .b4 | .c6 | .ga2 | .gb3 | .gb4 | .gc3 | .gc4 | .gc5 | .gc6 => 2

/-- Whether a transfer is one of the gather's. -/
def isG : Tr → Bool
  | .a0 | .b0 | .a1 | .b1 | .c0 | .c1 | .c2 | .c3 | .a2 | .b2 | .b3 | .c4 | .c5 | .a3 | .b4 | .c6 => false
  | .ga0 | .gb0 | .gc0 | .ga1 | .gb1 | .gb2 | .gc1 | .gc2 | .ga2 | .gb3 | .gb4 | .gc3 | .gc4 | .gc5 | .gc6 => true

/-- How many chunks a transfer carries. -/
def sn : Tr → ℕ
  | .c0 | .c1 | .c2 | .c3 | .b2 | .b3 | .c4 | .c5 | .a3 | .b4 | .c6 | .ga0 | .gb0 | .gc0 | .gb1 | .gb2 | .gc1 | .gc2 | .gc3 | .gc4 | .gc5 | .gc6 => 1
  | .a0 | .b0 | .a1 | .b1 | .a2 | .ga1 | .gb3 | .gb4 => 2
  | .ga2 => 4

/-- The first chunk of the transfer device `c` starts. -/
def sa (c : Dev nD) : Tr → ℕ
  | .a0 => 4 * (1 - b4 c)
  | .b0 => 2 * (1 - b2 c)
  | .a1 => 4 * (1 - b4 c) + 2
  | .b1 => 4 + 2 * (1 - b2 c)
  | .c0 => (1 - b1 c)
  | .c1 => (1 - b1 c) + 2
  | .c2 => (1 - b1 c) + 4
  | .c3 => (1 - b1 c) + 6
  | .a2 => 4 * b4 c + 2 * (1 - b2 c)
  | .b2 => 2 * b2 c + (1 - b1 c)
  | .b3 => 4 + 2 * b2 c + (1 - b1 c)
  | .c4 => b1 c + 4 * (1 - b4 c)
  | .c5 => b1 c + 4 * (1 - b4 c) + 2
  | .a3 => 4 * b4 c + 2 * b2 c + (1 - b1 c)
  | .b4 => 4 * (1 - b4 c) + 2 * b2 c + b1 c
  | .c6 => b1 c + 4 * b4 c + 2 * (1 - b2 c)
  | .ga0 | .gb0 | .gc0 | .gb1 | .gc1 | .gc3 => ell c
  | .ga1 | .gb3 => 2 * (ell c / 2)
  | .gb2 | .gc5 => ell c ^^^ 4
  | .gc2 | .gc4 => ell c ^^^ 2
  | .ga2 => 4 * (ell c / 4)
  | .gb4 => 2 * ((ell c ^^^ 4) / 2)
  | .gc6 => ell c ^^^ 6

/-- A transfer's chunks are among the eight. -/
theorem sa_add_sn (c : Dev nD) (j : Tr) : sa c j + sn j ≤ 8 := by cases j <;> (revert c; decide)

/-- A column group's first column and its width. -/
def lo (X : Fin 3) : ℕ := 384 * X.val
def wd (X : Fin 3) : ℕ := match X with | 0 => 384 | 1 => 384 | 2 => 256

/-! ## Indices -/

/-- The index of row `r`, column `k`. -/
def ix2 {n0 n1 : ℕ} [NeZero n0] [NeZero n1] (r k : ℕ) : (⟨2, ![n0, n1]⟩ : Shape).Idx := fun a =>
  match a with
  | 0 => ⟨r % n0, Nat.mod_lt _ (Nat.pos_of_ne_zero (NeZero.ne n0))⟩
  | 1 => ⟨k % n1, Nat.mod_lt _ (Nat.pos_of_ne_zero (NeZero.ne n1))⟩

section Ix
variable {n0 n1 : ℕ} [NeZero n0] [NeZero n1]

/-- The row of an index. -/
theorem ix2_0 {r k : ℕ} (h : r < n0) : ((ix2 r k : (⟨2, ![n0, n1]⟩ : Shape).Idx) 0 : ℕ) = r := Nat.mod_eq_of_lt h

/-- The column of an index. -/
theorem ix2_1 {r k : ℕ} (h : k < n1) : ((ix2 r k : (⟨2, ![n0, n1]⟩ : Shape).Idx) 1 : ℕ) = k := Nat.mod_eq_of_lt h

/-- An index is its row and its column. -/
theorem idx_ext {i j : (⟨2, ![n0, n1]⟩ : Shape).Idx} (h0 : (i 0 : ℕ) = j 0) (h1 : (i 1 : ℕ) = j 1) : i = j := by
  funext a
  fin_cases a
  · exact Fin.ext h0
  · exact Fin.ext h1

/-- An index is the index of its row and column. -/
theorem ix2_self (i : (⟨2, ![n0, n1]⟩ : Shape).Idx) : ix2 (i 0 : ℕ) (i 1 : ℕ) = i :=
  idx_ext (Nat.mod_eq_of_lt (i 0).isLt) (Nat.mod_eq_of_lt (i 1).isLt)

/-- A rectangle's elements by row and column. -/
theorem emb_ix2 {ts off : Fin 2 → ℕ} {inb : ∀ a, off a + ts a ≤ (![n0, n1] : Fin 2 → ℕ) a} {r k : ℕ} (h : off = ![r, k])
    (j : (⟨2, ts⟩ : Shape).Idx) :
    (Rect.unit (s := ⟨2, ![n0, n1]⟩) off ts inb).emb j = ix2 (r + j 0) (k + j 1) := by
  subst h
  have h0 : r + ts 0 ≤ n0 := inb 0
  have h1 : k + ts 1 ≤ n1 := inb 1
  have j0 : (j 0 : ℕ) < ts 0 := (j 0).isLt
  have j1 : (j 1 : ℕ) < ts 1 := (j 1).isLt
  refine idx_ext ?_ ?_
  · rw [ix2_0 (by omega), Rect.emb_apply]
    show r + 1 * (j 0 : ℕ) = _
    omega
  · rw [ix2_1 (by omega), Rect.emb_apply]
    show k + 1 * (j 1 : ℕ) = _
    omega

/-- The whole of a buffer, as a rectangle, is its own indices. -/
theorem emb_zero {inb : ∀ a, (![0, 0] : Fin 2 → ℕ) a + (![n0, n1] : Fin 2 → ℕ) a ≤ (![n0, n1] : Fin 2 → ℕ) a} (j : (⟨2, ![n0, n1]⟩ : Shape).Idx) :
    (Rect.unit (s := ⟨2, ![n0, n1]⟩) ![0, 0] ![n0, n1] inb).emb j = j := by
  rw [emb_ix2 (r := 0) (k := 0) rfl, Nat.zero_add, Nat.zero_add, ix2_self]

/-- The rows from `a` up to `b`. -/
def rw (a b : ℕ) : Finset (⟨2, ![n0, n1]⟩ : Shape).Idx := Finset.univ.filter fun i => a ≤ (i 0 : ℕ) ∧ (i 0 : ℕ) < b

/-- Neighbouring ranges of rows make one. -/
theorem rw_union {a b c : ℕ} (h : a ≤ b) (h' : b ≤ c) : (rw a b ∪ rw b c : Finset (⟨2, ![n0, n1]⟩ : Shape).Idx) = rw a c := by
  ext i; simp only [rw, Finset.mem_union, Finset.mem_filter, Finset.mem_univ, true_and]; omega

/-- Neighbouring ranges of rows are disjoint. -/
theorem rw_disj (a b c : ℕ) : Disjoint (rw a b) (rw b c : Finset (⟨2, ![n0, n1]⟩ : Shape).Idx) := by
  rw [Finset.disjoint_left]; intro i; simp only [rw, Finset.mem_filter, Finset.mem_univ, true_and]; omega

/-- All the rows are the whole buffer. -/
theorem rw_univ : (rw 0 n0 : Finset (⟨2, ![n0, n1]⟩ : Shape).Idx) = Finset.univ := by
  ext i
  have : (i 0 : ℕ) < n0 := (i 0).isLt
  simp only [rw, Finset.mem_filter, Finset.mem_univ, true_and, iff_true]; omega

/-- A rectangle over whole rows is a range of rows. -/
theorem rect_rw {ts off : Fin 2 → ℕ} {inb : ∀ a, off a + ts a ≤ (![n0, n1] : Fin 2 → ℕ) a} {r R : ℕ} (h : off = ![r, 0]) (ht : ts = ![R, n1]) :
    (Rect.unit (s := ⟨2, ![n0, n1]⟩) off ts inb).set = rw r (r + R) := by
  subst h ht
  ext i
  have : (i 1 : ℕ) < n1 := (i 1).isLt
  rw [Rect.mem_set_unit, Fin.forall_fin_two]
  simp only [rw, Finset.mem_filter, Finset.mem_univ, true_and]
  show (r ≤ (i 0 : ℕ) ∧ (i 0 : ℕ) < r + R) ∧ (0 ≤ (i 1 : ℕ) ∧ (i 1 : ℕ) < 0 + n1) ↔ _
  omega

end Ix

/-! ## Chunks of a column group -/

/-- The `n` chunks from `a`. -/
def ch (a n : ℕ) : Finset (Fin 8) := Finset.univ.filter fun k => a ≤ k.val ∧ k.val < a + n

/-- The elements of column group `X` in the chunks `T`. -/
def tl (X : Fin 3) (T : Finset (Fin 8)) : Finset S1024x1024.Idx :=
  Finset.univ.filter fun i => (lo X ≤ (i 1 : ℕ) ∧ (i 1 : ℕ) < lo X + wd X) ∧ (⟨(i 0 : ℕ) / 128 % 8, Nat.mod_lt _ (by decide)⟩ : Fin 8) ∈ T

/-- A tile of a union of chunks is the union of the tiles. -/
theorem tl_union (X : Fin 3) (T T' : Finset (Fin 8)) : tl X (T ∪ T') = tl X T ∪ tl X T' := by
  ext i; simp only [tl, Finset.mem_union, Finset.mem_filter, Finset.mem_univ, true_and]; tauto

/-- Tiles of disjoint chunks are disjoint. -/
theorem tl_disj (X : Fin 3) {T T' : Finset (Fin 8)} (h : Disjoint T T') : Disjoint (tl X T) (tl X T') := by
  rw [Finset.disjoint_left] at h ⊢
  intro i hi hi'
  simp only [tl, Finset.mem_filter, Finset.mem_univ, true_and] at hi hi'
  exact h hi.2 hi'.2

/-- Tiles of distinct column groups are disjoint. -/
theorem tl_disj' {X Y : Fin 3} (h : X ≠ Y) (T T' : Finset (Fin 8)) : Disjoint (tl X T) (tl Y T') := by
  rw [Finset.disjoint_left]
  intro i hi hi'
  simp only [tl, Finset.mem_filter, Finset.mem_univ, true_and] at hi hi'
  have hX : lo X + wd X ≤ lo Y ∨ lo Y + wd Y ≤ lo X := by
    clear hi hi'; revert X Y; decide
  omega

/-- The three column groups' tiles are the whole buffer. -/
theorem tl_univ : (tl 0 Finset.univ ∪ tl 1 Finset.univ) ∪ tl 2 Finset.univ = Finset.univ := by
  ext i
  have h : (i 1 : ℕ) < 1024 := (i 1).isLt
  have e : lo 0 = 0 ∧ lo 1 = 384 ∧ lo 2 = 768 ∧ wd 0 = 384 ∧ wd 1 = 384 ∧ wd 2 = 256 := by decide
  simp only [tl, Finset.mem_union, Finset.mem_filter, Finset.mem_univ, and_true, true_and, iff_true]
  omega

/-- A rectangle of whole chunks of a column group. -/
theorem rect_tl {ts off : Fin 2 → ℕ} {inb : ∀ a, off a + ts a ≤ S1024x1024.size a} {X : Fin 3} {a n : ℕ}
    (h : off = ![128 * a, lo X]) (ht : ts = ![128 * n, wd X]) :
    (Rect.unit (s := S1024x1024) off ts inb).set = tl X (ch a n) := by
  subst h ht
  ext i
  have h0 : (i 0 : ℕ) < 1024 := (i 0).isLt
  rw [Rect.mem_set_unit, Fin.forall_fin_two]
  simp only [tl, ch, Finset.mem_filter, Finset.mem_univ, true_and]
  show (128 * a ≤ (i 0 : ℕ) ∧ (i 0 : ℕ) < 128 * a + 128 * n) ∧ (lo X ≤ (i 1 : ℕ) ∧ (i 1 : ℕ) < lo X + wd X) ↔ _
  omega

/-- The rectangle a transfer reads. -/
theorem soff_eq (c : Dev nD) (j : Tr) : (ends c j).soff = ![128 * sa c j, lo (gr j)] := by
  cases j <;> (revert c; decide +kernel)

/-- A transfer's size: its chunks' rows by its group's columns. -/
theorem ts_eq (c : Dev nD) (j : Tr) : (ends c j).ts = ![128 * sn j, wd (gr j)] := by
  cases j <;> rfl

end Cert.KernelIdeal.Moe
-- ==== Proof.Sched.lean ====
module

public import proofs.«01_k».proof.Proof.Tables

@[expose] public section

noncomputable section

/-! # The protocol

Every semaphore of a device is one cell of one round. A copy's own semaphore gives back what the copy read;
the semaphore it raises at the other end gives the block that landed; the barrier semaphore, which each of a
device's three neighbours raises once, gives from each the buffers this device's copies along that axis land in. -/

namespace Cert.KernelIdeal.Moe

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells -/

/-- A device's cells: the barrier, and for each transfer its own and its landing semaphore. -/
abbrev CI : Type := Option (Bool × Tr)

def csem : CI → SemLoc sig
  | none => .reg barS
  | some (false, j) => .dma (ssem j)
  | some (true, j) => .dma (rsem j)

/-- A transfer's own semaphore by number. -/
def snum : Tr → ℕ
  | .a0 => 6
  | .b0 => 14
  | .a1 => 7
  | .b1 => 15
  | .c0 => 24
  | .c1 => 25
  | .c2 => 26
  | .c3 => 27
  | .a2 => 8
  | .b2 => 16
  | .b3 => 17
  | .c4 => 28
  | .c5 => 29
  | .a3 => 9
  | .b4 => 18
  | .c6 => 30
  | .ga0 => 38
  | .gb0 => 44
  | .gc0 => 54
  | .ga1 => 39
  | .gb1 => 45
  | .gb2 => 46
  | .gc1 => 55
  | .gc2 => 56
  | .ga2 => 40
  | .gb3 => 47
  | .gb4 => 48
  | .gc3 => 57
  | .gc4 => 58
  | .gc5 => 59
  | .gc6 => 60

/-- A transfer's landing semaphore by number. -/
def rnum : Tr → ℕ
  | .a0 => 10
  | .b0 => 19
  | .a1 => 11
  | .b1 => 20
  | .c0 => 31
  | .c1 => 32
  | .c2 => 33
  | .c3 => 34
  | .a2 => 12
  | .b2 => 21
  | .b3 => 22
  | .c4 => 35
  | .c5 => 36
  | .a3 => 13
  | .b4 => 23
  | .c6 => 37
  | .ga0 => 41
  | .gb0 => 49
  | .gc0 => 61
  | .ga1 => 42
  | .gb1 => 50
  | .gb2 => 51
  | .gc1 => 62
  | .gc2 => 63
  | .ga2 => 43
  | .gb3 => 52
  | .gb4 => 53
  | .gc3 => 64
  | .gc4 => 65
  | .gc5 => 66
  | .gc6 => 67

/-- A transfer's departure semaphore by its number. -/
theorem ssem_val (j : Tr) : (ssem j).val = snum j := by cases j <;> rfl

/-- A transfer's arrival semaphore by its number. -/
theorem rsem_val (j : Tr) : (rsem j).val = rnum j := by cases j <;> rfl

/-- Distinct cells have distinct semaphores. -/
theorem csem_inj : Function.Injective csem := by
  have hs : ∀ x y : Tr, snum x = snum y → x = y := by decide +kernel
  have hr : ∀ x y : Tr, rnum x = rnum y → x = y := by decide +kernel
  have hn : ∀ x y : Tr, snum x ≠ rnum y := by decide +kernel
  have hv : ∀ {a b : DmaSem sig}, SemLoc.dma a = SemLoc.dma b → a.val = b.val := fun h => congrArg Fin.val (SemLoc.dma.inj h)
  rintro (_ | ⟨_ | _, x⟩) (_ | ⟨_ | _, y⟩) h
  · rfl
  · exact absurd h (fun h => by cases h)
  · exact absurd h (fun h => by cases h)
  · exact absurd h (fun h => by cases h)
  · rw [hs x y (by rw [← ssem_val, ← ssem_val]; exact hv h)]
  · exact absurd (by rw [← ssem_val, ← rsem_val]; exact hv h) (hn x y)
  · exact absurd h (fun h => by cases h)
  · exact absurd (by rw [← ssem_val, ← rsem_val]; exact (hv h).symm) (hn y x)
  · rw [hr x y (by rw [← rsem_val, ← rsem_val]; exact hv h)]

open Classical in
/-- The cell a semaphore is, if it is one of the protocol's. -/
def dec (s : SemLoc sig) : Option CI := if h : ∃ i, csem i = s then some h.choose else none

/-- Reading back the cell of a semaphore gives the cell. -/
theorem dec_csem (i : CI) : dec (csem i) = some i := by
  have h : ∃ i', csem i' = csem i := ⟨i, rfl⟩
  rw [dec, dif_pos h]
  exact congrArg some (csem_inj h.choose_spec)

/-- A semaphore of no cell reads back as none. -/
theorem dec_none {s : SemLoc sig} (h : ∀ i, csem i ≠ s) : dec s = none := by
  rw [dec, dif_neg]; rintro ⟨i, hi⟩; exact h i hi

abbrev kc (c : Dev nD) (i : CI) : GSem nD τ sig := ((c : Thread nD τ), csem i)
abbrev bar (c : Dev nD) : GSem nD τ sig := kc c none
abbrev sc (c : Dev nD) (j : Tr) : GSem nD τ sig := kc c (some (false, j))
abbrev rc (c : Dev nD) (j : Tr) : GSem nD τ sig := kc c (some (true, j))

/-- A cell's counter determines the device and the cell. -/
theorem kc_inj {c c' : Dev nD} {i i' : CI} : kc c i = kc c' i' ↔ c = c' ∧ i = i' :=
  ⟨fun h => ⟨Fin.ext (congrArg (fun g : GSem nD τ sig => g.1.1.val) h), csem_inj (congrArg Prod.snd h)⟩, fun ⟨h, h'⟩ => h ▸ h' ▸ rfl⟩

/-- What a transfer adds to each of its semaphores. -/
def amt (j : Tr) : ℕ := (ends 0 j).dst.view.dmaCredit

/-- The credit depends on the landing buffer and the sizes only. -/
theorem endsR_credit (ts : Fin 2 → ℕ) {sd : Fin 2 → ℕ} (m : Memref sig .tc .vmem S1024x1024 .bf16) (m' : Memref sig .tc .vmem ⟨2, sd⟩ .bf16)
    (hm : m.IsWhole) (hm' : m'.IsWhole)
    (off off' : Fin 2 → ℕ) (inb : ∀ a, off a + ts a ≤ S1024x1024.size a) (inb' : ∀ a, off' a + ts a ≤ sd a)
    (w : (Rect.unit (s := S1024x1024) off ts inb).WholeWords (EltTy.packing .bf16))
    (w' : (Rect.unit (s := ⟨2, sd⟩) off' ts inb').WholeWords (EltTy.packing .bf16)) :
    (endsR ts m m' hm hm' off off' inb inb' w w').dst.view.dmaCredit = m'.view.ref.dmaCredit ⟨2, ts⟩ .bf16 := rfl

/-- A copy of a rectangle into a buffer of its size carries as many words as the rectangle has. -/
theorem endsW_credit (ts : Fin 2 → ℕ) (m : Memref sig .tc .vmem S1024x1024 .bf16) (m' : Memref sig .tc .vmem ⟨2, ts⟩ .bf16)
    (hm : m.IsWhole) (hm' : m'.IsWhole)
    (off : Fin 2 → ℕ) (inb : ∀ a, off a + ts a ≤ S1024x1024.size a)
    (w : (Rect.unit (s := S1024x1024) off ts inb).WholeWords (EltTy.packing .bf16)) :
    (endsW ts m m' hm hm' off inb w).dst.view.dmaCredit = m'.view.ref.dmaCredit ⟨2, ts⟩ .bf16 := rfl

/-- A transfer's amount does not depend on the device. -/
theorem amt_eq (c : Dev nD) (j : Tr) : (ends c j).dst.view.dmaCredit = amt j := by
  unfold amt
  cases j <;> simp only [ends, gEnds] <;> first
    | exact (endsR_credit _ _ _ _ _ _ _ _ _ _ _).trans (endsR_credit _ _ _ _ _ _ _ _ _ _ _).symm
    | exact (endsW_credit _ _ _ _ _ _ _ _).trans (endsW_credit _ _ _ _ _ _ _ _).symm

/-- Every transfer carries something. -/
theorem amt_pos (j : Tr) : 0 < amt j := View.dmaCredit_pos _ (by cases j <;> decide)

/-! ## The orders

of starting the transfers, of waiting for the arrivals, of waiting for the departures. -/

def spos : Tr → ℕ
  | .a0 => 0
  | .b0 => 1
  | .a1 => 2
  | .b1 => 3
  | .c0 => 4
  | .c1 => 5
  | .c2 => 6
  | .c3 => 7
  | .a2 => 8
  | .b2 => 9
  | .b3 => 10
  | .c4 => 11
  | .c5 => 12
  | .a3 => 13
  | .b4 => 14
  | .c6 => 15
  | .ga0 => 16
  | .gb0 => 17
  | .gc0 => 18
  | .ga1 => 19
  | .gb1 => 20
  | .gb2 => 21
  | .gc1 => 22
  | .gc2 => 23
  | .ga2 => 24
  | .gb3 => 25
  | .gb4 => 26
  | .gc3 => 27
  | .gc4 => 28
  | .gc5 => 29
  | .gc6 => 30

def rpos : Tr → ℕ
  | .a0 => 0
  | .b0 => 2
  | .a1 => 1
  | .b1 => 3
  | .c0 => 4
  | .c1 => 5
  | .c2 => 6
  | .c3 => 7
  | .a2 => 8
  | .b2 => 9
  | .b3 => 10
  | .c4 => 11
  | .c5 => 12
  | .a3 => 13
  | .b4 => 14
  | .c6 => 15
  | .ga0 => 16
  | .gb0 => 17
  | .gc0 => 18
  | .ga1 => 19
  | .gb1 => 20
  | .gb2 => 21
  | .gc1 => 22
  | .gc2 => 23
  | .ga2 => 30
  | .gb3 => 26
  | .gb4 => 28
  | .gc3 => 24
  | .gc4 => 25
  | .gc5 => 27
  | .gc6 => 29

def fpos : Tr → ℕ
  | .a0 => 0
  | .b0 => 4
  | .a1 => 1
  | .b1 => 5
  | .c0 => 9
  | .c1 => 10
  | .c2 => 11
  | .c3 => 12
  | .a2 => 2
  | .b2 => 6
  | .b3 => 7
  | .c4 => 13
  | .c5 => 14
  | .a3 => 3
  | .b4 => 8
  | .c6 => 15
  | .ga0 => 16
  | .gb0 => 19
  | .gc0 => 24
  | .ga1 => 17
  | .gb1 => 20
  | .gb2 => 21
  | .gc1 => 25
  | .gc2 => 26
  | .ga2 => 18
  | .gb3 => 22
  | .gb4 => 23
  | .gc3 => 27
  | .gc4 => 28
  | .gc5 => 29
  | .gc6 => 30

/-- No two transfers start at once. -/
theorem spos_inj : Function.Injective spos := by
  have h : ∀ x y : Tr, spos x = spos y → x = y := by decide +kernel
  exact fun x y => h x y

/-- No two arrivals are waited for at once. -/
theorem rpos_inj : Function.Injective rpos := by
  have h : ∀ x y : Tr, rpos x = rpos y → x = y := by decide +kernel
  exact fun x y => h x y

/-- No two departures are waited for at once. -/
theorem fpos_inj : Function.Injective fpos := by
  have h : ∀ x y : Tr, fpos x = fpos y → x = y := by decide +kernel
  exact fun x y => h x y

/-- The transfers at positions under `n` are in state `A`, the others in state `B`. -/
def stp (p : Tr → ℕ) (A B : Tr → sProp 𝕄) (n : ℕ) : sProp 𝕄 := bigSep Finset.univ fun j => if p j < n then A j else B j

section Stp
variable {p : Tr → ℕ} {n : ℕ}

/-- Before the first step nothing is done. -/
theorem stp_zero {A B : Tr → sProp 𝕄} : stp p A B 0 = bigSep Finset.univ B := bigSep_congr fun j _ => if_neg (Nat.not_lt_zero _)

/-- After the last step everything is done. -/
theorem stp_all {A B : Tr → sProp 𝕄} (h : ∀ j, p j < n) : stp p A B n = bigSep Finset.univ A := bigSep_congr fun j _ => if_pos (h j)

/-- A step turns its own transfer's before into its after. -/
theorem stp_step {A B : Tr → sProp 𝕄} (hp : Function.Injective p) {j : Tr} (hj : p j = n) : stp p A B n ⊢ iprop(B j ∗ (A j -∗ stp p A B (n + 1))) := by
  have hr : bigSep (Finset.univ.erase j) (fun j => if p j < n + 1 then A j else B j) = bigSep (Finset.univ.erase j) fun j => if p j < n then A j else B j :=
    bigSep_congr fun i hi => by
      have : p i ≠ n := fun h => Finset.ne_of_mem_erase hi (hp (h.trans hj.symm))
      by_cases h : p i < n
      · rw [if_pos h, if_pos (by omega)]
      · rw [if_neg h, if_neg (by omega)]
  unfold stp
  rw [bigSep_univ_at _ j, bigSep_univ_at (fun j => if p j < n + 1 then A j else B j) j, hr, if_neg (by omega : ¬ p j < n), if_pos (by omega : p j < n + 1)]
  iintro ⟨H1, H2⟩
  isplitl [H1]; · iexact H1
  iintro H
  isplitl [H] <;> iassumption

end Stp

/-! ## Payloads -/

/-- The other end of a transfer. -/
abbrev pr (c : Dev nD) (j : Tr) : Dev nD := nb (ax j) c

/-- The sender of a transfer to the sender is the device itself. -/
theorem pr_pr (c : Dev nD) (j : Tr) : pr (pr c j) j = c := nb_nb _ _

/-- The share of its source a copy takes. -/
def shr (j : Tr) : PosShare TreeShare :=
  if isG j then (match stage j with | 0 => fullShare.right.right | 1 => fullShare.right.left | 2 => fullShare.left) else fullShare

/-- Where a copy lands, at any contents. -/
def dstAny (p : Dev nD) (E : Ends) : sProp 𝕄 := iprop(∃ h, owns (p : Thread nD τ) E.dst fullShare h)

instance dstAny_storable (p : Dev nD) (E : Ends) : BI.Storable (upEmb : UEmb _ 𝕄) (dstAny (F := F) p E) := by
  unfold dstAny owns; infer_instance

section Sched
variable (Gc : Tr → Dev nD → S1024x1024.Idx → Elt F .bf16)

/-- What the copy `j` of device `c` carries. -/
def cont (c : Dev nD) (j : Tr) : (⟨2, (ends c j).ts⟩ : Shape).Idx → Elt F .bf16 :=
  fun i => Gc j c ((Rect.unit (s := S1024x1024) (ends c j).soff (ends c j).ts (ends c j).inb).emb i)

/-- What a copy read, given back. -/
def spay (c : Dev nD) (j : Tr) : sProp 𝕄 := owns (c : Thread nD τ) (ends c j).src (shr j) (cont Gc c j)
/-- What the copy `j` of device `s` lands on device `p`. -/
def lpay (s p : Dev nD) (j : Tr) : sProp 𝕄 := owns (p : Thread nD τ) (ends s j).dst fullShare (cont Gc s j)
/-- What the neighbour along axis `x` gives device `c` at the barrier. -/
def bpay (c : Dev nD) (x : Fin 3) : sProp 𝕄 :=
  bigSep Finset.univ fun j => if ax j = x then dstAny (nb x c) (ends c j) else iprop(emp)

instance spay_storable (c : Dev nD) (j : Tr) : BI.Storable (upEmb : UEmb _ 𝕄) (spay Gc c j) := by unfold spay owns; infer_instance
instance lpay_storable (s p : Dev nD) (j : Tr) : BI.Storable (upEmb : UEmb _ 𝕄) (lpay Gc s p j) := by unfold lpay owns; infer_instance
instance bpay_storable (c : Dev nD) (x : Fin 3) : BI.Storable (upEmb : UEmb _ 𝕄) (bpay (F := F) c x) := by
  unfold bpay
  haveI : ∀ j : Tr, BI.Storable (upEmb : UEmb _ 𝕄) (if ax j = x then dstAny (F := F) (nb x c) (ends c j) else iprop(emp)) := fun j => by
    split <;> infer_instance
  infer_instance

/-- One round: a barrier cell's three duties, one per axis, of one unit each; a transfer cell's one duty of the transfer's credit. -/
def Rd : Rounds.Schedule (GSem nD τ sig) (Fin 3) 𝕄 where
  duties g r := if r = 0 ∧ g.1.2 = .tc then (match dec g.2 with | none => ∅ | some none => Finset.univ | some (some _) => {0}) else ∅
  unitless _ := False
  amount g _ _ := match dec g.2 with | some (some (_, j)) => amt j | _ => 1
  payload g _ d := match dec g.2 with
    | none => iprop(emp)
    | some none => bpay g.1.1 d
    | some (some (false, j)) => spay Gc g.1.1 j
    | some (some (true, j)) => lpay Gc (pr g.1.1 j) g.1.1 j
  amount_pos g _ _ _ := by
    show 0 < (match dec g.2 with | some (some (_, j)) => amt j | _ => 1)
    split
    · exact amt_pos _
    · exact Nat.one_pos

instance Rd_payload_storable (g : GSem nD τ sig) (r : ℕ) (d : Fin 3) : BI.Storable (upEmb : UEmb _ 𝕄) ((Rd Gc).payload g r d) := by
  show BI.Storable upEmb (match dec g.2 with
    | none => iprop(emp)
    | some none => bpay g.1.1 d
    | some (some (false, j)) => spay Gc g.1.1 j
    | some (some (true, j)) => lpay Gc (pr g.1.1 j) g.1.1 j : sProp 𝕄)
  split <;> infer_instance

variable (c : Dev nD) (j : Tr)

/-- The barrier's duties, one for each neighbour. -/
theorem duties_bar : (Rd Gc).duties (bar c) 0 = Finset.univ := by
  show (if 0 = 0 ∧ (c : Thread nD τ).2 = .tc then (match dec (csem none) with | none => ∅ | some none => (Finset.univ : Finset (Fin 3)) | some (some _) => {0}) else ∅) = _
  rw [dec_csem]; exact if_pos ⟨rfl, rfl⟩

/-- A transfer semaphore has a single duty. -/
theorem duties_tr (b : Bool) : (Rd Gc).duties (kc c (some (b, j))) 0 = {0} := by
  show (if 0 = 0 ∧ (c : Thread nD τ).2 = .tc then (match dec (csem (some (b, j))) with | none => ∅ | some none => (Finset.univ : Finset (Fin 3)) | some (some _) => {0}) else ∅) = _
  rw [dec_csem]; exact if_pos ⟨rfl, rfl⟩

/-- There are duties in the first round alone. -/
theorem duties_later (g : GSem nD τ sig) : ∀ r, 1 ≤ r → (Rd Gc).duties g r = ∅ := fun r hr => by
  dsimp only [Rd]; rw [if_neg fun h => by omega]

/-- A neighbour's signal counts one. -/
theorem amount_bar (d : Fin 3) : (Rd Gc).amount (bar c) 0 d = 1 := by
  show (match dec (csem none) with | some (some (_, j)) => amt j | _ => 1) = _
  rw [dec_csem]

/-- A transfer's signal counts its amount. -/
theorem amount_tr (b : Bool) (d : Fin 3) : (Rd Gc).amount (kc c (some (b, j))) 0 d = amt j := by
  show (match dec (csem (some (b, j))) with | some (some (_, j)) => amt j | _ => 1) = _
  rw [dec_csem]

/-- What a neighbour's signal brings. -/
theorem payload_bar (d : Fin 3) : (Rd Gc).payload (bar c) 0 d = bpay c d := by
  show (match dec (csem none) with
    | none => iprop(emp)
    | some none => bpay c d
    | some (some (false, j)) => spay Gc c j
    | some (some (true, j)) => lpay Gc (pr c j) c j : sProp 𝕄) = _
  rw [dec_csem]

/-- What a departure brings back. -/
theorem payload_s (d : Fin 3) : (Rd Gc).payload (sc c j) 0 d = spay Gc c j := by
  show (match dec (csem (some (false, j))) with
    | none => iprop(emp)
    | some none => bpay c d
    | some (some (false, j)) => spay Gc c j
    | some (some (true, j)) => lpay Gc (pr c j) c j : sProp 𝕄) = _
  rw [dec_csem]

/-- What an arrival brings. -/
theorem payload_r (d : Fin 3) : (Rd Gc).payload (rc c j) 0 d = lpay Gc (pr c j) c j := by
  show (match dec (csem (some (true, j))) with
    | none => iprop(emp)
    | some none => bpay c d
    | some (some (false, j)) => spay Gc c j
    | some (some (true, j)) => lpay Gc (pr c j) c j : sProp 𝕄) = _
  rw [dec_csem]

/-- The barrier waits for three. -/
theorem expect_bar : (Rd Gc).expect (bar c) 0 = 3 := by
  unfold Schedule.expect Schedule.amountOf
  rw [duties_bar, Finset.sum_congr rfl fun d _ => amount_bar Gc c d]; rfl

/-- A transfer's waits are for its amount. -/
theorem expect_tr (b : Bool) : (Rd Gc).expect (kc c (some (b, j))) 0 = amt j := by
  unfold Schedule.expect Schedule.amountOf; rw [duties_tr, Finset.sum_singleton, amount_tr]

/-- What the barrier's wait brings, of all the neighbours. -/
theorem rest_bar : bigSep ((Rd Gc).duties (bar c) 0 \ ∅) (fun d => (Rd Gc).payload (bar c) 0 d) = bigSep Finset.univ (bpay (F := F) c) := by
  rw [Finset.sdiff_empty, duties_bar]; exact bigSep_congr fun d _ => payload_bar Gc c d

/-- What a wait for a departure brings. -/
theorem rest_s : bigSep ((Rd Gc).duties (sc c j) 0 \ ∅) (fun d => (Rd Gc).payload (sc c j) 0 d) = spay Gc c j := by
  rw [Finset.sdiff_empty, duties_tr, bigSep_singleton, payload_s]

/-- What a wait for an arrival brings. -/
theorem rest_r : bigSep ((Rd Gc).duties (rc c j) 0 \ ∅) (fun d => (Rd Gc).payload (rc c j) 0 d) = lpay Gc (pr c j) c j := by
  rw [Finset.sdiff_empty, duties_tr, bigSep_singleton, payload_r]

/-- The landing places of all transfers, axis by axis. -/
theorem bpay_all : bigSep Finset.univ (bpay (F := F) c) = bigSep Finset.univ fun j => dstAny (F := F) (pr c j) (ends c j) := by
  unfold bpay
  rw [bigSep_univ_comm]
  refine bigSep_congr fun j _ => ?_
  rw [bigSep_univ_at _ (ax j), if_pos rfl, bigSep_congr (Ψ := fun _ => iprop(emp)) (fun x hx => if_neg (Finset.ne_of_mem_erase hx).symm),
    show bigSep (Finset.univ.erase (ax j)) (fun _ => (iprop(emp) : sProp 𝕄)) = iprop(emp) from bigSep_emp_const _]
  exact Entails.antisymm (sep_emp (PROP := sProp 𝕄)).1 (sep_emp (PROP := sProp 𝕄)).2

/-! ## Levels and what is owed -/

/-- An arrival's level: later stages are higher. -/
def rl (j : Tr) : ℕ := 2 + (if isG j then 3 else 0) + (stage j).val

def L (g : GSem nD τ sig) : Finset Unit := if g.1.2 = .tc then {()} else ∅
def lv (g : GSem nD τ sig) (_ : Unit) : ℕ := match dec g.2 with
  | none => 0
  | some none => 1
  | some (some (false, _)) => 0
  | some (some (true, j)) => rl j

/-- No obligations are counted away from the cores. -/
theorem L_of_ne (g : GSem nD τ sig) (h : g.1.2 ≠ .tc) : L g = ∅ := if_neg h

/-- One kind of obligation is counted on a core's counters. -/
theorem L_tc (c : Dev nD) (sm : SemLoc sig) : L ((c : Thread nD τ), sm) = {()} := if_pos rfl

/-- The barrier's level. -/
theorem lv_bar : lv (bar c) () = 1 := by
  show (match dec (csem none) with | none => 0 | some none => 1 | some (some (false, _)) => 0 | some (some (true, j)) => rl j) = _
  rw [dec_csem]

/-- An arrival's level. -/
theorem lv_r : lv (rc c j) () = rl j := by
  show (match dec (csem (some (true, j))) with | none => 0 | some none => 1 | some (some (false, _)) => 0 | some (some (true, j)) => rl j) = _
  rw [dec_csem]

/-- What device `c` owes when the first `n` of its transfers are started: the credit of the others' arrivals. -/
def owedN (c : Dev nD) (n : ℕ) : CellTallies nD τ sig Unit := ∑ j : Tr, if n ≤ spos j then tallyAt (rc (pr c j) j) () (amt j) else 0

/-- Starting a transfer discharges what was owed to its arrival. -/
theorem owedN_step {n : ℕ} (h : spos j = n) : owedN c n = owedN c (n + 1) + tallyAt (rc (pr c j) j) () (amt j) := by
  unfold owedN
  rw [← Finset.add_sum_erase _ _ (Finset.mem_univ j), ← Finset.add_sum_erase Finset.univ (fun j : Tr => if n + 1 ≤ spos j then tallyAt (rc (pr c j) j) () (amt j) else 0) (Finset.mem_univ j),
    if_pos (by omega), if_neg (by omega), zero_add, add_comm]
  congr 1
  refine Finset.sum_congr rfl fun i hi => ?_
  have : spos i ≠ n := fun hh => Finset.ne_of_mem_erase hi (spos_inj (hh.trans h.symm))
  by_cases hh : n ≤ spos i
  · rw [if_pos hh, if_pos (by omega)]
  · rw [if_neg hh, if_neg (by omega)]

/-- Once all 31 are started nothing is owed. -/
theorem owedN_all : owedN c 31 = 0 := Finset.sum_eq_zero fun j _ => if_neg (by cases j <;> decide)

/-- What is still owed is owed to an arrival not yet started. -/
theorem owedN_pos {n : ℕ} {g : GSem nD τ sig} {u : Unit} (h : 0 < owedN c n g u) : ∃ j, n ≤ spos j ∧ g = rc (pr c j) j := by
  unfold owedN at h
  rw [Finset.sum_apply, Finsupp.finset_sum_apply] at h
  obtain ⟨j, -, hj⟩ := Finset.exists_ne_zero_of_sum_ne_zero (Nat.pos_iff_ne_zero.mp h)
  refine ⟨j, ?_⟩
  by_cases hn : n ≤ spos j
  · refine ⟨hn, ?_⟩
    rw [if_pos hn, tallyAt_apply] at hj
    by_contra hg
    exact hj (if_neg fun hh => hg hh.1)
  · rw [if_neg hn] at hj; exact absurd rfl hj

/-- A wait under everything still owed is allowed. -/
theorem mayWait_owed (sm : SemLoc sig) (n : ℕ) (b : ℕ) (hb : lv ((c : Thread nD τ), sm) () ≤ b) (hn : ∀ j, n ≤ spos j → b < rl j) :
    (levAts L lv : sProp 𝕄) ⊢ MayWait (c : Thread nD τ) sm () (owedN c n) :=
  MayOwe.of_cut (L := L) (lev := lv) b (fun p hp => by rw [Finset.mem_singleton.mp hp, L_tc]; exact Finset.mem_singleton_self _)
    (fun g u hg => by obtain ⟨j, _, rfl⟩ := owedN_pos c hg; exact Finset.mem_singleton_self _)
    (fun p hp => by rw [Finset.mem_singleton.mp hp]; exact hb)
    (fun g u hg => by obtain ⟨j, hj, rfl⟩ := owedN_pos c hg; rw [show u = () from rfl, lv_r]; exact hn j hj)

/-! ## A device's protocol state -/

variable (K : Dev nD × CI → ℕ)

/-- What starting the transfer `j` takes, its landing place apart. -/
def ticket0 (c : Dev nD) (j : Tr) : sProp 𝕄 :=
  iprop(cellInv ER (Rd Gc) (K (c, some (false, j))) (sc c j) ∗ cellInv ER (Rd Gc) (K (pr c j, some (true, j))) (rc (pr c j) j)
    ∗ dutyTok ER (sc c j) 0 0 ∗ reached ER (sc c j) 0 ∗ dutyTok ER (rc (pr c j) j) 0 0 ∗ reached ER (rc (pr c j) j) 0 ∗ atPos ER (sc c j) 0 ∅ 0)
def ticket (c : Dev nD) (j : Tr) : sProp 𝕄 := iprop(ticket0 Gc K c j ∗ dstAny (pr c j) (ends c j))
/-- The transfer `j` started: what waiting for its departure takes. -/
def sent (c : Dev nD) (j : Tr) : sProp 𝕄 :=
  iprop(cellInv ER (Rd Gc) (K (c, some (false, j))) (sc c j) ∗ atPos ER (sc c j) 0 ∅ 0 ∗ cred (tallyAt (sc c j) () (amt j)))
/-- What waiting for the arrival of the transfer `j` takes. -/
def pending (c : Dev nD) (j : Tr) : sProp 𝕄 :=
  iprop(cellInv ER (Rd Gc) (K (c, some (true, j))) (rc c j) ∗ atPos ER (rc c j) 0 ∅ 0 ∗ cred (tallyAt (rc c j) () (amt j)))
def rdone (c : Dev nD) (j : Tr) : sProp 𝕄 := semVal (rc c j) 0
def fdone (c : Dev nD) (j : Tr) : sProp 𝕄 := iprop(semVal (sc c j) 0 ∗ spay Gc c j)

/-- `n` transfers started, `r` arrivals waited for. -/
def CS (c : Dev nD) (n r : ℕ) : sProp 𝕄 :=
  iprop((∃ W, owes (c : Thread nD τ) (owedN c n) W) ∗ levAts L lv ∗ stp spos (sent Gc K c) (ticket Gc K c) n ∗ stp rpos (rdone c) (pending Gc K c) r)
/-- Everything started and arrived, `f` departures waited for. -/
def FS (c : Dev nD) (f : ℕ) : sProp 𝕄 :=
  iprop((∃ W, owes (c : Thread nD τ) 0 W) ∗ stp fpos (fdone Gc c) (sent Gc K c) f ∗ bigSep Finset.univ (rdone (F := F) c))

/-- After all transfers are started and all arrivals taken, only the departures remain. -/
theorem CS_FS : CS Gc K c 31 31 ⊢ FS Gc K c 0 := by
  unfold CS FS
  rw [owedN_all, stp_all (p := spos) (fun j => by cases j <;> decide), stp_all (p := rpos) (fun j => by cases j <;> decide), stp_zero]
  iintro ⟨H1, -, H2, H3⟩
  isplitl [H1]; · iexact H1
  isplitl [H2] <;> iassumption

/-- Start the transfer `j`, whose source is held at the share it takes. -/
theorem wp_sendT (n r : ℕ) (hj : spos j = n) {α : Type} {Q : α → sProp 𝕄} {k : PUnit → Pg F α} :
    iprop(CS Gc K c n r ∗ spay Gc c j) ⊢ iprop((CS Gc K c (n + 1) r -∗ wpc c (k ⟨⟩) Q) -∗ wpc c (sendT c j >>= k) Q) := by
  unfold sendT
  rw [peer_eq c j]
  unfold sendTo wpc
  simp only [Prog.lift, Prog.bind_op, Prog.bind_ret]
  unfold CS
  iintro ⟨⟨⟨%W, HO⟩, Hlev, HS, HR⟩, Hsrc⟩ Hk
  ihave H := (stp_step spos_inj hj) $$ HS
  icases H with ⟨Ht, HS⟩
  unfold ticket ticket0 dstAny
  icases Ht with ⟨⟨#HIs, #HIr, Htks, #Hrs, Htkr, #Hrr, Hat⟩, ⟨%h, Hdst⟩⟩
  unfold spay owns
  icases Hsrc with ⟨%fs, %hfs, Hsrc⟩
  icases Hdst with ⟨%fd, %hfd, Hdst⟩
  iapply (Rounds.wp_send_pointsTo 𝒱₀ ER (Rd Gc) (c : Thread nD τ) none (κ₁ := K (c, some (false, j))) (κ₂ := K (pr c j, some (true, j)))
    (r₁ := 0) (r₂ := 0) (d₁ := 0) (d₂ := 0) (fs := fs) (fd := fd) (q := shr j)
    (by erw [duties_tr Gc c j false]; exact Finset.mem_singleton_self _) (by erw [duties_tr Gc (pr c j) j true]; exact Finset.mem_singleton_self _)
    () () (amt j) (show (ends c j).dst.view.amount (.dma (rsem j)) = amt j from amt_eq c j) (amount_tr Gc c j false 0) (amount_tr Gc (pr c j) j true 0) (owedN c (n + 1)) (owedN_step c j hj) (W := W)
    (by erw [payload_s Gc c j 0]; unfold spay owns; iintro H; iexists fs; isplitr; · (ipureintro; exact hfs)
        iexact H)
    (by erw [payload_r Gc (pr c j) j 0]; rw [pr_pr]; unfold lpay owns; iintro H; iexists _; isplitr
        swap; · iexact H
        ipureintro
        rw [hfs]
        exact View.read_write_univ _ _)) $$ [HO Htks Htkr Hsrc Hdst]
  · isplitr; · iexact HIs
    isplitr; · iexact HIr
    isplitl [Hsrc]; · iexact Hsrc
    isplitl [Hdst]; · iexact Hdst
    isplitl [HO]; · iexact HO
    isplitl [Htks]; · iexact Htks
    isplitr; · iexact Hrs
    isplitl [Htkr]; · iexact Htkr
    iexact Hrr
  iintro ⟨Hc, HO⟩
  iapply Hk
  isplitl [HO]; · iexists W; iexact HO
  isplitl [Hlev]; · iexact Hlev
  isplitr [HR]
  · iapply HS
    unfold sent
    isplitr; · iexact HIs
    isplitl [Hat]; · iexact Hat
    iexact Hc
  iexact HR

/-- Wait for the arrival of the transfer `j`, the wait naming any memref of its size. -/
theorem wp_recvM (n r : ℕ) (hj : rpos j = r) (hn : ∀ i, n ≤ spos i → rl j < rl i) {s : Shape} (m : Memref sig .tc .vmem s .bf16) (h : m.view.WordExact)
    (hm : m.view.dmaCredit = amt j) {α : Type} {Q : α → sProp 𝕄} {k : PUnit → Pg F α} :
    CS Gc K c n r ⊢ iprop((iprop(CS Gc K c n (r + 1) ∗ lpay Gc (pr c j) c j) -∗ wpc c (k ⟨⟩) Q) -∗ wpc c (waitM (rsem j) m h >>= k) Q) := by
  unfold waitM wpc
  simp only [Prog.lift, Prog.bind_op, Prog.bind_ret]
  unfold CS
  iintro ⟨⟨%W, HO⟩, #Hlev, HS, HR⟩ Hk
  ihave H := (stp_step rpos_inj hj) $$ HR
  icases H with ⟨Ht, HR⟩
  unfold pending
  icases Ht with ⟨#HI, Hat, Hc⟩
  iapply (Rounds.wp_wait_rest_token 𝒱₀ ER (Rd Gc) (c : Thread nD τ) none (κ := K (c, some (true, j)))
      (wpE_waitDma2_eq 𝒱₀ (c : Thread nD τ) none Set.univ) (Set.mem_univ _) () (O := owedN c n) (W := W) (R := 0) (m := 0) (T := ∅)
      (by rw [Nat.zero_add, hm]; exact (expect_tr Gc c j true).symm)) $$ [Hc HO Hat]
  · isplitr; · iexact HI
    isplitl [Hc]; · rw [hm]; iexact Hc
    isplitl [HO]; · iexact HO
    isplitr; · iapply (mayWait_owed c _ n (rl j) (le_of_eq (lv_r c j)) hn); iexact Hlev
    iexact Hat
  iintro ⟨HO, Hat, -, Hpay⟩
  ihave Hpay := (Entails.of_eq (show bigSep ((Rd Gc).duties ((c : Thread nD τ), SemLoc.dma (rsem j)) 0 \ ∅) (fun d => (Rd Gc).payload ((c : Thread nD τ), SemLoc.dma (rsem j)) 0 d) = _ from rest_r Gc c j)) $$ Hpay
  imod (Rounds.cell_close ER (Rd Gc) (Set.mem_univ (K (c, some (true, j)))) (fun h => h) (R := 0 + 1) (duties_later Gc (rc c j))) $$ [Hat] with Hz
  · isplitr; · iexact HI
    iexact Hat
  iapply Hk
  isplitr [Hpay]
  · isplitl [HO]; · iexists _; iexact HO
    isplitr; · iexact Hlev
    isplitl [HS]; · iexact HS
    iapply HR
    unfold rdone
    iexact Hz
  iexact Hpay

/-- Wait for the departure of the transfer `j`. -/
theorem wp_sentM (f : ℕ) (hj : fpos j = f) {s : Shape} (m : Memref sig .tc .vmem s .bf16) (h : m.view.WordExact)
    (hm : m.view.dmaCredit = amt j) {α : Type} {Q : α → sProp 𝕄} {k : PUnit → Pg F α} :
    FS Gc K c f ⊢ iprop((FS Gc K c (f + 1) -∗ wpc c (k ⟨⟩) Q) -∗ wpc c (sentM j m h >>= k) Q) := by
  unfold sentM waitM wpc
  simp only [Prog.lift, Prog.bind_op, Prog.bind_ret]
  unfold FS
  iintro ⟨⟨%W, HO⟩, HS, HR⟩ Hk
  ihave H := (stp_step fpos_inj hj) $$ HS
  icases H with ⟨Ht, HS⟩
  unfold sent
  icases Ht with ⟨#HI, Hat, Hc⟩
  iapply (Rounds.wp_wait_rest_token 𝒱₀ ER (Rd Gc) (c : Thread nD τ) none (κ := K (c, some (false, j)))
      (wpE_waitDma2_eq 𝒱₀ (c : Thread nD τ) none Set.univ) (Set.mem_univ _) () (O := 0) (W := W) (R := 0) (m := 0) (T := ∅)
      (by rw [Nat.zero_add, hm]; exact (expect_tr Gc c j false).symm)) $$ [Hc HO Hat]
  · isplitr; · iexact HI
    isplitl [Hc]; · rw [hm]; iexact Hc
    isplitl [HO]; · iexact HO
    isplitr; · rw [MayWait_zero]; iempintro
    iexact Hat
  iintro ⟨HO, Hat, -, Hpay⟩
  ihave Hpay := (Entails.of_eq (show bigSep ((Rd Gc).duties ((c : Thread nD τ), SemLoc.dma (ssem j)) 0 \ ∅) (fun d => (Rd Gc).payload ((c : Thread nD τ), SemLoc.dma (ssem j)) 0 d) = _ from rest_s Gc c j)) $$ Hpay
  imod (Rounds.cell_close ER (Rd Gc) (Set.mem_univ (K (c, some (false, j)))) (fun h => h) (R := 0 + 1) (duties_later Gc (sc c j))) $$ [Hat] with Hz
  · isplitr; · iexact HI
    iexact Hat
  iapply Hk
  isplitl [HO]; · iexists _; iexact HO
  isplitr [HR]
  · iapply HS
    unfold fdone
    isplitl [Hz] <;> iassumption
  iexact HR

end Sched

end Cert.KernelIdeal.Moe
-- ==== Proof.Vals.lean ====
module

public import proofs.«01_k».proof.Proof.Sched

@[expose] public section

noncomputable section

/-! # What the buffers hold

The values of a run as functions of the devices' inputs, over any float values: the local sums in the blocks a
device computes them in, the partial sums after each exchange, the rows each device finishes, and the output. -/

namespace Cert.KernelIdeal.Moe

open Cert.KernelIdeal.Gen
open Idealize.ShloMosaic Idealize.ShloMosaic.TcCoe

variable {F : FTy → Type} [FloatOps F]

/-- The devices' inputs. -/
structure Inp (F : FTy → Type) [FloatOps F] where
  x : Dev nD → Vec F S1024x512 .f32
  rw : Dev nD → Vec F S512x32 .f32
  ix : Dev nD → Vec F S1024x1 .i32
  ew : Dev nD → Vec F S4x512x1024 .f32
  sw : Dev nD → Vec F S512x1024 .f32

variable (I : Inp F) (c : Dev nD)

/-- The rounded tokens. -/
def hV : Vec F S1024x512 .bf16 := k0_pay2 (I.x c)
/-- Each token's routed probability. -/
def gV : Vec F S1024x1 .f32 := k0_pay4 (k0_pay3 (I.x c) (I.rw c)) (I.ix c)

/-- Columns `[col, col + W)` of the device's `k`-th expert. -/
def ewb {W : ℕ} (k col : ℕ) (hk : k < 4) (hcol : col + W ≤ 1024) : Vec F ⟨3, ![1, 512, W]⟩ .f32 :=
  fun j => I.ew c ((Rect.unit (s := S4x512x1024) ![k, 0, col] ![1, 512, W] (winb k col hk hcol)).emb j)

section Blk
variable {R W : ℕ} (dot : DotDims ⟨2, ![R, 512]⟩ ⟨2, ![512, W]⟩ ⟨2, ![R, W]⟩)
  (hc : (⟨3, ![1, 512, W]⟩ : Shape).ShapeCasts ⟨2, ![512, W]⟩)
  (hi : (⟨2, ![R, 1]⟩ : Shape).ShapeCasts ⟨2, ![R, 1]⟩)
  (ho : (⟨2, ![R, W]⟩ : Shape).ShapeCasts ⟨2, ![R, W]⟩)
  (hb : (⟨2, ![R, 1]⟩ : Shape).Broadcasts ⟨2, ![R, W]⟩)

/-- The block of the local sum at rows from `r` and columns from `col`. -/
def blk (col : ℕ) (hcol : col + W ≤ 1024) (r : ℕ) : Vec F ⟨2, ![R, W]⟩ .bf16 :=
  compVal dot hc hi ho hb (v2 c) (fun j => hV I c (ix2 (r + j 0) (0 + j 1))) (fun j => I.ix c (ix2 (r + j 0) (0 + j 1)))
    (fun j => gV I c (ix2 (r + j 0) (0 + j 1))) (ewb I c 0 col (by decide) hcol) (ewb I c 1 col (by decide) hcol)
    (ewb I c 2 col (by decide) hcol) (ewb I c 3 col (by decide) hcol)
end Blk

def blk512 (col : ℕ) (hcol : col + 384 ≤ 1024) (r : ℕ) : Vec F S512x384 .bf16 :=
  blk I c dot_S512x512_S512x384_S512x384_1_0_0_1_n_n shapeCasts_S1x512x384_S512x384 shapeCasts_S512x1_S512x1
    shapeCasts_S512x384_S512x384 broadcasts_S512x1_S512x384 col hcol r
def blk256 (col : ℕ) (hcol : col + 384 ≤ 1024) (r : ℕ) : Vec F S256x384 .bf16 :=
  blk I c dot_S256x512_S512x384_S256x384_1_0_0_1_n_n shapeCasts_S1x512x384_S512x384 shapeCasts_S256x1_S256x1
    shapeCasts_S256x384_S256x384 broadcasts_S256x1_S256x384 col hcol r
def blk128 (r : ℕ) : Vec F S128x256 .bf16 :=
  blk I c dot_S128x512_S512x256_S128x256_1_0_0_1_n_n shapeCasts_S1x512x256_S512x256 shapeCasts_S128x1_S128x1
    shapeCasts_S128x256_S128x256 broadcasts_S128x1_S128x256 768 (by decide) r

/-- The local sum of device `c`'s experts. -/
def P0 (i : S1024x1024.Idx) : Elt F .bf16 :=
  if (i 1 : ℕ) < 384 then
    if (i 0 : ℕ) / 512 = b4 c then blk512 I c 0 (by decide) (512 * b4 c) (ix2 (i 0 : ℕ) (i 1 : ℕ))
    else blk256 I c 0 (by decide) (256 * ((i 0 : ℕ) / 256)) (ix2 (i 0 : ℕ) (i 1 : ℕ))
  else if (i 1 : ℕ) < 768 then blk256 I c 384 (by decide) (256 * ((i 0 : ℕ) / 256)) (ix2 (i 0 : ℕ) ((i 1 : ℕ) - 384))
  else blk128 I c (128 * ((i 0 : ℕ) / 128)) (ix2 (i 0 : ℕ) ((i 1 : ℕ) - 768))

/-- A column's group. -/
def grp (k : ℕ) : Fin 3 := if k < 384 then 0 else if k < 768 then 1 else 2

/-- The axis a column group is exchanged along at each stage. -/
def axs : Fin 3 → ℕ → Fin 3
  | 0, 0 => 2
  | 0, 1 => 1
  | 0, _ => 0
  | 1, 0 => 1
  | 1, 1 => 0
  | 1, _ => 2
  | 2, 0 => 0
  | 2, 1 => 2
  | 2, _ => 1

/-- A transfer of the reduction goes along its column group's axis at its stage. -/
theorem ax_eq (j : Tr) (h : isG j = false) : ax j = axs (gr j) (stage j) := by
  cases j <;> first | rfl | exact absurd h (by decide)

/-- The partial sums after `s` exchanges. -/
def P : ℕ → Dev nD → FVec F S1024x1024 .bf16
  | 0, c => P0 I c
  | s + 1, c => addf (P s c) (fun i => P s (nb (axs (grp (i 1 : ℕ)) s) c) i)

/-- The shared expert on the rows device `c` finishes. -/
def shV : FVec F S128x1024 .f32 :=
  k0_pay88 (fun j => I.x c (ix2 (128 * ell c + j 0) (0 + j 1))) (fun j => I.sw c (ix2 (0 + j 0) (0 + j 1)))

/-- The finished rows, on their device. -/
def VO : FVec F S1024x1024 .f32 :=
  addf (extf .f32 (P I 3 c) bitsLt_bf16_f32) (fun i => shV I c (ix2 ((i 0 : ℕ) - 128 * ell c) (i 1 : ℕ)))

/-- The gathered result. -/
def GB : FVec F S1024x1024 .bf16 := fun i => truncf .bf16 (VO I (owner ((i 0 : ℕ) / 128))) bitsLt_bf16_f32 i

/-- The output of device `c`. -/
def OUT : FVec F S1024x1024 .f32 := fun i => if (i 0 : ℕ) / 128 = ell c then VO I c i else extf .f32 (GB I) bitsLt_bf16_f32 i

/-- What the transfers carry. -/
def Gc (j : Tr) (c : Dev nD) : S1024x1024.Idx → Elt F .bf16 := if isG j then GB I else P I (stage j) c

/-- A transfer of the reduction carries the partial sums of its stage. -/
theorem Gc_red {j : Tr} (h : isG j = false) : Gc I j c = P I (stage j) c := if_neg (by rw [h]; decide)

/-- A transfer of the gather carries the gathered result. -/
theorem Gc_gat {j : Tr} (h : isG j = true) : Gc I j c = GB I := if_pos h

/-! ## The local sum, block by block -/

variable {a : ℕ}

/-- The block of four chunks of column group A is the local sum there. -/
theorem P0_512 (j : S512x384.Idx) : blk512 I c 0 (by decide) (128 * (4 * b4 c)) j = P0 I c (ix2 (128 * (4 * b4 c) + j 0) (lo 0 + j 1)) := by
  have h0 : (j 0 : ℕ) < 512 := (j 0).isLt
  have h1 : (j 1 : ℕ) < 384 := (j 1).isLt
  have hb : b4 c < 2 := by have := ell_lt c; show ell c / 4 < 2; omega
  have e0 := ix2_0 (n0 := 1024) (n1 := 1024) (r := 128 * (4 * b4 c) + j 0) (k := lo 0 + j 1) (by omega)
  have e1 := ix2_1 (n0 := 1024) (n1 := 1024) (r := 128 * (4 * b4 c) + j 0) (k := lo 0 + j 1) (by show 384 * 0 + _ < _; omega)
  unfold P0
  rw [e0, e1, if_pos (by show 384 * 0 + _ < _; omega), if_pos (by omega), show 128 * (4 * b4 c) = 512 * b4 c by omega]
  congr 1
  refine idx_ext ?_ ?_
  · show _ = (512 * b4 c + (j 0 : ℕ)) % 512; omega
  · show _ = (384 * 0 + (j 1 : ℕ)) % 384; omega

/-- A block of two chunks of column group A is the local sum there. -/
theorem P0_256A (ha : a % 2 = 0) (h8 : a + 2 ≤ 8) (hb : a / 4 ≠ b4 c) (j : S256x384.Idx) :
    blk256 I c 0 (by decide) (128 * a) j = P0 I c (ix2 (128 * a + j 0) (lo 0 + j 1)) := by
  have h0 : (j 0 : ℕ) < 256 := (j 0).isLt
  have h1 : (j 1 : ℕ) < 384 := (j 1).isLt
  have e0 := ix2_0 (n0 := 1024) (n1 := 1024) (r := 128 * a + j 0) (k := lo 0 + j 1) (by omega)
  have e1 := ix2_1 (n0 := 1024) (n1 := 1024) (r := 128 * a + j 0) (k := lo 0 + j 1) (by show 384 * 0 + _ < _; omega)
  unfold P0
  rw [e0, e1, if_pos (by show 384 * 0 + _ < _; omega), if_neg (by omega), show 256 * ((128 * a + (j 0 : ℕ)) / 256) = 128 * a by omega]
  congr 1
  refine idx_ext ?_ ?_
  · show _ = (128 * a + (j 0 : ℕ)) % 256; omega
  · show _ = (384 * 0 + (j 1 : ℕ)) % 384; omega

/-- A block of two chunks of column group B is the local sum there. -/
theorem P0_256B (ha : a % 2 = 0) (h8 : a + 2 ≤ 8) (j : S256x384.Idx) :
    blk256 I c 384 (by decide) (128 * a) j = P0 I c (ix2 (128 * a + j 0) (lo 1 + j 1)) := by
  have h0 : (j 0 : ℕ) < 256 := (j 0).isLt
  have h1 : (j 1 : ℕ) < 384 := (j 1).isLt
  have hl : lo 1 = 384 := rfl
  have e0 := ix2_0 (n0 := 1024) (n1 := 1024) (r := 128 * a + j 0) (k := lo 1 + j 1) (by omega)
  have e1 := ix2_1 (n0 := 1024) (n1 := 1024) (r := 128 * a + j 0) (k := lo 1 + j 1) (by omega)
  unfold P0
  rw [e0, e1, if_neg (by omega), if_pos (by omega), show 256 * ((128 * a + (j 0 : ℕ)) / 256) = 128 * a by omega]
  congr 1
  refine idx_ext ?_ ?_
  · show _ = (128 * a + (j 0 : ℕ)) % 256; omega
  · show _ = (lo 1 + (j 1 : ℕ) - 384) % 384; omega

/-- A block of one chunk of column group C is the local sum there. -/
theorem P0_128 (h8 : a + 1 ≤ 8) (j : S128x256.Idx) :
    blk128 I c (128 * a) j = P0 I c (ix2 (128 * a + j 0) (lo 2 + j 1)) := by
  have h0 : (j 0 : ℕ) < 128 := (j 0).isLt
  have h1 : (j 1 : ℕ) < 256 := (j 1).isLt
  have hl : lo 2 = 768 := rfl
  have e0 := ix2_0 (n0 := 1024) (n1 := 1024) (r := 128 * a + j 0) (k := lo 2 + j 1) (by omega)
  have e1 := ix2_1 (n0 := 1024) (n1 := 1024) (r := 128 * a + j 0) (k := lo 2 + j 1) (by omega)
  unfold P0
  rw [e0, e1, if_neg (by omega), if_neg (by omega), show 128 * ((128 * a + (j 0 : ℕ)) / 128) = 128 * a by omega]
  congr 1
  refine idx_ext ?_ ?_
  · show _ = (128 * a + (j 0 : ℕ)) % 128; omega
  · show _ = (lo 2 + (j 1 : ℕ) - 768) % 256; omega

/-- A column counted from a group's first column is in that group. -/
theorem grp_lo (X : Fin 3) {k : ℕ} (h : k < wd X) : grp (lo X + k) = X := by
  have e : lo 0 = 0 ∧ lo 1 = 384 ∧ lo 2 = 768 ∧ wd 0 = 384 ∧ wd 1 = 384 ∧ wd 2 = 256 := by decide
  unfold grp
  fin_cases X
  · change k < wd 0 at h; change (if lo 0 + k < 384 then _ else _) = _; rw [if_pos (by omega)]; rfl
  · change k < wd 1 at h; change (if lo 1 + k < 384 then _ else if lo 1 + k < 768 then _ else _) = _; rw [if_neg (by omega), if_pos (by omega)]; rfl
  · change k < wd 2 at h; change (if lo 2 + k < 384 then _ else if lo 2 + k < 768 then _ else _) = _; rw [if_neg (by omega), if_neg (by omega)]; rfl

/-- A column group lies within the columns. -/
theorem lo_wd (X : Fin 3) : lo X + wd X ≤ 1024 := by revert X; decide

end Cert.KernelIdeal.Moe
-- ==== Proof.Steps.lean ====
module

public import proofs.«01_k».proof.Proof.Vals
public import Idealize.ShloMosaic.Lib.Pipeline.Value

@[expose] public section

noncomputable section

/-! # The steps of the body

One rule per kind of step, each saying what it takes and what it leaves, of whole chunks of a column group. -/

namespace Cert.KernelIdeal.Moe

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CI → ℕ) (c : Dev nD)

/-- A phase, then the rest. -/
theorem wp_then {Pre Post : sProp 𝕄} {p : Pg F PUnit} (h : Pre ⊢ wpc c p (fun _ => Post)) {α : Type} {Q : α → sProp 𝕄} {k : PUnit → Pg F α} :
    Pre ⊢ iprop((Post -∗ wpc c (k ⟨⟩) Q) -∗ wpc c (p >>= k) Q) := by
  unfold wpc at h ⊢
  rw [wp_bind]
  refine h.trans ?_
  iintro H Hk
  iapply (wp_wand frame (wpE (defs₀ (F := F)) 𝒱₀ (c : Thread nD τ) none)) $$ H
  iintro %a H
  iapply Hk
  iexact H

/-- The end of a phase. -/
theorem wpc_pure {α : Type} (a : α) {Q : α → sProp 𝕄} : Q a ⊢ wpc c (pure a) Q := by
  unfold wpc
  rw [wp_pure]
  iintro H
  imodintro
  iexact H

/-- The last step of a phase, as one that something follows. -/
theorem wpc_last {α : Type} {p : Pg F α} {Q : α → sProp 𝕄} : wpc c (p >>= fun a => pure a) Q ⊢ wpc c p Q := by
  rw [bind_pure]

/-! ## Tiles -/

section Tile
variable {e : EltTy} (m : Memref sig .tc .vmem S1024x1024 e) {q : PosShare TreeShare} {X : Fin 3} {T T1 T2 : Finset (Fin 8)} {g : S1024x1024.Idx → Elt F e}

/-- A tile splits over disjoint sets of chunks. -/
theorem tile_split (h : T = T1 ∪ T2) (hd : Disjoint T1 T2) : (own c m q (tl X T) g : sProp 𝕄) ⊢ iprop(own c m q (tl X T1) g ∗ own c m q (tl X T2) g) := by
  subst h; rw [tl_union]; exact own_split c m (tl_disj X hd)

/-- A tile joins over disjoint sets of chunks. -/
theorem tile_join (h : T = T1 ∪ T2) (hd : Disjoint T1 T2) : iprop(own c m q (tl X T1) g ∗ own c m q (tl X T2) g) ⊢ (own c m q (tl X T) g : sProp 𝕄) := by
  subst h; rw [tl_union]; exact own_join c m (tl_disj X hd)

/-- A tile without contents splits over disjoint sets of chunks. -/
theorem junkT_split (h : T = T1 ∪ T2) (hd : Disjoint T1 T2) : (junk c m q (tl X T) : sProp 𝕄) ⊢ iprop(junk c m q (tl X T1) ∗ junk c m q (tl X T2)) := by
  subst h; rw [tl_union]; exact junk_split c m (tl_disj X hd)

/-- A tile without contents joins over disjoint sets of chunks. -/
theorem junkT_join (h : T = T1 ∪ T2) (hd : Disjoint T1 T2) : iprop(junk c m q (tl X T1) ∗ junk c m q (tl X T2)) ⊢ (junk c m q (tl X T) : sProp 𝕄) := by
  subst h; rw [tl_union]; exact junk_join c m (tl_disj X hd)

/-- The three column groups are the buffer. -/
theorem junk_groups : (junk c m q Finset.univ : sProp 𝕄) ⊢ iprop(junk c m q (tl 0 Finset.univ) ∗ junk c m q (tl 1 Finset.univ) ∗ junk c m q (tl 2 Finset.univ)) := by
  rw [← tl_univ]
  have h12 : Disjoint (tl 0 Finset.univ ∪ tl 1 Finset.univ) (tl 2 Finset.univ) :=
    Finset.disjoint_union_left.mpr ⟨tl_disj' (by decide) _ _, tl_disj' (by decide) _ _⟩
  iintro H
  ihave H := (junk_split c m h12) $$ H
  icases H with ⟨H, H3⟩
  ihave H := (junk_split c m (tl_disj' (by decide) _ _)) $$ H
  icases H with ⟨H1, H2⟩
  isplitl [H1]; · iexact H1
  isplitl [H2] <;> iassumption

/-- The three column groups make the buffer, no contents said. -/
theorem junk_ungroups : iprop(junk c m q (tl 0 Finset.univ) ∗ junk c m q (tl 1 Finset.univ) ∗ junk c m q (tl 2 Finset.univ)) ⊢ (junk c m q Finset.univ : sProp 𝕄) := by
  have h12 : Disjoint (tl 0 Finset.univ ∪ tl 1 Finset.univ) (tl 2 Finset.univ) :=
    Finset.disjoint_union_left.mpr ⟨tl_disj' (by decide) _ _, tl_disj' (by decide) _ _⟩
  rw [← tl_univ]
  iintro ⟨H1, H2, H3⟩
  iapply (junk_join c m h12)
  isplitr [H3]
  · iapply (junk_join c m (tl_disj' (by decide) _ _))
    isplitl [H1] <;> iassumption
  iexact H3

/-- The three column groups make the buffer with its contents. -/
theorem own_ungroups : iprop(own c m q (tl 0 Finset.univ) g ∗ own c m q (tl 1 Finset.univ) g ∗ own c m q (tl 2 Finset.univ) g) ⊢ (own c m q Finset.univ g : sProp 𝕄) := by
  have h12 : Disjoint (tl 0 Finset.univ ∪ tl 1 Finset.univ) (tl 2 Finset.univ) :=
    Finset.disjoint_union_left.mpr ⟨tl_disj' (by decide) _ _, tl_disj' (by decide) _ _⟩
  rw [← tl_univ]
  iintro ⟨H1, H2, H3⟩
  iapply (own_join c m h12)
  isplitr [H3]
  · iapply (own_join c m (tl_disj' (by decide) _ _))
    isplitl [H1] <;> iassumption
  iexact H3
end Tile

/-- `n` chunks from `a` of column group `X` of the partial sums, after `s` exchanges. -/
abbrev pt (X : Fin 3) (a n s : ℕ) : sProp 𝕄 := own c pM fullShare (tl X (ch a n)) (P I s c)
/-- The same chunks, at anything. -/
abbrev pj (X : Fin 3) (a n : ℕ) : sProp 𝕄 := junk (F := F) c pM fullShare (tl X (ch a n))
/-- Chunks of the gathered result. -/
abbrev gt (q : PosShare TreeShare) (X : Fin 3) (a n : ℕ) : sProp 𝕄 := own c gM q (tl X (ch a n)) (GB I)
abbrev gj (X : Fin 3) (a n : ℕ) : sProp 𝕄 := junk (F := F) c gM fullShare (tl X (ch a n))
/-- Chunks of the output. -/
abbrev ot (X : Fin 3) (a n : ℕ) : sProp 𝕄 := own c oM fullShare (tl X (ch a n)) (OUT I c)
abbrev oj (X : Fin 3) (a n : ℕ) : sProp 𝕄 := junk (F := F) c oM fullShare (tl X (ch a n))

/-! ## The local sum -/

/-- What the local sum reads. -/
def Env : sProp 𝕄 :=
  iprop(own c hM fullShare Finset.univ (hV I c) ∗ own c ixM fullShare Finset.univ (I.ix c) ∗ own c gtM fullShare Finset.univ (gV I c)
    ∗ own c ewM fullShare Finset.univ (I.ew c))

section Comp
variable {R W : ℕ} [NeZero R] [NeZero W] (dot : DotDims ⟨2, ![R, 512]⟩ ⟨2, ![512, W]⟩ ⟨2, ![R, W]⟩)
  (hc : (⟨3, ![1, 512, W]⟩ : Shape).ShapeCasts ⟨2, ![512, W]⟩)
  (hi : (⟨2, ![R, 1]⟩ : Shape).ShapeCasts ⟨2, ![R, 1]⟩)
  (ho : (⟨2, ![R, W]⟩ : Shape).ShapeCasts ⟨2, ![R, W]⟩)
  (hb : (⟨2, ![R, 1]⟩ : Shape).Broadcasts ⟨2, ![R, W]⟩)
  (hR : 0 < (⟨2, ![R, 512]⟩ : Shape).numel) (hR1 : 0 < (⟨2, ![R, 1]⟩ : Shape).numel)
  (hW : 0 < (⟨3, ![1, 512, W]⟩ : Shape).numel) (hRW : 0 < (⟨2, ![R, W]⟩ : Shape).numel)

/-- A block of the local sum: computed and stored where anything was. -/
theorem wp_compStep (col : ℕ) (hcol : col + W ≤ 1024)
    (offx : Fin 2 → ℕ) (hx : ∀ a, offx a + (![R, 512] : Fin 2 → ℕ) a ≤ S1024x512.size a)
    (offi : Fin 2 → ℕ) (hii : ∀ a, offi a + (![R, 1] : Fin 2 → ℕ) a ≤ S1024x1.size a)
    (offp : Fin 2 → ℕ) (hp : ∀ a, offp a + (![R, W] : Fin 2 → ℕ) a ≤ S1024x1024.size a)
    (hs : (pM.access (Rect.unit (s := S1024x1024) offp ![R, W] hp)).Stores Finset.univ)
    {a n : ℕ} (X : Fin 3) (hox : offx = ![128 * a, 0]) (hoi : offi = ![128 * a, 0]) (hop : offp = ![128 * a, lo X]) (hRn : R = 128 * n) (hWX : W = wd X)
    (hG : ∀ j, blk I c dot hc hi ho hb col hcol (128 * a) j = P0 I c (ix2 (128 * a + j 0) (lo X + j 1)))
    {α : Type} {Q : α → sProp 𝕄} {k : PUnit → Pg F α} :
    iprop(Env I c ∗ pj c X a n) ⊢ iprop((iprop(Env I c ∗ pt I c X a n 0) -∗ wpc c (k ⟨⟩) Q)
      -∗ wpc c (compStep dot hc hi ho hb hR hR1 hW hRW (v2 c) col hcol offx hx offi hii offp hp hs >>= k) Q) := by
  unfold compStep Env
  simp only [bind_assoc]
  iintro ⟨⟨Hh, Hi, Hg, He⟩, Hp⟩ Hk
  iapply (wp_ld c hM offx ![R, 512] hx hR (Finset.subset_univ _)) $$ Hh
  iintro Hh
  iapply (wp_ld c ixM offi ![R, 1] hii hR1 (Finset.subset_univ _)) $$ Hi
  iintro Hi
  iapply (wp_ld c gtM offi ![R, 1] hii hR1 (Finset.subset_univ _)) $$ Hg
  iintro Hg
  iapply (wp_ld c ewM ![0, 0, col] ![1, 512, W] (winb 0 col (by decide) hcol) hW (Finset.subset_univ _)) $$ He
  iintro He
  iapply (wp_ld c ewM ![1, 0, col] ![1, 512, W] (winb 1 col (by decide) hcol) hW (Finset.subset_univ _)) $$ He
  iintro He
  iapply (wp_ld c ewM ![2, 0, col] ![1, 512, W] (winb 2 col (by decide) hcol) hW (Finset.subset_univ _)) $$ He
  iintro He
  iapply (wp_ld c ewM ![3, 0, col] ![1, 512, W] (winb 3 col (by decide) hcol) hW (Finset.subset_univ _)) $$ He
  iintro He
  iapply (wp_st c pM offp ![R, W] hp hRW hs _ (I := tl X (ch a n)) (g' := P I 0 c) (rect_tl hop (by rw [hRn, hWX])) ?_) $$ Hp
  · intro j
    rw [emb_ix2 hop]
    refine Eq.trans ?_ (hG j)
    unfold blk ewb
    simp only [emb_ix2 hox, emb_ix2 hoi]
  iintro Hp
  iapply Hk
  isplitr [Hp]
  · isplitl [Hh]; · iexact Hh
    isplitl [Hi]; · iexact Hi
    isplitl [Hg] <;> iassumption
  iexact Hp

end Comp

section Comps
variable {a : ℕ} {offx offi offp : Fin 2 → ℕ}
  {α : Type} {k : PUnit → Pg F α}

/-- A block of two chunks of column group A is computed. -/
theorem wp_comp256A (ha : a % 2 = 0 ∧ a + 2 ≤ 8 ∧ a / 4 ≠ b4 c) (hox : offx = ![128 * a, 0]) (hoi : offi = ![128 * a, 0]) (hop : offp = ![128 * a, lo 0])
    {hcol : 0 + 384 ≤ 1024} {hx : ∀ a, offx a + S256x512.size a ≤ S1024x512.size a} {hii : ∀ a, offi a + S256x1.size a ≤ S1024x1.size a}
    {hp : ∀ a, offp a + S256x384.size a ≤ S1024x1024.size a} {hs : (Rect.unit (s := S1024x1024) offp S256x384.size hp).PackedRows (EltTy.packing .bf16)}
    {Q : α → sProp 𝕄} :
    iprop(Env I c ∗ pj c 0 a 2) ⊢ iprop((iprop(Env I c ∗ pt I c 0 a 2 0) -∗ wpc c (k ⟨⟩) Q) -∗ wpc c (comp256 c 0 hcol offx hx offi hii offp hp hs >>= k) Q) :=
  wp_compStep I c _ _ _ _ _ _ _ _ _ 0 hcol offx hx offi hii offp hp _ 0 hox hoi hop rfl rfl (P0_256A I c ha.1 ha.2.1 ha.2.2)

/-- A block of two chunks of column group B is computed. -/
theorem wp_comp256B (ha : a % 2 = 0 ∧ a + 2 ≤ 8) (hox : offx = ![128 * a, 0]) (hoi : offi = ![128 * a, 0]) (hop : offp = ![128 * a, lo 1])
    {hcol : 384 + 384 ≤ 1024} {hx : ∀ a, offx a + S256x512.size a ≤ S1024x512.size a} {hii : ∀ a, offi a + S256x1.size a ≤ S1024x1.size a}
    {hp : ∀ a, offp a + S256x384.size a ≤ S1024x1024.size a} {hs : (Rect.unit (s := S1024x1024) offp S256x384.size hp).PackedRows (EltTy.packing .bf16)}
    {Q : α → sProp 𝕄} :
    iprop(Env I c ∗ pj c 1 a 2) ⊢ iprop((iprop(Env I c ∗ pt I c 1 a 2 0) -∗ wpc c (k ⟨⟩) Q) -∗ wpc c (comp256 c 384 hcol offx hx offi hii offp hp hs >>= k) Q) :=
  wp_compStep I c _ _ _ _ _ _ _ _ _ 384 hcol offx hx offi hii offp hp _ 1 hox hoi hop rfl rfl (P0_256B I c ha.1 ha.2)

/-- The block of the four chunks of column group A that the device keeps is computed. -/
theorem wp_comp512A (ha : a = 4 * b4 c) (hox : offx = ![128 * a, 0]) (hoi : offi = ![128 * a, 0]) (hop : offp = ![128 * a, lo 0])
    {hcol : 0 + 384 ≤ 1024} {hx : ∀ a, offx a + S512x512.size a ≤ S1024x512.size a} {hii : ∀ a, offi a + S512x1.size a ≤ S1024x1.size a}
    {hp : ∀ a, offp a + S512x384.size a ≤ S1024x1024.size a} {hs : (Rect.unit (s := S1024x1024) offp S512x384.size hp).PackedRows (EltTy.packing .bf16)}
    {Q : α → sProp 𝕄} :
    iprop(Env I c ∗ pj c 0 a 4) ⊢ iprop((iprop(Env I c ∗ pt I c 0 a 4 0) -∗ wpc c (k ⟨⟩) Q) -∗ wpc c (comp512 c 0 hcol offx hx offi hii offp hp hs >>= k) Q) :=
  wp_compStep I c _ _ _ _ _ _ _ _ _ 0 hcol offx hx offi hii offp hp _ 0 hox hoi hop rfl rfl (by subst ha; exact P0_512 I c)

/-- A block of one chunk of column group C is computed. -/
theorem wp_comp128C (ha : a + 1 ≤ 8) (hox : offx = ![128 * a, 0]) (hoi : offi = ![128 * a, 0]) (hop : offp = ![128 * a, lo 2])
    {hx : ∀ a, offx a + S128x512.size a ≤ S1024x512.size a} {hii : ∀ a, offi a + S128x1.size a ≤ S1024x1.size a}
    {hp : ∀ a, offp a + S128x256.size a ≤ S1024x1024.size a} {hs : (Rect.unit (s := S1024x1024) offp S128x256.size hp).PackedRows (EltTy.packing .bf16)}
    {Q : α → sProp 𝕄} :
    iprop(Env I c ∗ pj c 2 a 1) ⊢ iprop((iprop(Env I c ∗ pt I c 2 a 1 0) -∗ wpc c (k ⟨⟩) Q) -∗ wpc c (comp128 c offx hx offi hii offp hp hs >>= k) Q) :=
  wp_compStep I c _ _ _ _ _ _ _ _ _ 768 _ offx hx offi hii offp hp _ 2 hox hoi hop rfl rfl (P0_128 I c ha)

end Comps

/-! ## Received blocks -/

/-- A landing buffer of column group `X` at stage `s`, whole: its row `i` is row `g i` of the sender's partial sums. -/
def lnd {n0 n1 : ℕ} (m : Memref sig .tc .vmem ⟨2, ![n0, n1]⟩ .bf16) (J : Finset (⟨2, ![n0, n1]⟩ : Shape).Idx) (X : Fin 3) (s : ℕ) (g : ℕ → ℕ) : sProp 𝕄 :=
  own c m fullShare J fun i => P I s (nb (axs X s) c) (ix2 (g (i 0 : ℕ)) (lo X + (i 1 : ℕ)))

/-- A received block is added to the partial sums, which are then those of the next stage. -/
theorem wp_add {R W n0 n1 : ℕ} [NeZero n0] [NeZero n1] {ho : (⟨2, ![R, W]⟩ : Shape).ShapeCasts ⟨2, ![R, W]⟩} {hRW : 0 < (⟨2, ![R, W]⟩ : Shape).numel}
    {m : Memref sig .tc .vmem ⟨2, ![n0, n1]⟩ .bf16}
    {offp : Fin 2 → ℕ} {hp : ∀ a, offp a + (![R, W] : Fin 2 → ℕ) a ≤ S1024x1024.size a}
    {hs : (Rect.unit (s := S1024x1024) offp ![R, W] hp).PackedRows (EltTy.packing .bf16)}
    {offr : Fin 2 → ℕ} {hr : ∀ a, offr a + (![R, W] : Fin 2 → ℕ) a ≤ (![n0, n1] : Fin 2 → ℕ) a}
    (X : Fin 3) (s : ℕ) {a n r : ℕ} {g : ℕ → ℕ} (hop : offp = ![128 * a, lo X]) (hor : offr = ![r, 0]) (hRn : R = 128 * n) (hWX : W = wd X) (hn1 : n1 = wd X)
    (hg : ∀ k < 128 * n, g (r + k) = 128 * a + k)
    {α : Type} {Q : α → sProp 𝕄} {k : PUnit → Pg F α} :
    iprop(pt I c X a n s ∗ lnd I c m Finset.univ X s g) ⊢ iprop((iprop(pt I c X a n (s + 1) ∗ lnd I c m Finset.univ X s g) -∗ wpc c (k ⟨⟩) Q)
      -∗ wpc c (addStep ho hRW m offp hp hs offr hr >>= k) Q) := by
  unfold addStep lnd
  simp only [bind_assoc]
  have hset : (Rect.unit (s := S1024x1024) offp ![R, W] hp).set = tl X (ch a n) := rect_tl hop (by rw [hRn, hWX])
  iintro ⟨Hp, Hr⟩ Hk
  iapply (wp_ld c pM offp ![R, W] hp hRW (le_of_eq hset)) $$ Hp
  iintro Hp
  iapply (wp_ld c m offr ![R, W] hr hRW (Finset.subset_univ _)) $$ Hr
  iintro Hr
  ihave Hp := (own_junk c pM) $$ Hp
  iapply (wp_st c pM offp ![R, W] hp hRW _ _ (I := tl X (ch a n)) (g' := P I (s + 1) c) hset ?_) $$ Hp
  · intro j
    rw [shapeCast_self]
    have j0 : (j 0 : ℕ) < R := (j 0).isLt
    have j1 : (j 1 : ℕ) < W := (j 1).isLt
    have hl := lo_wd X
    have e1 : ((Rect.unit (s := S1024x1024) offp ![R, W] hp).emb j 1 : ℕ) = lo X + j 1 := by
      rw [emb_ix2 hop]; exact ix2_1 (by omega)
    have er0 : ((Rect.unit (s := ⟨2, ![n0, n1]⟩) offr ![R, W] hr).emb j 0 : ℕ) = r + j 0 := by
      have : r + R ≤ n0 := by have := hr 0; rw [hor] at this; exact this
      rw [emb_ix2 hor]; exact ix2_0 (by omega)
    have er1 : ((Rect.unit (s := ⟨2, ![n0, n1]⟩) offr ![R, W] hr).emb j 1 : ℕ) = 0 + j 1 := by
      rw [emb_ix2 hor]; exact ix2_1 (by omega)
    show (addf (fun j => P I s c ((Rect.unit (s := S1024x1024) offp ![R, W] hp).emb j))
      (fun j => P I s (nb (axs X s) c) (ix2 (g ((Rect.unit (s := ⟨2, ![n0, n1]⟩) offr ![R, W] hr).emb j 0 : ℕ)) (lo X + ((Rect.unit (s := ⟨2, ![n0, n1]⟩) offr ![R, W] hr).emb j 1 : ℕ)))) : FVec F ⟨2, ![R, W]⟩ .bf16) j
      = addf (P I s c) (fun i => P I s (nb (axs (grp (i 1 : ℕ)) s) c) i) ((Rect.unit (s := S1024x1024) offp ![R, W] hp).emb j)
    refine congrArg₂ FloatOps.addf rfl ?_
    show P I s _ _ = P I s _ _
    rw [e1, grp_lo X (by omega), er0, er1, hg _ (by omega), emb_ix2 hop, Nat.zero_add]
  iintro Hp
  iapply Hk
  isplitl [Hp] <;> iassumption

/-! ## Transfers -/

/-- What a copy reads, as chunks. -/
theorem own_spay (j : Tr) {m : Memref sig .tc .vmem S1024x1024 .bf16} (hm : (ends c j).sm = m) :
    (own c m (shr j) (tl (gr j) (ch (sa c j) (sn j))) (Gc I j c) : sProp 𝕄) ⊢ spay (Gc I) c j := by
  subst hm
  exact own_owns c (ends c j).sm _ (fun _ => rfl) (rect_tl (soff_eq c j) (ts_eq c j)) (fun _ => rfl)

/-- What a departure brings back is the rows that were sent. -/
theorem spay_own (j : Tr) {m : Memref sig .tc .vmem S1024x1024 .bf16} (hm : (ends c j).sm = m) :
    (spay (Gc I) c j : sProp 𝕄) ⊢ own c m (shr j) (tl (gr j) (ch (sa c j) (sn j))) (Gc I j c) := by
  subst hm
  exact owns_own c (ends c j).sm _ (fun _ => rfl) (rect_tl (soff_eq c j) (ts_eq c j)) (fun _ => rfl)

/-- Start a reduction's transfer. -/
theorem wp_sendP (j : Tr) (n r : ℕ) (X : Fin 3) (k' s : ℕ) (hj : spos j = n) (hg : isG j = false) (hm : (ends c j).sm = pM) (hX : gr j = X) (hk : sn j = k')
    (hs : (stage j : ℕ) = s) {α : Type} {Q : α → sProp 𝕄} {k : PUnit → Pg F α} :
    iprop(CS (Gc I) K c n r ∗ pt I c X (sa c j) k' s) ⊢ iprop((CS (Gc I) K c (n + 1) r -∗ wpc c (k ⟨⟩) Q) -∗ wpc c (sendT c j >>= k) Q) := by
  subst hX hk hs
  refine BIBase.Entails.trans ?_ (wp_sendT (Gc I) c j K n r hj)
  iintro ⟨H, Hp⟩
  isplitl [H]; · iexact H
  iapply (own_spay I c j hm)
  rw [show shr j = fullShare from if_neg (by rw [hg]; decide), Gc_red I c hg]
  iexact Hp

/-- Start one of the gather's. -/
theorem wp_sendG (j : Tr) (n r : ℕ) (X : Fin 3) (k' : ℕ) (q : PosShare TreeShare) (hj : spos j = n) (hg : isG j = true) (hm : (ends c j).sm = gM) (hX : gr j = X) (hk : sn j = k')
    (hq : shr j = q) {α : Type} {Q : α → sProp 𝕄} {k : PUnit → Pg F α} :
    iprop(CS (Gc I) K c n r ∗ gt I c q X (sa c j) k') ⊢ iprop((CS (Gc I) K c (n + 1) r -∗ wpc c (k ⟨⟩) Q) -∗ wpc c (sendT c j >>= k) Q) := by
  subst hX hk hq
  refine BIBase.Entails.trans ?_ (wp_sendT (Gc I) c j K n r hj)
  iintro ⟨H, Hp⟩
  isplitl [H]; · iexact H
  iapply (own_spay I c j hm)
  rw [Gc_gat I c hg]
  iexact Hp

/-- The first chunk of the transfer `j` that arrives at device `c`. -/
abbrev ra (j : Tr) : ℕ := sa (pr c j) j

/-- What a gather transfer's arrival brings is the rows it writes, with the gathered contents. -/
theorem gEnds_lpay (s p : Dev nD) (j : Tr) {ts off : Fin 2 → ℕ} {inb inb' : ∀ a, off a + ts a ≤ S1024x1024.size a}
    {w : (gM.slice (Rect.unit (s := S1024x1024) off ts inb) (fun _ => rfl)).view.WordExact}
    {w' : (gM.slice (Rect.unit (s := S1024x1024) off ts inb') (fun _ => rfl)).view.WordExact}
    (he : ends s j = ⟨gM, off, inb, gM.slice (Rect.unit (s := S1024x1024) off ts inb') (fun _ => rfl), w, w'⟩) (hg : isG j = true) :
    (lpay (Gc I) s p j : sProp 𝕄) ⊢ own p gM fullShare (tl (gr j) (ch (sa s j) (sn j))) (GB I) := by
  have h1 := soff_eq s j
  have h2 := ts_eq s j
  unfold lpay cont
  rw [Gc_gat I s hg]
  suffices key : ∀ E : Ends, E = ⟨gM, off, inb, gM.slice (Rect.unit (s := S1024x1024) off ts inb') (fun _ => rfl), w, w'⟩ →
      E.soff = ![128 * sa s j, lo (gr j)] → E.ts = ![128 * sn j, wd (gr j)] →
      (owns (p : Thread nD τ) E.dst fullShare (fun i => GB I ((Rect.unit (s := S1024x1024) E.soff E.ts E.inb).emb i)) : sProp 𝕄)
        ⊢ own p gM fullShare (tl (gr j) (ch (sa s j) (sn j))) (GB I) from key _ he h1 h2
  clear h1 h2 he
  rintro _ rfl h1 h2
  exact owns_own p gM _ (fun _ => rfl) (rect_tl h1 h2) (fun _ => rfl)

/-- What an arrival of the gather's leaves. -/
theorem lpay_gat (s p : Dev nD) (j : Tr) (hg : isG j = true) : (lpay (Gc I) s p j : sProp 𝕄) ⊢ own p gM fullShare (tl (gr j) (ch (sa s j) (sn j))) (GB I) := by
  cases j <;> first | exact absurd hg (by decide) | exact gEnds_lpay I s p _ rfl rfl

/-- Wait for an arrival of the gather's. -/
theorem wp_recvG (j : Tr) (n r : ℕ) (X : Fin 3) (k' : ℕ) (hj : rpos j = r) (hg : isG j = true) (hX : gr j = X) (hk : sn j = k') (hn : ∀ i, n ≤ spos i → rl j < rl i)
    {ts off : Fin 2 → ℕ} {inb : ∀ a, off a + ts a ≤ S1024x1024.size a} {w : (Rect.unit (s := S1024x1024) off ts inb).WholeWords (EltTy.packing .bf16)}
    (hc : (gM.view.ref.dmaCredit ⟨2, ts⟩ .bf16 : ℕ) = amt j)
    {α : Type} {Q : α → sProp 𝕄} {k : PUnit → Pg F α} :
    CS (Gc I) K c n r ⊢ iprop((iprop(CS (Gc I) K c n (r + 1) ∗ gt I c fullShare X (ra c j) k') -∗ wpc c (k ⟨⟩) Q) -∗ wpc c (recvG j ts off inb w >>= k) Q) := by
  subst hX hk
  unfold recvG waitR
  refine (wp_recvM (Gc I) c j K n r hj hn (gM.slice (Rect.unit (s := S1024x1024) off ts inb) (fun _ => rfl)) ((isW _).wordExact_slice rfl _ w) hc (Q := Q) (k := k)).trans ?_
  iintro H Hk
  iapply H
  iintro ⟨H1, H2⟩
  iapply Hk
  isplitl [H1]; · iexact H1
  iapply (lpay_gat I (pr c j) c j hg)
  iexact H2

/-- A received block in a rectangle of a landing buffer. -/
theorem lpay_R (p : Dev nD) (j : Tr) (hg : isG j = false) {ts : Fin 2 → ℕ} {n0 n1 : ℕ} [NeZero n0] [NeZero n1] {m' : Memref sig .tc .vmem ⟨2, ![n0, n1]⟩ .bf16}
    {off off' : Fin 2 → ℕ} {inb : ∀ a, off a + ts a ≤ S1024x1024.size a} {inb' : ∀ a, off' a + ts a ≤ (![n0, n1] : Fin 2 → ℕ) a}
    {w : (pM.slice (Rect.unit (s := S1024x1024) off ts inb) (fun _ => rfl)).view.WordExact}
    {w' : (m'.slice (Rect.unit (s := ⟨2, ![n0, n1]⟩) off' ts inb') (fun _ => rfl)).view.WordExact}
    (he : ends (pr p j) j = ⟨pM, off, inb, m'.slice (Rect.unit (s := ⟨2, ![n0, n1]⟩) off' ts inb') (fun _ => rfl), w, w'⟩)
    (X : Fin 3) (s : ℕ) (r R : ℕ) (hX : gr j = X) (hs : (stage j : ℕ) = s) (hn1 : n1 = wd X) (hR : R = 128 * sn j) (ho : off' = ![r, 0])
    (g : ℕ → ℕ) (hgr : ∀ k < R, g (r + k) = 128 * ra p j + k) :
    (lpay (Gc I) (pr p j) p j : sProp 𝕄) ⊢ lnd I p m' (Moe.rw r (r + R)) X s g := by
  subst hX hs hR
  have h1 := soff_eq (pr p j) j
  have h2 := ts_eq (pr p j) j
  unfold lpay cont lnd
  rw [Gc_red I (pr p j) hg, ← ax_eq j hg]
  suffices key : ∀ E : Ends, E = ⟨pM, off, inb, m'.slice (Rect.unit (s := ⟨2, ![n0, n1]⟩) off' ts inb') (fun _ => rfl), w, w'⟩ → E.soff = ![128 * sa (pr p j) j, lo (gr j)] → E.ts = ![128 * sn j, wd (gr j)] →
      (owns (p : Thread nD τ) E.dst fullShare (fun i => P I (stage j) (pr p j) ((Rect.unit (s := S1024x1024) E.soff E.ts E.inb).emb i)) : sProp 𝕄)
        ⊢ own p m' fullShare (Moe.rw r (r + 128 * sn j)) fun i => P I (stage j) (nb (ax j) p) (ix2 (g (i 0 : ℕ)) (lo (gr j) + (i 1 : ℕ))) from key _ he h1 h2
  clear h1 h2 he
  rintro _ rfl h1 h2
  change off = _ at h1
  change ts = _ at h2
  subst hn1
  refine owns_own p m' _ (fun _ => rfl) (rect_rw ho h2) fun i => ?_
  have i0 : (i 0 : ℕ) < 128 * sn j := by have : (i 0 : ℕ) < ts 0 := (i 0).isLt; exact this.trans_eq (congrFun h2 0)
  have i1 : (i 1 : ℕ) < wd (gr j) := by have : (i 1 : ℕ) < ts 1 := (i 1).isLt; exact this.trans_eq (congrFun h2 1)
  have hrr : r + 128 * sn j ≤ n0 := by have := inb' 0; rw [ho, h2] at this; exact this
  show P I _ _ ((Rect.unit (s := S1024x1024) off ts inb).emb i) = P I _ _ _
  rw [emb_ix2 h1, emb_ix2 ho, ix2_0 (by omega), ix2_1 (by omega), hgr _ i0, Nat.zero_add]

/-- A received block filling a landing buffer. -/
theorem lpay_W (p : Dev nD) (j : Tr) (hg : isG j = false) {n0 n1 : ℕ} [NeZero n0] [NeZero n1] {m' : Memref sig .tc .vmem ⟨2, ![n0, n1]⟩ .bf16}
    {off : Fin 2 → ℕ} {inb : ∀ a, off a + (![n0, n1] : Fin 2 → ℕ) a ≤ S1024x1024.size a}
    {w : (pM.slice (Rect.unit (s := S1024x1024) off ![n0, n1] inb) (fun _ => rfl)).view.WordExact} {w' : m'.view.WordExact}
    (he : ends (pr p j) j = ⟨pM, off, inb, m', w, w'⟩)
    (X : Fin 3) (s : ℕ) (hX : gr j = X) (hs : (stage j : ℕ) = s) (hn : n0 = 128 * sn j)
    (g : ℕ → ℕ) (hgr : ∀ k < n0, g k = 128 * ra p j + k) :
    (lpay (Gc I) (pr p j) p j : sProp 𝕄) ⊢ lnd I p m' Finset.univ X s g := by
  subst hX hs
  have h1 := soff_eq (pr p j) j
  unfold lpay cont lnd
  rw [Gc_red I (pr p j) hg, ← ax_eq j hg]
  suffices key : ∀ E : Ends, E = ⟨pM, off, inb, m', w, w'⟩ → E.soff = ![128 * sa (pr p j) j, lo (gr j)] →
      (owns (p : Thread nD τ) E.dst fullShare (fun i => P I (stage j) (pr p j) ((Rect.unit (s := S1024x1024) E.soff E.ts E.inb).emb i)) : sProp 𝕄)
        ⊢ own p m' fullShare Finset.univ fun i => P I (stage j) (nb (ax j) p) (ix2 (g (i 0 : ℕ)) (lo (gr j) + (i 1 : ℕ))) from key _ he h1
  clear h1 he
  rintro _ rfl h1
  change off = _ at h1
  refine owns_own_univ p m' fun i => ?_
  show P I _ _ ((Rect.unit (s := S1024x1024) off ![n0, n1] inb).emb i) = P I _ _ _
  rw [emb_ix2 h1, hgr _ (i 0).isLt]

/-- Wait for an arrival of the reduction's. -/
theorem wp_recvP (j : Tr) (n r : ℕ) (hj : rpos j = r) (hn : ∀ i, n ≤ spos i → rl j < rl i)
    {L : sProp 𝕄} (hL : lpay (Gc I) (pr c j) c j ⊢ L) {α : Type} {Q : α → sProp 𝕄} {k : PUnit → Pg F α} :
    CS (Gc I) K c n r ⊢ iprop((iprop(CS (Gc I) K c n (r + 1) ∗ L) -∗ wpc c (k ⟨⟩) Q) -∗ wpc c (recvD c j >>= k) Q) := by
  unfold recvD
  refine (wp_recvM (Gc I) c j K n r hj hn (ends c j).dst (ends c j).hdst (amt_eq c j) (Q := Q) (k := k)).trans ?_
  iintro H Hk
  iapply H
  iintro ⟨H1, H2⟩
  iapply Hk
  isplitl [H1]; · iexact H1
  iapply hL
  iexact H2

/-- Two neighbouring parts of a landing buffer make one. -/
theorem lnd_join {n0 n1 : ℕ} (m : Memref sig .tc .vmem ⟨2, ![n0, n1]⟩ .bf16) (X : Fin 3) (s : ℕ) (g : ℕ → ℕ) {a b d : ℕ} [NeZero n0] [NeZero n1] (h : a ≤ b) (h' : b ≤ d) :
    iprop(lnd I c m (Moe.rw a b) X s g ∗ lnd I c m (Moe.rw b d) X s g) ⊢ (lnd I c m (Moe.rw a d) X s g : sProp 𝕄) := by
  unfold lnd
  rw [← rw_union h h']
  exact own_join c m (rw_disj a b d)

/-! ## The output -/

/-- Cast an arrival's chunks into the output. -/
theorem wp_cast (X : Fin 3) (a n : ℕ) (q : PosShare TreeShare) {ts off : Fin 2 → ℕ} {h : 0 < (⟨2, ts⟩ : Shape).numel} {hp : ∀ a, off a + ts a ≤ S1024x1024.size a}
    (ho : off = ![128 * a, lo X]) (ht : ts = ![128 * n, wd X]) (hne : ell c < a ∨ a + n ≤ ell c)
    {α : Type} {Q : α → sProp 𝕄} {k : PUnit → Pg F α} :
    iprop(gt I c q X a n ∗ oj c X a n) ⊢ iprop((iprop(gt I c q X a n ∗ ot I c X a n) -∗ wpc c (k ⟨⟩) Q) -∗ wpc c (castOut ts h off hp >>= k) Q) := by
  unfold castOut
  simp only [bind_assoc]
  have hset : (Rect.unit (s := S1024x1024) off ts hp).set = tl X (ch a n) := rect_tl ho ht
  iintro ⟨Hg, Ho⟩ Hk
  iapply (wp_ld c gM off ts hp h (le_of_eq hset)) $$ Hg
  iintro Hg
  iapply (wp_st c oM off ts hp h _ _ (I := tl X (ch a n)) (g' := OUT I c) hset ?_) $$ Ho
  · intro j
    have hj : ((Rect.unit (s := S1024x1024) off ts hp).emb j 0 : ℕ) / 128 ≠ ell c := by
      have hm : (Rect.unit (s := S1024x1024) off ts hp).emb j ∈ (Rect.unit (s := S1024x1024) off ts hp).set := (Rect.unit (s := S1024x1024) off ts hp).idx_mem j
      rw [hset] at hm
      simp only [tl, ch, Finset.mem_filter, Finset.mem_univ, true_and] at hm
      have := ((Rect.unit (s := S1024x1024) off ts hp).emb j 0).isLt
      change _ < 1024 at this
      omega
    exact (if_neg hj).symm
  iintro Ho
  iapply Hk
  isplitl [Hg] <;> iassumption

end Cert.KernelIdeal.Moe
-- ==== Proof.Exchange.lean ====
module

public import proofs.«01_k».proof.Proof.Steps

@[expose] public section

noncomputable section

/-! # The exchanges: adding what arrives, sending half of it on -/

namespace Cert.KernelIdeal.Moe

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CI → ℕ) (c : Dev nD)

/-! ## The rows the landing buffers hold -/

def gA0 (i : ℕ) : ℕ := 512 * b4 c + i
def gA1 (i : ℕ) : ℕ := 128 * (4 * b4 c + 2 * b2 c) + i
/-- The rows this device finishes. -/
def gL (i : ℕ) : ℕ := 128 * ell c + i
def gB0 (i : ℕ) : ℕ := 512 * (i / 256) + 256 * b2 c + i % 256
def gB1 (i : ℕ) : ℕ := 512 * (i / 128) + 128 * (2 * b2 c + b1 c) + i % 128
def gC0 (i : ℕ) : ℕ := 128 * (b1 c + 2 * (i / 128)) + i % 128
def gC1 (i : ℕ) : ℕ := 128 * (b1 c + 4 * b4 c + 2 * (i / 128)) + i % 128

/-- What the first arrival of column group A brings, as its part of the landing buffer. -/
theorem land_a0 : (lpay (Gc I) (pr c .a0) c .a0 : sProp 𝕄) ⊢ lnd I c a0M (Moe.rw 0 256) 0 0 (gA0 c) :=
  lpay_R I c .a0 rfl rfl 0 0 0 256 rfl rfl rfl rfl rfl (gA0 c) fun k hk => by
    have h : ra c .a0 = 4 * b4 c := by revert c; decide
    rw [h]; unfold gA0; omega

/-- What the second arrival of column group A brings, as its part of the landing buffer. -/
theorem land_a1 : (lpay (Gc I) (pr c .a1) c .a1 : sProp 𝕄) ⊢ lnd I c a0M (Moe.rw 256 512) 0 0 (gA0 c) :=
  lpay_R I c .a1 rfl rfl 0 0 256 256 rfl rfl rfl rfl rfl (gA0 c) fun k hk => by
    have h : ra c .a1 = 4 * b4 c + 2 := by revert c; decide
    rw [h]; unfold gA0; omega

/-- What the first arrival of column group B brings, as its part of the landing buffer. -/
theorem land_b0 : (lpay (Gc I) (pr c .b0) c .b0 : sProp 𝕄) ⊢ lnd I c b0M (Moe.rw 0 256) 1 0 (gB0 c) :=
  lpay_R I c .b0 rfl rfl 1 0 0 256 rfl rfl rfl rfl rfl (gB0 c) fun k hk => by
    have h : ra c .b0 = 2 * b2 c := by revert c; decide
    rw [h]; unfold gB0; omega

/-- What the second arrival of column group B brings, as its part of the landing buffer. -/
theorem land_b1 : (lpay (Gc I) (pr c .b1) c .b1 : sProp 𝕄) ⊢ lnd I c b0M (Moe.rw 256 512) 1 0 (gB0 c) :=
  lpay_R I c .b1 rfl rfl 1 0 256 256 rfl rfl rfl rfl rfl (gB0 c) fun k hk => by
    have h : ra c .b1 = 4 + 2 * b2 c := by revert c; decide
    rw [h]; unfold gB0; omega

/-- What the first arrival of column group C brings, as its part of the landing buffer. -/
theorem land_c0 : (lpay (Gc I) (pr c .c0) c .c0 : sProp 𝕄) ⊢ lnd I c c0M (Moe.rw 0 128) 2 0 (gC0 c) :=
  lpay_R I c .c0 rfl rfl 2 0 0 128 rfl rfl rfl rfl rfl (gC0 c) fun k hk => by
    have h : ra c .c0 = b1 c := by revert c; decide
    rw [h]; unfold gC0; omega

/-- What the second arrival of column group C brings, as its part of the landing buffer. -/
theorem land_c1 : (lpay (Gc I) (pr c .c1) c .c1 : sProp 𝕄) ⊢ lnd I c c0M (Moe.rw 128 256) 2 0 (gC0 c) :=
  lpay_R I c .c1 rfl rfl 2 0 128 128 rfl rfl rfl rfl rfl (gC0 c) fun k hk => by
    have h : ra c .c1 = b1 c + 2 := by revert c; decide
    rw [h]; unfold gC0; omega

/-- What the third arrival of column group C brings, as its part of the landing buffer. -/
theorem land_c2 : (lpay (Gc I) (pr c .c2) c .c2 : sProp 𝕄) ⊢ lnd I c c0M (Moe.rw 256 384) 2 0 (gC0 c) :=
  lpay_R I c .c2 rfl rfl 2 0 256 128 rfl rfl rfl rfl rfl (gC0 c) fun k hk => by
    have h : ra c .c2 = b1 c + 4 := by revert c; decide
    rw [h]; unfold gC0; omega

/-- What the fourth arrival of column group C brings, as its part of the landing buffer. -/
theorem land_c3 : (lpay (Gc I) (pr c .c3) c .c3 : sProp 𝕄) ⊢ lnd I c c0M (Moe.rw 384 512) 2 0 (gC0 c) :=
  lpay_R I c .c3 rfl rfl 2 0 384 128 rfl rfl rfl rfl rfl (gC0 c) fun k hk => by
    have h : ra c .c3 = b1 c + 6 := by revert c; decide
    rw [h]; unfold gC0; omega

/-- What the third arrival of column group A brings, as its part of the landing buffer. -/
theorem land_a2 : (lpay (Gc I) (pr c .a2) c .a2 : sProp 𝕄) ⊢ lnd I c a1M Finset.univ 0 1 (gA1 c) :=
  lpay_W I c .a2 rfl rfl 0 1 rfl rfl rfl (gA1 c) fun k hk => by
    have h : ra c .a2 = 4 * b4 c + 2 * b2 c := by revert c; decide
    rw [h]; unfold gA1; omega

/-- What the third arrival of column group B brings, as its part of the landing buffer. -/
theorem land_b2 : (lpay (Gc I) (pr c .b2) c .b2 : sProp 𝕄) ⊢ lnd I c b1M (Moe.rw 0 128) 1 1 (gB1 c) :=
  lpay_R I c .b2 rfl rfl 1 1 0 128 rfl rfl rfl rfl rfl (gB1 c) fun k hk => by
    have h : ra c .b2 = 2 * b2 c + b1 c := by revert c; decide
    rw [h]; unfold gB1; omega

/-- What the fourth arrival of column group B brings, as its part of the landing buffer. -/
theorem land_b3 : (lpay (Gc I) (pr c .b3) c .b3 : sProp 𝕄) ⊢ lnd I c b1M (Moe.rw 128 256) 1 1 (gB1 c) :=
  lpay_R I c .b3 rfl rfl 1 1 128 128 rfl rfl rfl rfl rfl (gB1 c) fun k hk => by
    have h : ra c .b3 = 4 + 2 * b2 c + b1 c := by revert c; decide
    rw [h]; unfold gB1; omega

/-- What the fifth arrival of column group C brings, as its part of the landing buffer. -/
theorem land_c4 : (lpay (Gc I) (pr c .c4) c .c4 : sProp 𝕄) ⊢ lnd I c c1M (Moe.rw 0 128) 2 1 (gC1 c) :=
  lpay_R I c .c4 rfl rfl 2 1 0 128 rfl rfl rfl rfl rfl (gC1 c) fun k hk => by
    have h : ra c .c4 = b1 c + 4 * b4 c := by revert c; decide
    rw [h]; unfold gC1; omega

/-- What the sixth arrival of column group C brings, as its part of the landing buffer. -/
theorem land_c5 : (lpay (Gc I) (pr c .c5) c .c5 : sProp 𝕄) ⊢ lnd I c c1M (Moe.rw 128 256) 2 1 (gC1 c) :=
  lpay_R I c .c5 rfl rfl 2 1 128 128 rfl rfl rfl rfl rfl (gC1 c) fun k hk => by
    have h : ra c .c5 = b1 c + 4 * b4 c + 2 := by revert c; decide
    rw [h]; unfold gC1; omega

/-- What the fourth arrival of column group A brings, as its part of the landing buffer. -/
theorem land_a3 : (lpay (Gc I) (pr c .a3) c .a3 : sProp 𝕄) ⊢ lnd I c a2M Finset.univ 0 2 (gL c) :=
  lpay_W I c .a3 rfl rfl 0 2 rfl rfl rfl (gL c) fun k hk => by
    have h : ra c .a3 = ell c := by revert c; decide
    rw [h]; unfold gL; omega

/-- What the fifth arrival of column group B brings, as its part of the landing buffer. -/
theorem land_b4 : (lpay (Gc I) (pr c .b4) c .b4 : sProp 𝕄) ⊢ lnd I c b2M Finset.univ 1 2 (gL c) :=
  lpay_W I c .b4 rfl rfl 1 2 rfl rfl rfl (gL c) fun k hk => by
    have h : ra c .b4 = ell c := by revert c; decide
    rw [h]; unfold gL; omega

/-- What the seventh arrival of column group C brings, as its part of the landing buffer. -/
theorem land_c6 : (lpay (Gc I) (pr c .c6) c .c6 : sProp 𝕄) ⊢ lnd I c c2M Finset.univ 2 2 (gL c) :=
  lpay_W I c .c6 rfl rfl 2 2 rfl rfl rfl (gL c) fun k hk => by
    have h : ra c .c6 = ell c := by revert c; decide
    rw [h]; unfold gL; omega

/-! ## Reordering by a bit -/

/-- Two blocks in the order that a bit of the device gives. -/
theorem swap2 {b : ℕ} (hb : b < 2) (Φ : ℕ → sProp 𝕄) {a0 a1 d0 d1 : ℕ} (h0 : d0 = if b = 0 then a1 else a0) (h1 : d1 = if b = 0 then a0 else a1) :
    iprop(Φ a0 ∗ Φ a1) ⊢ iprop(Φ d0 ∗ Φ d1) := by
  subst h0 h1
  iintro ⟨H0, H1⟩
  by_cases h : b = 0
  · rw [if_pos h, if_pos h]
    isplitl [H1] <;> iassumption
  · rw [if_neg h, if_neg h]
    isplitl [H0] <;> iassumption

/-- Four blocks in the order that a bit of the device gives. -/
theorem swap4 {b : ℕ} (hb : b < 2) (Φ : ℕ → sProp 𝕄) {a0 a1 a2 a3 d0 d1 d2 d3 : ℕ}
    (h0 : d0 = if b = 0 then a2 else a0) (h1 : d1 = if b = 0 then a3 else a1) (h2 : d2 = if b = 0 then a0 else a2) (h3 : d3 = if b = 0 then a1 else a3) :
    iprop(Φ a0 ∗ Φ a1 ∗ Φ a2 ∗ Φ a3) ⊢ iprop(Φ d0 ∗ Φ d1 ∗ Φ d2 ∗ Φ d3) := by
  subst h0 h1 h2 h3
  iintro ⟨H0, H1, H2, H3⟩
  by_cases h : b = 0
  · rw [if_pos h, if_pos h, if_pos h, if_pos h]
    isplitl [H2]; · iexact H2
    isplitl [H3]; · iexact H3
    isplitl [H0] <;> iassumption
  · rw [if_neg h, if_neg h, if_neg h, if_neg h]
    isplitl [H0]; · iexact H0
    isplitl [H1]; · iexact H1
    isplitl [H2] <;> iassumption

/-! ## First stage -/

/-- The first stage of column group A: its landings taken, the sums that go on sent, those that stay kept. -/
theorem phA1_ok : iprop(CS (Gc I) K c 8 0 ∗ pt I c 0 (4 * b4 c) 4 0)
    ⊢ wpc c (phA1 c) (fun _ => iprop(CS (Gc I) K c 9 2 ∗ pt I c 0 (4 * b4 c + 2 * b2 c) 2 1 ∗ lnd I c a0M Finset.univ 0 0 (gA0 c))) := by
  unfold phA1
  simp only [Pipeline.chain_cons, Pipeline.chain_nil]
  iintro ⟨HC, Hp⟩
  ihave Hp := (tile_split c pM (T1 := ch (sa c .a2) 2) (T2 := ch (4 * b4 c + 2 * b2 c) 2) (by revert c; decide +kernel) (by revert c; decide +kernel)) $$ Hp
  icases Hp with ⟨Hs, Hp⟩
  iapply (wp_recvP I K c .a0 8 0 rfl (by decide +kernel) (land_a0 I c)) $$ HC
  iintro ⟨HC, H0⟩
  iapply (wp_recvP I K c .a1 8 1 rfl (by decide +kernel) (land_a1 I c)) $$ HC
  iintro ⟨HC, H1⟩
  ihave HL := (lnd_join I c a0M 0 0 (gA0 c) (a := 0) (b := 256) (d := 512) (by decide) (by decide)) $$ [H0 H1]
  · isplitl [H0] <;> iassumption
  rw [rw_univ]
  iapply (wp_add I c (m := a0M) (g := gA0 c) 0 0 (a := sa c .a2) (n := 2) (r := 256 * (1 - b2 c)) (by revert c; decide +kernel) (by revert c; decide +kernel) rfl rfl rfl ?_) $$ [Hs HL]
  · have h : sa c .a2 = 4 * b4 c + 2 * (1 - b2 c) := rfl
    intro k hk; rw [h]; unfold gA0; omega
  · isplitl [Hs] <;> iassumption
  iintro ⟨Hs, HL⟩
  iapply (wp_sendP I K c .a2 8 2 0 2 1 rfl rfl rfl rfl rfl rfl) $$ [HC Hs]
  · isplitl [HC] <;> iassumption
  iintro HC
  iapply (wp_add I c (m := a0M) (g := gA0 c) 0 0 (a := 4 * b4 c + 2 * b2 c) (n := 2) (r := 256 * b2 c) (by revert c; decide +kernel) (by revert c; decide +kernel) rfl rfl rfl ?_) $$ [Hp HL]
  · intro k hk; unfold gA0; omega
  · isplitl [Hp] <;> iassumption
  iintro ⟨Hp, HL⟩
  iapply (wpc_pure c)
  isplitl [HC]; · iexact HC
  isplitl [Hp] <;> iassumption

/-- The first stage of column group B: its landings taken, the sums that go on sent, those that stay kept. -/
theorem phB1_ok : iprop(CS (Gc I) K c 9 2 ∗ pt I c 1 (2 * b2 c) 2 0 ∗ pt I c 1 (4 + 2 * b2 c) 2 0)
    ⊢ wpc c (phB1 c) (fun _ => iprop(CS (Gc I) K c 11 4 ∗ pt I c 1 (2 * b2 c + b1 c) 1 1 ∗ pt I c 1 (4 + 2 * b2 c + b1 c) 1 1
      ∗ lnd I c b0M Finset.univ 1 0 (gB0 c))) := by
  unfold phB1
  simp only [Pipeline.chain_cons, Pipeline.chain_nil]
  iintro ⟨HC, Hp, Hp'⟩
  ihave Hp := (tile_split c pM (T1 := ch (sa c .b2) 1) (T2 := ch (2 * b2 c + b1 c) 1) (by revert c; decide +kernel) (by revert c; decide +kernel)) $$ Hp
  icases Hp with ⟨Hs, Hp⟩
  ihave Hp' := (tile_split c pM (T1 := ch (sa c .b3) 1) (T2 := ch (4 + 2 * b2 c + b1 c) 1) (by revert c; decide +kernel) (by revert c; decide +kernel)) $$ Hp'
  icases Hp' with ⟨Hs', Hp'⟩
  iapply (wp_recvP I K c .b0 9 2 rfl (by decide +kernel) (land_b0 I c)) $$ HC
  iintro ⟨HC, H0⟩
  iapply (wp_recvP I K c .b1 9 3 rfl (by decide +kernel) (land_b1 I c)) $$ HC
  iintro ⟨HC, H1⟩
  ihave HL := (lnd_join I c b0M 1 0 (gB0 c) (a := 0) (b := 256) (d := 512) (by decide) (by decide)) $$ [H0 H1]
  · isplitl [H0] <;> iassumption
  rw [rw_univ]
  iapply (wp_add I c (m := b0M) (g := gB0 c) 1 0 (a := sa c .b2) (n := 1) (r := 128 * (1 - b1 c)) (by revert c; decide +kernel) (by revert c; decide +kernel) rfl rfl rfl ?_) $$ [Hs HL]
  · have h : sa c .b2 = 2 * b2 c + (1 - b1 c) := rfl
    intro k hk; rw [h]; unfold gB0; omega
  · isplitl [Hs] <;> iassumption
  iintro ⟨Hs, HL⟩
  iapply (wp_add I c (m := b0M) (g := gB0 c) 1 0 (a := sa c .b3) (n := 1) (r := 256 + 128 * (1 - b1 c)) (by revert c; decide +kernel) (by revert c; decide +kernel) rfl rfl rfl ?_) $$ [Hs' HL]
  · have h : sa c .b3 = 4 + 2 * b2 c + (1 - b1 c) := rfl
    intro k hk; rw [h]; unfold gB0; omega
  · isplitl [Hs'] <;> iassumption
  iintro ⟨Hs', HL⟩
  iapply (wp_sendP I K c .b2 9 4 1 1 1 rfl rfl rfl rfl rfl rfl) $$ [HC Hs]
  · isplitl [HC] <;> iassumption
  iintro HC
  iapply (wp_sendP I K c .b3 10 4 1 1 1 rfl rfl rfl rfl rfl rfl) $$ [HC Hs']
  · isplitl [HC] <;> iassumption
  iintro HC
  iapply (wp_add I c (m := b0M) (g := gB0 c) 1 0 (a := 2 * b2 c + b1 c) (n := 1) (r := 128 * b1 c) (by revert c; decide +kernel) (by revert c; decide +kernel) rfl rfl rfl ?_) $$ [Hp HL]
  · have h1 : b1 c < 2 := by revert c; decide
    intro k hk; unfold gB0; omega
  · isplitl [Hp] <;> iassumption
  iintro ⟨Hp, HL⟩
  iapply (wp_add I c (m := b0M) (g := gB0 c) 1 0 (a := 4 + 2 * b2 c + b1 c) (n := 1) (r := 256 + 128 * b1 c) (by revert c; decide +kernel) (by revert c; decide +kernel) rfl rfl rfl ?_) $$ [Hp' HL]
  · have h1 : b1 c < 2 := by revert c; decide
    intro k hk; unfold gB0; omega
  · isplitl [Hp'] <;> iassumption
  iintro ⟨Hp', HL⟩
  iapply (wpc_pure c)
  isplitl [HC]; · iexact HC
  isplitl [Hp]; · iexact Hp
  isplitl [Hp'] <;> iassumption

/-- The first stage of column group C: its landings taken, the sums that go on sent, those that stay kept. -/
theorem phC1_ok : iprop(CS (Gc I) K c 11 4 ∗ pt I c 2 (b1 c) 1 0 ∗ pt I c 2 (b1 c + 2) 1 0 ∗ pt I c 2 (b1 c + 4) 1 0 ∗ pt I c 2 (b1 c + 6) 1 0)
    ⊢ wpc c (phC1 c) (fun _ => iprop(CS (Gc I) K c 13 8 ∗ pt I c 2 (b1 c + 4 * b4 c) 1 1 ∗ pt I c 2 (b1 c + 4 * b4 c + 2) 1 1
      ∗ lnd I c c0M Finset.univ 2 0 (gC0 c))) := by
  unfold phC1
  simp only [Pipeline.chain_cons, Pipeline.chain_nil]
  iintro ⟨HC, Hp⟩
  ihave Hp := (swap4 (b := b4 c) (by revert c; decide) (fun a => pt I c 2 a 1 0) (d0 := sa c .c4) (d1 := sa c .c5) (d2 := b1 c + 4 * b4 c) (d3 := b1 c + 4 * b4 c + 2)
    (by revert c; decide) (by revert c; decide) (by revert c; decide) (by revert c; decide)) $$ Hp
  icases Hp with ⟨Hs, Hs', Hp, Hp'⟩
  iapply (wp_recvP I K c .c0 11 4 rfl (by decide +kernel) (land_c0 I c)) $$ HC
  iintro ⟨HC, H0⟩
  iapply (wp_recvP I K c .c1 11 5 rfl (by decide +kernel) (land_c1 I c)) $$ HC
  iintro ⟨HC, H1⟩
  ihave HL := (lnd_join I c c0M 2 0 (gC0 c) (a := 0) (b := 128) (d := 256) (by decide) (by decide)) $$ [H0 H1]
  · isplitl [H0] <;> iassumption
  iapply (wp_recvP I K c .c2 11 6 rfl (by decide +kernel) (land_c2 I c)) $$ HC
  iintro ⟨HC, H1⟩
  ihave HL := (lnd_join I c c0M 2 0 (gC0 c) (a := 0) (b := 256) (d := 384) (by decide) (by decide)) $$ [HL H1]
  · isplitl [HL] <;> iassumption
  iapply (wp_recvP I K c .c3 11 7 rfl (by decide +kernel) (land_c3 I c)) $$ HC
  iintro ⟨HC, H1⟩
  ihave HL := (lnd_join I c c0M 2 0 (gC0 c) (a := 0) (b := 384) (d := 512) (by decide) (by decide)) $$ [HL H1]
  · isplitl [HL] <;> iassumption
  rw [rw_univ]
  iapply (wp_add I c (m := c0M) (g := gC0 c) 2 0 (a := sa c .c4) (n := 1) (r := 256 * (1 - b4 c)) (by revert c; decide +kernel) (by revert c; decide +kernel) rfl rfl rfl ?_) $$ [Hs HL]
  · have h : sa c .c4 = b1 c + 4 * (1 - b4 c) := rfl
    intro k hk; rw [h]; unfold gC0; omega
  · isplitl [Hs] <;> iassumption
  iintro ⟨Hs, HL⟩
  iapply (wp_sendP I K c .c4 11 8 2 1 1 rfl rfl rfl rfl rfl rfl) $$ [HC Hs]
  · isplitl [HC] <;> iassumption
  iintro HC
  iapply (wp_add I c (m := c0M) (g := gC0 c) 2 0 (a := sa c .c5) (n := 1) (r := 256 * (1 - b4 c) + 128) (by revert c; decide +kernel) (by revert c; decide +kernel) rfl rfl rfl ?_) $$ [Hs' HL]
  · have h : sa c .c5 = b1 c + 4 * (1 - b4 c) + 2 := rfl
    intro k hk; rw [h]; unfold gC0; omega
  · isplitl [Hs'] <;> iassumption
  iintro ⟨Hs', HL⟩
  iapply (wp_sendP I K c .c5 12 8 2 1 1 rfl rfl rfl rfl rfl rfl) $$ [HC Hs']
  · isplitl [HC] <;> iassumption
  iintro HC
  iapply (wp_add I c (m := c0M) (g := gC0 c) 2 0 (a := b1 c + 4 * b4 c) (n := 1) (r := 256 * b4 c) (by revert c; decide +kernel) (by revert c; decide +kernel) rfl rfl rfl ?_) $$ [Hp HL]
  · intro k hk; unfold gC0; omega
  · isplitl [Hp] <;> iassumption
  iintro ⟨Hp, HL⟩
  iapply (wp_add I c (m := c0M) (g := gC0 c) 2 0 (a := b1 c + 4 * b4 c + 2) (n := 1) (r := 256 * b4 c + 128) (by revert c; decide +kernel) (by revert c; decide +kernel) rfl rfl rfl ?_) $$ [Hp' HL]
  · intro k hk; unfold gC0; omega
  · isplitl [Hp'] <;> iassumption
  iintro ⟨Hp', HL⟩
  iapply (wpc_pure c)
  isplitl [HC]; · iexact HC
  isplitl [Hp]; · iexact Hp
  isplitl [Hp'] <;> iassumption

/-! ## Second stage -/

/-- The second stage of column group A: its landing taken, one chunk sent and the device's own chunk kept. -/
theorem phA2_ok : iprop(CS (Gc I) K c 13 8 ∗ pt I c 0 (4 * b4 c + 2 * b2 c) 2 1)
    ⊢ wpc c (phA2 c) (fun _ => iprop(CS (Gc I) K c 14 9 ∗ pt I c 0 (ell c) 1 2 ∗ lnd I c a1M Finset.univ 0 1 (gA1 c))) := by
  unfold phA2
  simp only [Pipeline.chain_cons, Pipeline.chain_nil]
  iintro ⟨HC, Hp⟩
  ihave Hp := (tile_split c pM (T1 := ch (sa c .a3) 1) (T2 := ch (ell c) 1) (by revert c; decide +kernel) (by revert c; decide +kernel)) $$ Hp
  icases Hp with ⟨Hs, Hp⟩
  iapply (wp_recvP I K c .a2 13 8 rfl (by decide +kernel) (land_a2 I c)) $$ HC
  iintro ⟨HC, HL⟩
  iapply (wp_add I c (m := a1M) (g := gA1 c) 0 1 (a := sa c .a3) (n := 1) (r := 128 * (1 - b1 c)) (by revert c; decide +kernel) (by revert c; decide +kernel) rfl rfl rfl ?_) $$ [Hs HL]
  · have h : sa c .a3 = 4 * b4 c + 2 * b2 c + (1 - b1 c) := rfl
    intro k hk; rw [h]; unfold gA1; omega
  · isplitl [Hs] <;> iassumption
  iintro ⟨Hs, HL⟩
  iapply (wp_sendP I K c .a3 13 9 0 1 2 rfl rfl rfl rfl rfl rfl) $$ [HC Hs]
  · isplitl [HC] <;> iassumption
  iintro HC
  iapply (wp_add I c (m := a1M) (g := gA1 c) 0 1 (a := ell c) (n := 1) (r := 128 * b1 c) (by revert c; decide +kernel) (by revert c; decide +kernel) rfl rfl rfl ?_) $$ [Hp HL]
  · have h : ell c = 4 * b4 c + 2 * b2 c + b1 c := by revert c; decide
    intro k hk; unfold gA1; omega
  · isplitl [Hp] <;> iassumption
  iintro ⟨Hp, HL⟩
  iapply (wpc_pure c)
  isplitl [HC]; · iexact HC
  isplitl [Hp] <;> iassumption

/-- The second stage of column group B: its landings taken, one chunk sent and the device's own chunk kept. -/
theorem phB2_ok : iprop(CS (Gc I) K c 14 9 ∗ pt I c 1 (2 * b2 c + b1 c) 1 1 ∗ pt I c 1 (4 + 2 * b2 c + b1 c) 1 1)
    ⊢ wpc c (phB2 c) (fun _ => iprop(CS (Gc I) K c 15 11 ∗ pt I c 1 (ell c) 1 2 ∗ lnd I c b1M Finset.univ 1 1 (gB1 c))) := by
  unfold phB2
  simp only [Pipeline.chain_cons, Pipeline.chain_nil]
  iintro ⟨HC, Hp⟩
  ihave Hp := (swap2 (b := b4 c) (by revert c; decide) (fun a => pt I c 1 a 1 1) (d0 := sa c .b4) (d1 := ell c) (by revert c; decide) (by revert c; decide)) $$ Hp
  icases Hp with ⟨Hs, Hp⟩
  iapply (wp_recvP I K c .b2 14 9 rfl (by decide +kernel) (land_b2 I c)) $$ HC
  iintro ⟨HC, H0⟩
  iapply (wp_recvP I K c .b3 14 10 rfl (by decide +kernel) (land_b3 I c)) $$ HC
  iintro ⟨HC, H1⟩
  ihave HL := (lnd_join I c b1M 1 1 (gB1 c) (a := 0) (b := 128) (d := 256) (by decide) (by decide)) $$ [H0 H1]
  · isplitl [H0] <;> iassumption
  rw [rw_univ]
  iapply (wp_add I c (m := b1M) (g := gB1 c) 1 1 (a := sa c .b4) (n := 1) (r := 128 * (1 - b4 c)) (by revert c; decide +kernel) (by revert c; decide +kernel) rfl rfl rfl ?_) $$ [Hs HL]
  · have h : sa c .b4 = 4 * (1 - b4 c) + 2 * b2 c + b1 c := rfl
    have h4 : b4 c < 2 := by revert c; decide
    intro k hk; rw [h]; unfold gB1; omega
  · isplitl [Hs] <;> iassumption
  iintro ⟨Hs, HL⟩
  iapply (wp_sendP I K c .b4 14 11 1 1 2 rfl rfl rfl rfl rfl rfl) $$ [HC Hs]
  · isplitl [HC] <;> iassumption
  iintro HC
  iapply (wp_add I c (m := b1M) (g := gB1 c) 1 1 (a := ell c) (n := 1) (r := 128 * b4 c) (by revert c; decide +kernel) (by revert c; decide +kernel) rfl rfl rfl ?_) $$ [Hp HL]
  · have h : ell c = 4 * b4 c + 2 * b2 c + b1 c := by revert c; decide
    intro k hk; unfold gB1; omega
  · isplitl [Hp] <;> iassumption
  iintro ⟨Hp, HL⟩
  iapply (wpc_pure c)
  isplitl [HC]; · iexact HC
  isplitl [Hp] <;> iassumption

/-- The second stage of column group C: its landings taken, one chunk sent and the device's own chunk kept. -/
theorem phC2_ok : iprop(CS (Gc I) K c 15 11 ∗ pt I c 2 (b1 c + 4 * b4 c) 1 1 ∗ pt I c 2 (b1 c + 4 * b4 c + 2) 1 1)
    ⊢ wpc c (phC2 c) (fun _ => iprop(CS (Gc I) K c 16 13 ∗ pt I c 2 (ell c) 1 2 ∗ lnd I c c1M Finset.univ 2 1 (gC1 c))) := by
  unfold phC2
  simp only [Pipeline.chain_cons, Pipeline.chain_nil]
  iintro ⟨HC, Hp⟩
  ihave Hp := (swap2 (b := b2 c) (by revert c; decide) (fun a => pt I c 2 a 1 1) (d0 := sa c .c6) (d1 := ell c) (by revert c; decide) (by revert c; decide)) $$ Hp
  icases Hp with ⟨Hs, Hp⟩
  iapply (wp_recvP I K c .c4 15 11 rfl (by decide +kernel) (land_c4 I c)) $$ HC
  iintro ⟨HC, H0⟩
  iapply (wp_recvP I K c .c5 15 12 rfl (by decide +kernel) (land_c5 I c)) $$ HC
  iintro ⟨HC, H1⟩
  ihave HL := (lnd_join I c c1M 2 1 (gC1 c) (a := 0) (b := 128) (d := 256) (by decide) (by decide)) $$ [H0 H1]
  · isplitl [H0] <;> iassumption
  rw [rw_univ]
  iapply (wp_add I c (m := c1M) (g := gC1 c) 2 1 (a := sa c .c6) (n := 1) (r := 128 * (1 - b2 c)) (by revert c; decide +kernel) (by revert c; decide +kernel) rfl rfl rfl ?_) $$ [Hs HL]
  · have h : sa c .c6 = b1 c + 4 * b4 c + 2 * (1 - b2 c) := rfl
    intro k hk; rw [h]; unfold gC1; omega
  · isplitl [Hs] <;> iassumption
  iintro ⟨Hs, HL⟩
  iapply (wp_sendP I K c .c6 15 13 2 1 2 rfl rfl rfl rfl rfl rfl) $$ [HC Hs]
  · isplitl [HC] <;> iassumption
  iintro HC
  iapply (wp_add I c (m := c1M) (g := gC1 c) 2 1 (a := ell c) (n := 1) (r := 128 * b2 c) (by revert c; decide +kernel) (by revert c; decide +kernel) rfl rfl rfl ?_) $$ [Hp HL]
  · have h : ell c = 4 * b4 c + 2 * b2 c + b1 c := by revert c; decide
    intro k hk; unfold gC1; omega
  · isplitl [Hp] <;> iassumption
  iintro ⟨Hp, HL⟩
  iapply (wpc_pure c)
  isplitl [HC]; · iexact HC
  isplitl [Hp] <;> iassumption

end Cert.KernelIdeal.Moe
-- ==== Proof.Gather.lean ====
module

public import proofs.«01_k».proof.Proof.Exchange

@[expose] public section

noncomputable section

/-! # The finished rows, gathered, and the last waits -/

namespace Cert.KernelIdeal.Moe

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CI → ℕ) (c : Dev nD)

/-! ## The finished rows -/

/-- The value of an element of the rows this device finishes: the two partial sums and the shared expert's. -/
theorem own_val {s : Shape} (A B : FVec F s .bf16) (S : FVec F s .f32) (j : s.Idx) (X : Fin 3) (i : S1024x1024.Idx) (hX : grp (i 1 : ℕ) = X)
    (hA : A j = P I 2 c i) (hB : B j = P I 2 (nb (axs X 2) c) i) (hS : S j = shV I c (ix2 ((i 0 : ℕ) - 128 * ell c) (i 1 : ℕ))) :
    (addf (extf .f32 (addf A B) bitsLt_bf16_f32) S : FVec F s .f32) j = VO I c i := by
  subst hX
  show FloatOps.addf (FloatOps.extf .f32 bitsLt_bf16_f32 (FloatOps.addf (A j) (B j))) (S j) = _
  rw [hA, hB, hS]
  rfl

/-- A row this device finishes is gathered from it. -/
theorem GB_own (i : S1024x1024.Idx) (h : (i 0 : ℕ) / 128 = ell c) : GB I i = FloatOps.truncf .bf16 bitsLt_bf16_f32 (VO I c i) := by
  unfold GB
  rw [h, owner_ell]
  rfl

/-- On the rows a device finishes, its output is what it finished. -/
theorem OUT_own (i : S1024x1024.Idx) (h : (i 0 : ℕ) / 128 = ell c) : OUT I c i = VO I c i := if_pos h

section Own
variable {W : ℕ} {pay : FVec F S128x1024 .f32 → Vec F ⟨2, ![128, W]⟩ .bf16 → Vec F ⟨2, ![128, W]⟩ .bf16 → FVec F ⟨2, ![128, W]⟩ .f32}
  {off : Fin 2 → ℕ} {inb : ∀ a, off a + (![128, W] : Fin 2 → ℕ) a ≤ S1024x1024.size a}
  {inb0 : ∀ a, (![0, 0] : Fin 2 → ℕ) a + (![128, W] : Fin 2 → ℕ) a ≤ (![128, W] : Fin 2 → ℕ) a}

/-- The rows finished in column group `X`, from the partial sums and the received block. -/
theorem own_pay (X : Fin 3) (hW : W = wd X) (hoff : off = ![128 * ell c, lo X]) (hs : S128x1024.Slices ![0, lo X] ⟨2, ![128, W]⟩)
    (hpay : ∀ sh p r, pay sh p r = addf (extf .f32 (addf p r : FVec F ⟨2, ![128, W]⟩ .bf16) bitsLt_bf16_f32) (extractStridedSlice ⟨2, ![128, W]⟩ ![0, lo X] sh hs))
    (j : (⟨2, ![128, W]⟩ : Shape).Idx) :
    pay (shV I c) (fun j => P I 2 c ((Rect.unit (s := S1024x1024) off ![128, W] inb).emb j))
      (fun j => P I 2 (nb (axs X 2) c) (ix2 (gL c ((Rect.unit (s := ⟨2, ![128, W]⟩) ![0, 0] ![128, W] inb0).emb j 0 : ℕ)) (lo X + ((Rect.unit (s := ⟨2, ![128, W]⟩) ![0, 0] ![128, W] inb0).emb j 1 : ℕ)))) j
      = VO I c ((Rect.unit (s := S1024x1024) off ![128, W] inb).emb j) := by
  have j0 : (j 0 : ℕ) < 128 := (j 0).isLt
  have j1 : (j 1 : ℕ) < W := (j 1).isLt
  have hl := lo_wd X
  have he := ell_lt c
  haveI : NeZero W := ⟨by omega⟩
  have e1 : ((Rect.unit (s := S1024x1024) off ![128, W] inb).emb j 1 : ℕ) = lo X + j 1 := by
    rw [emb_ix2 hoff]; exact ix2_1 (by omega)
  have e0 : ((Rect.unit (s := S1024x1024) off ![128, W] inb).emb j 0 : ℕ) = 128 * ell c + j 0 := by
    rw [emb_ix2 hoff]; exact ix2_0 (by omega)
  rw [hpay]
  refine own_val I c _ _ _ j X _ (by rw [e1]; exact grp_lo X (by omega)) rfl ?_ ?_
  · show P I 2 _ _ = P I 2 _ _
    rw [emb_zero, emb_ix2 hoff]
    rfl
  · refine (extractStridedSlice_apply ![0, lo X] (shV I c) hs j (ix2 (j 0 : ℕ) (lo X + j 1)) fun a => ?_).trans ?_
    · fin_cases a
      · show (ix2 (j 0 : ℕ) (lo X + j 1) : S128x1024.Idx) 0 = 0 + (j 0 : ℕ)
        rw [Nat.zero_add]; exact ix2_0 j0
      · show ((ix2 (j 0 : ℕ) (lo X + j 1) : S128x1024.Idx) 1 : ℕ) = lo X + (j 1 : ℕ)
        exact ix2_1 (by omega)
    · rw [e0, e1, Nat.add_sub_cancel_left]

/-- A row of the device's own chunk belongs to that chunk. -/
theorem own_row (X : Fin 3) (hW : W = wd X) (hoff : off = ![128 * ell c, lo X]) (j : (⟨2, ![128, W]⟩ : Shape).Idx) :
    ((Rect.unit (s := S1024x1024) off ![128, W] inb).emb j 0 : ℕ) / 128 = ell c := by
  have j0 : (j 0 : ℕ) < 128 := (j 0).isLt
  have he := ell_lt c
  rw [emb_ix2 hoff, ix2_0 (by omega)]
  omega
end Own

/-- Column group A of the shared product. -/
theorem hs0 : S128x1024.Slices ![0, lo 0] S128x384 := slices_S128x1024_o0_0_S128x384

/-- Column group B of the shared product. -/
theorem hs1 : S128x1024.Slices ![0, lo 1] S128x384 := slices_S128x1024_o0_384_S128x384

/-- Column group C of the shared product. -/
theorem hs2 : S128x1024.Slices ![0, lo 2] S128x256 := slices_S128x1024_o0_768_S128x256

/-- A gather transfer's credit, counted at the gathered buffer, is that transfer's amount. -/
theorem gcred (j : Tr) (h : isG j = true) : (gM.view.ref.dmaCredit ⟨2, (ends 0 j).ts⟩ .bf16 : ℕ) = amt j := by
  unfold amt
  cases j <;> first
    | exact absurd h (by decide)
    | rfl

/-- A block of the gather counts alike at its two ends. -/
theorem gsrc (j : Tr) (h : isG j = true) : (ends c j).src.view.dmaCredit = amt j := by
  refine Eq.trans ?_ (amt_eq c j)
  cases j <;> first
    | exact absurd h (by decide)
    | rfl

/-- Gathered rows at equal first chunks. -/
theorem gt_eq {q : PosShare TreeShare} {X : Fin 3} {a b n : ℕ} (h : a = b) : (gt I c q X a n : sProp 𝕄) ⊢ gt I c q X b n := by subst h; exact .rfl

/-- The shares the stages of the gather take. -/
abbrev qL : PosShare TreeShare := fullShare.left
abbrev qR : PosShare TreeShare := fullShare.right
abbrev qRL : PosShare TreeShare := fullShare.right.left
abbrev qRR : PosShare TreeShare := fullShare.right.right

/-- The shared expert's values on this device's rows. -/
theorem phShared_ok {α : Type} {Q : α → sProp 𝕄} {k : FVec F S128x1024 .f32 → Pg F α} :
    iprop(own c xM fullShare Finset.univ (I.x c) ∗ own c swM fullShare Finset.univ (I.sw c))
    ⊢ iprop((iprop(own c xM fullShare Finset.univ (I.x c) ∗ own c swM fullShare Finset.univ (I.sw c)) -∗ wpc c (k (shV I c)) Q) -∗ wpc c (phShared c >>= k) Q) := by
  unfold phShared
  simp only [bind_assoc, pure_bind]
  iintro ⟨Hx, Hs⟩ Hk
  iapply (wp_ld c xM (k0_off51 c) S128x512.size (k0_off51_inb c) h_S128x512 (Finset.subset_univ _)) $$ Hx
  iintro Hx
  iapply (wp_ld c swM ![0, 0] S512x1024.size inb_S512x1024_S512x1024_0_0 h_S512x1024 (Finset.subset_univ _)) $$ Hs
  iintro Hs
  have ho : k0_off51 c = ![128 * ell c, 0] := by revert c; decide +kernel
  have e1 : (fun j => I.x c ((Rect.unit (s := S1024x512) (k0_off51 c) S128x512.size (k0_off51_inb c)).emb j)) = fun j => I.x c (ix2 (128 * ell c + j 0) (0 + j 1)) :=
    funext fun j => by rw [emb_ix2 ho]
  have e2 : (fun j => I.sw c ((Rect.unit (s := S512x1024) ![0, 0] S512x1024.size inb_S512x1024_S512x1024_0_0).emb j)) = fun j => I.sw c (ix2 (0 + j 0) (0 + j 1)) :=
    funext fun j => by rw [emb_ix2 (r := 0) (k := 0) rfl]
  have e : k0_pay88 (fun j => I.x c ((Rect.unit (s := S1024x512) (k0_off51 c) S128x512.size (k0_off51_inb c)).emb j))
      (fun j => I.sw c ((Rect.unit (s := S512x1024) ![0, 0] S512x1024.size inb_S512x1024_S512x1024_0_0).emb j)) = shV I c := by
    unfold shV; exact congrArg₂ k0_pay88 e1 e2
  rw [e]
  iapply Hk
  isplitl [Hx] <;> iassumption

/-- Split a share of the gathered result in three. -/
theorem gt_three {X : Fin 3} {a n : ℕ} : (gt I c fullShare X a n : sProp 𝕄) ⊢ iprop(gt I c qL X a n ∗ gt I c qRL X a n ∗ gt I c qRR X a n) := by
  iintro H
  ihave H := (own_share c gM) $$ H
  icases H with ⟨H1, H⟩
  isplitl [H1]; · iexact H1
  iapply (own_share c gM)
  iexact H

/-- The last arrivals of the reduction, and this device's rows: finished, sent, written out. -/
theorem phOwn_ok : iprop(CS (Gc I) K c 16 13 ∗ pt I c 0 (ell c) 1 2 ∗ pt I c 1 (ell c) 1 2 ∗ pt I c 2 (ell c) 1 2
      ∗ gj c 0 (ell c) 1 ∗ gj c 1 (ell c) 1 ∗ gj c 2 (ell c) 1 ∗ oj c 0 (ell c) 1 ∗ oj c 1 (ell c) 1 ∗ oj c 2 (ell c) 1)
    ⊢ wpc c (phOwn c (shV I c)) (fun _ => iprop(CS (Gc I) K c 19 16 ∗ pt I c 0 (ell c) 1 2 ∗ pt I c 1 (ell c) 1 2 ∗ pt I c 2 (ell c) 1 2
      ∗ lnd I c a2M Finset.univ 0 2 (gL c) ∗ lnd I c b2M Finset.univ 1 2 (gL c) ∗ lnd I c c2M Finset.univ 2 2 (gL c)
      ∗ gt I c qL 0 (ell c) 1 ∗ gt I c qRL 0 (ell c) 1 ∗ gt I c qL 1 (ell c) 1 ∗ gt I c qRL 1 (ell c) 1 ∗ gt I c qL 2 (ell c) 1 ∗ gt I c qRL 2 (ell c) 1
      ∗ ot I c 0 (ell c) 1 ∗ ot I c 1 (ell c) 1 ∗ ot I c 2 (ell c) 1)) := by
  have o0 : k0_off55 c = ![128 * ell c, lo 0] := by revert c; decide +kernel
  have o1 : k0_off60 c = ![128 * ell c, lo 1] := by revert c; decide +kernel
  have o2 : k0_off65 c = ![128 * ell c, lo 2] := by revert c; decide +kernel
  have t0 : (Rect.unit (s := S1024x1024) (k0_off55 c) S128x384.size (k0_off55_inb c)).set = tl 0 (ch (ell c) 1) := rect_tl o0 rfl
  have t1 : (Rect.unit (s := S1024x1024) (k0_off60 c) S128x384.size (k0_off60_inb c)).set = tl 1 (ch (ell c) 1) := rect_tl o1 rfl
  have t2 : (Rect.unit (s := S1024x1024) (k0_off65 c) S128x256.size (k0_off65_inb c)).set = tl 2 (ch (ell c) 1) := rect_tl o2 rfl
  unfold phOwn
  iintro ⟨HC, Hp0, Hp1, Hp2, Hg0, Hg1, Hg2, Ho0, Ho1, Ho2⟩
  iapply (wp_recvP I K c .a3 16 13 rfl (by decide +kernel) (land_a3 I c)) $$ HC
  iintro ⟨HC, HL0⟩
  iapply (wp_recvP I K c .b4 16 14 rfl (by decide +kernel) (land_b4 I c)) $$ HC
  iintro ⟨HC, HL1⟩
  iapply (wp_recvP I K c .c6 16 15 rfl (by decide +kernel) (land_c6 I c)) $$ HC
  iintro ⟨HC, HL2⟩
  unfold lnd
  iapply (wp_ld c pM (k0_off55 c) S128x384.size (k0_off55_inb c) h_S128x384 (le_of_eq t0)) $$ Hp0
  iintro Hp0
  iapply (wp_ld c a2M ![0, 0] S128x384.size inb_S128x384_S128x384_0_0 h_S128x384 (Finset.subset_univ _)) $$ HL0
  iintro HL0
  iapply (wp_ld c pM (k0_off60 c) S128x384.size (k0_off60_inb c) h_S128x384 (le_of_eq t1)) $$ Hp1
  iintro Hp1
  iapply (wp_ld c b2M ![0, 0] S128x384.size inb_S128x384_S128x384_0_0 h_S128x384 (Finset.subset_univ _)) $$ HL1
  iintro HL1
  iapply (wp_ld c pM (k0_off65 c) S128x256.size (k0_off65_inb c) h_S128x256 (le_of_eq t2)) $$ Hp2
  iintro Hp2
  iapply (wp_ld c c2M ![0, 0] S128x256.size inb_S128x256_S128x256_0_0 h_S128x256 (Finset.subset_univ _)) $$ HL2
  iintro HL2
  iapply (wp_st c gM (k0_off55 c) S128x384.size (k0_off55_inb c) h_S128x384 _ _ (I := tl 0 (ch (ell c) 1)) (g' := GB I) t0 ?_) $$ Hg0
  · intro j
    refine Eq.trans ?_ (GB_own I c _ (own_row c 0 rfl o0 j)).symm
    unfold k0_pay99
    rw [shapeCast_self]
    exact congrArg (FloatOps.truncf .bf16 bitsLt_bf16_f32) (own_pay I c (pay := k0_pay96) 0 rfl o0 hs0 (fun _ _ _ => rfl) j (inb0 := inb_S128x384_S128x384_0_0))
  iintro Hg0
  ihave Hg0 := (gt_three I c) $$ Hg0
  icases Hg0 with ⟨Hl0, Hr0, Hs0⟩
  iapply (wp_st c gM (k0_off60 c) S128x384.size (k0_off60_inb c) h_S128x384 _ _ (I := tl 1 (ch (ell c) 1)) (g' := GB I) t1 ?_) $$ Hg1
  · intro j
    refine Eq.trans ?_ (GB_own I c _ (own_row c 1 rfl o1 j)).symm
    unfold k0_pay100
    rw [shapeCast_self]
    exact congrArg (FloatOps.truncf .bf16 bitsLt_bf16_f32) (own_pay I c (pay := k0_pay97) 1 rfl o1 hs1 (fun _ _ _ => rfl) j (inb0 := inb_S128x384_S128x384_0_0))
  iintro Hg1
  ihave Hg1 := (gt_three I c) $$ Hg1
  icases Hg1 with ⟨Hl1, Hr1, Hs1⟩
  iapply (wp_st c gM (k0_off65 c) S128x256.size (k0_off65_inb c) h_S128x256 _ _ (I := tl 2 (ch (ell c) 1)) (g' := GB I) t2 ?_) $$ Hg2
  · intro j
    refine Eq.trans ?_ (GB_own I c _ (own_row c 2 rfl o2 j)).symm
    unfold k0_pay101
    rw [shapeCast_self]
    exact congrArg (FloatOps.truncf .bf16 bitsLt_bf16_f32) (own_pay I c (pay := k0_pay98) 2 rfl o2 hs2 (fun _ _ _ => rfl) j (inb0 := inb_S128x256_S128x256_0_0))
  iintro Hg2
  ihave Hg2 := (gt_three I c) $$ Hg2
  icases Hg2 with ⟨Hl2, Hr2, Hs2⟩
  iapply (wp_sendG I K c .ga0 16 16 0 1 qRR rfl rfl rfl rfl rfl rfl) $$ [HC Hs0]
  · isplitl [HC]; · iexact HC
    iexact Hs0
  iintro HC
  iapply (wp_sendG I K c .gb0 17 16 1 1 qRR rfl rfl rfl rfl rfl rfl) $$ [HC Hs1]
  · isplitl [HC]; · iexact HC
    iexact Hs1
  iintro HC
  iapply (wp_sendG I K c .gc0 18 16 2 1 qRR rfl rfl rfl rfl rfl rfl) $$ [HC Hs2]
  · isplitl [HC]; · iexact HC
    iexact Hs2
  iintro HC
  iapply (wp_st c oM (k0_off55 c) S128x384.size (k0_off55_inb c) h_S128x384 _ _ (I := tl 0 (ch (ell c) 1)) (g' := OUT I c) t0 ?_) $$ Ho0
  · intro j
    refine Eq.trans ?_ (OUT_own I c _ (own_row c 0 rfl o0 j)).symm
    exact own_pay I c (pay := k0_pay96) 0 rfl o0 hs0 (fun _ _ _ => rfl) j
  iintro Ho0
  iapply (wp_st c oM (k0_off60 c) S128x384.size (k0_off60_inb c) h_S128x384 _ _ (I := tl 1 (ch (ell c) 1)) (g' := OUT I c) t1 ?_) $$ Ho1
  · intro j
    refine Eq.trans ?_ (OUT_own I c _ (own_row c 1 rfl o1 j)).symm
    exact own_pay I c (pay := k0_pay97) 1 rfl o1 hs1 (fun _ _ _ => rfl) j
  iintro Ho1
  iapply (wpc_last c)
  iapply (wp_st c oM (k0_off65 c) S128x256.size (k0_off65_inb c) h_S128x256 _ _ (I := tl 2 (ch (ell c) 1)) (g' := OUT I c) t2 ?_) $$ Ho2
  · intro j
    refine Eq.trans ?_ (OUT_own I c _ (own_row c 2 rfl o2 j)).symm
    exact own_pay I c (pay := k0_pay98) 2 rfl o2 hs2 (fun _ _ _ => rfl) j
  iintro Ho2
  iapply (wpc_pure c)
  isplitl [HC]; · iexact HC
  isplitl [Hp0]; · iexact Hp0
  isplitl [Hp1]; · iexact Hp1
  isplitl [Hp2]; · iexact Hp2
  isplitl [HL0]; · iexact HL0
  isplitl [HL1]; · iexact HL1
  isplitl [HL2]; · iexact HL2
  isplitl [Hl0]; · iexact Hl0
  isplitl [Hr0]; · iexact Hr0
  isplitl [Hl1]; · iexact Hl1
  isplitl [Hr1]; · iexact Hr1
  isplitl [Hl2]; · iexact Hl2
  isplitl [Hr2]; · iexact Hr2
  isplitl [Ho0]; · iexact Ho0
  isplitl [Ho1] <;> iassumption

/-! ## The gather -/

/-- The first stage: what arrived is sent on and written out. -/
theorem phG1_ok : iprop(CS (Gc I) K c 19 16 ∗ gt I c qL 0 (ell c) 1 ∗ gt I c qRL 0 (ell c) 1 ∗ gt I c qRL 1 (ell c) 1 ∗ gt I c qRL 2 (ell c) 1
      ∗ oj c 0 (ra c .ga0) 1 ∗ oj c 1 (ra c .gb0) 1 ∗ oj c 2 (ra c .gc0) 1)
    ⊢ wpc c (phG1 c) (fun _ => iprop(CS (Gc I) K c 24 19 ∗ gt I c qL 0 (sa c .ga1) 2 ∗ gt I c qL 1 (ra c .gb0) 1 ∗ gt I c qL 2 (ra c .gc0) 1
      ∗ gt I c qRR 0 (ra c .ga0) 1 ∗ gt I c qRR 1 (ra c .gb0) 1 ∗ gt I c qRR 2 (ra c .gc0) 1
      ∗ ot I c 0 (ra c .ga0) 1 ∗ ot I c 1 (ra c .gb0) 1 ∗ ot I c 2 (ra c .gc0) 1)) := by
  unfold phG1
  simp only [Pipeline.chain_cons, Pipeline.chain_nil]
  iintro ⟨HC, HlA, HsA, HsB, HsC, HoA, HoB, HoC⟩
  iapply (wp_recvG I K c .ga0 19 16 0 1 rfl rfl rfl rfl (by decide +kernel) (gcred .ga0 rfl)) $$ HC
  iintro ⟨HC, HA⟩
  iapply (wp_recvG I K c .gb0 19 17 1 1 rfl rfl rfl rfl (by decide +kernel) (gcred .gb0 rfl)) $$ HC
  iintro ⟨HC, HB⟩
  iapply (wp_recvG I K c .gc0 19 18 2 1 rfl rfl rfl rfl (by decide +kernel) (gcred .gc0 rfl)) $$ HC
  iintro ⟨HC, HD⟩
  ihave HA := (gt_three I c) $$ HA
  icases HA with ⟨HA1, HA2, HA3⟩
  ihave HB := (gt_three I c) $$ HB
  icases HB with ⟨HB1, HB2, HB3⟩
  ihave HD := (gt_three I c) $$ HD
  icases HD with ⟨HD1, HD2, HD3⟩
  ihave HlA := (tile_join c gM (T := ch (sa c .ga1) 2) (T1 := ch (ell c) 1) (T2 := ch (ra c .ga0) 1) (by revert c; decide +kernel) (by revert c; decide +kernel)) $$ [HlA HA1]
  · isplitl [HlA]; · iexact HlA
    iexact HA1
  ihave HsA := (tile_join c gM (T := ch (sa c .ga1) 2) (T1 := ch (ell c) 1) (T2 := ch (ra c .ga0) 1) (by revert c; decide +kernel) (by revert c; decide +kernel)) $$ [HsA HA2]
  · isplitl [HsA]; · iexact HsA
    iexact HA2
  iapply (wp_sendG I K c .ga1 19 19 0 2 qRL rfl rfl rfl rfl rfl rfl) $$ [HC HsA]
  · isplitl [HC]; · iexact HC
    iexact HsA
  iintro HC
  iapply (wp_sendG I K c .gb1 20 19 1 1 qRL rfl rfl rfl rfl rfl rfl) $$ [HC HsB]
  · isplitl [HC]; · iexact HC
    iexact HsB
  iintro HC
  ihave HB2 := (gt_eq I c (b := sa c .gb2) (by revert c; decide +kernel)) $$ HB2
  iapply (wp_sendG I K c .gb2 21 19 1 1 qRL rfl rfl rfl rfl rfl rfl) $$ [HC HB2]
  · isplitl [HC]; · iexact HC
    iexact HB2
  iintro HC
  iapply (wp_sendG I K c .gc1 22 19 2 1 qRL rfl rfl rfl rfl rfl rfl) $$ [HC HsC]
  · isplitl [HC]; · iexact HC
    iexact HsC
  iintro HC
  ihave HD2 := (gt_eq I c (b := sa c .gc2) (by revert c; decide +kernel)) $$ HD2
  iapply (wp_sendG I K c .gc2 23 19 2 1 qRL rfl rfl rfl rfl rfl rfl) $$ [HC HD2]
  · isplitl [HC]; · iexact HC
    iexact HD2
  iintro HC
  iapply (wp_cast I c 0 (ra c .ga0) 1 qRR (by revert c; decide +kernel) rfl (by revert c; decide +kernel)) $$ [HA3 HoA]
  · isplitl [HA3] <;> iassumption
  iintro ⟨HA3, HoA⟩
  iapply (wp_cast I c 1 (ra c .gb0) 1 qRR (by revert c; decide +kernel) rfl (by revert c; decide +kernel)) $$ [HB3 HoB]
  · isplitl [HB3] <;> iassumption
  iintro ⟨HB3, HoB⟩
  iapply (wp_cast I c 2 (ra c .gc0) 1 qRR (by revert c; decide +kernel) rfl (by revert c; decide +kernel)) $$ [HD3 HoC]
  · isplitl [HD3] <;> iassumption
  iintro ⟨HD3, HoC⟩
  iapply (wpc_pure c)
  isplitl [HC]; · iexact HC
  isplitl [HlA]; · iexact HlA
  isplitl [HB1]; · iexact HB1
  isplitl [HD1]; · iexact HD1
  isplitl [HA3]; · iexact HA3
  isplitl [HB3]; · iexact HB3
  isplitl [HD3]; · iexact HD3
  isplitl [HoA]; · iexact HoA
  isplitl [HoB] <;> iassumption

/-- The second stage. -/
theorem phG2_ok : iprop(CS (Gc I) K c 24 19 ∗ gt I c qL 0 (sa c .ga1) 2 ∗ gt I c qL 1 (ell c) 1 ∗ gt I c qL 1 (ra c .gb0) 1 ∗ gt I c qL 2 (ell c) 1 ∗ gt I c qL 2 (ra c .gc0) 1
      ∗ oj c 0 (ra c .ga1) 2 ∗ oj c 1 (ra c .gb1) 1 ∗ oj c 1 (ra c .gb2) 1 ∗ oj c 2 (ra c .gc1) 1 ∗ oj c 2 (ra c .gc2) 1)
    ⊢ wpc c (phG2 c) (fun _ => iprop(CS (Gc I) K c 31 24 ∗ gt I c qR 0 (ra c .ga1) 2 ∗ gt I c qR 1 (ra c .gb1) 1 ∗ gt I c qR 1 (ra c .gb2) 1
      ∗ gt I c qR 2 (ra c .gc1) 1 ∗ gt I c qR 2 (ra c .gc2) 1
      ∗ ot I c 0 (ra c .ga1) 2 ∗ ot I c 1 (ra c .gb1) 1 ∗ ot I c 1 (ra c .gb2) 1 ∗ ot I c 2 (ra c .gc1) 1 ∗ ot I c 2 (ra c .gc2) 1)) := by
  unfold phG2
  simp only [Pipeline.chain_cons, Pipeline.chain_nil]
  iintro ⟨HC, HlA, HlB, HlB', HlC, HlC', Ho1, Ho2, Ho3, Ho4, Ho5⟩
  iapply (wp_recvG I K c .ga1 24 19 0 2 rfl rfl rfl rfl (by decide +kernel) (gcred .ga1 rfl)) $$ HC
  iintro ⟨HC, H1⟩
  iapply (wp_recvG I K c .gb1 24 20 1 1 rfl rfl rfl rfl (by decide +kernel) (gcred .gb1 rfl)) $$ HC
  iintro ⟨HC, H2⟩
  iapply (wp_recvG I K c .gb2 24 21 1 1 rfl rfl rfl rfl (by decide +kernel) (gcred .gb2 rfl)) $$ HC
  iintro ⟨HC, H3⟩
  iapply (wp_recvG I K c .gc1 24 22 2 1 rfl rfl rfl rfl (by decide +kernel) (gcred .gc1 rfl)) $$ HC
  iintro ⟨HC, H4⟩
  iapply (wp_recvG I K c .gc2 24 23 2 1 rfl rfl rfl rfl (by decide +kernel) (gcred .gc2 rfl)) $$ HC
  iintro ⟨HC, H5⟩
  ihave H1 := (own_share c gM) $$ H1
  icases H1 with ⟨Hl1, H1⟩
  ihave H2 := (own_share c gM) $$ H2
  icases H2 with ⟨Hl2, H2⟩
  ihave H3 := (own_share c gM) $$ H3
  icases H3 with ⟨Hl3, H3⟩
  ihave H4 := (own_share c gM) $$ H4
  icases H4 with ⟨Hl4, H4⟩
  ihave H5 := (own_share c gM) $$ H5
  icases H5 with ⟨Hl5, H5⟩
  ihave HlA := (tile_join c gM (T := ch (sa c .ga2) 4) (T1 := ch (sa c .ga1) 2) (T2 := ch (ra c .ga1) 2) (by revert c; decide +kernel) (by revert c; decide +kernel)) $$ [HlA Hl1]
  · isplitl [HlA]; · iexact HlA
    iexact Hl1
  ihave HlB := (tile_join c gM (T := ch (sa c .gb3) 2) (T1 := ch (ell c) 1) (T2 := ch (ra c .gb1) 1) (by revert c; decide +kernel) (by revert c; decide +kernel)) $$ [HlB Hl2]
  · isplitl [HlB]; · iexact HlB
    iexact Hl2
  ihave HlB' := (tile_join c gM (T := ch (sa c .gb4) 2) (T1 := ch (ra c .gb0) 1) (T2 := ch (ra c .gb2) 1) (by revert c; decide +kernel) (by revert c; decide +kernel)) $$ [HlB' Hl3]
  · isplitl [HlB']; · iexact HlB'
    iexact Hl3
  iapply (wp_sendG I K c .ga2 24 24 0 4 qL rfl rfl rfl rfl rfl rfl) $$ [HC HlA]
  · isplitl [HC]; · iexact HC
    iexact HlA
  iintro HC
  iapply (wp_sendG I K c .gb3 25 24 1 2 qL rfl rfl rfl rfl rfl rfl) $$ [HC HlB]
  · isplitl [HC]; · iexact HC
    iexact HlB
  iintro HC
  iapply (wp_sendG I K c .gb4 26 24 1 2 qL rfl rfl rfl rfl rfl rfl) $$ [HC HlB']
  · isplitl [HC]; · iexact HC
    iexact HlB'
  iintro HC
  iapply (wp_sendG I K c .gc3 27 24 2 1 qL rfl rfl rfl rfl rfl rfl) $$ [HC HlC]
  · isplitl [HC]; · iexact HC
    iexact HlC
  iintro HC
  ihave HlC' := (gt_eq I c (b := sa c .gc4) (by revert c; decide +kernel)) $$ HlC'
  iapply (wp_sendG I K c .gc4 28 24 2 1 qL rfl rfl rfl rfl rfl rfl) $$ [HC HlC']
  · isplitl [HC]; · iexact HC
    iexact HlC'
  iintro HC
  ihave Hl4 := (gt_eq I c (b := sa c .gc5) (by revert c; decide +kernel)) $$ Hl4
  iapply (wp_sendG I K c .gc5 29 24 2 1 qL rfl rfl rfl rfl rfl rfl) $$ [HC Hl4]
  · isplitl [HC]; · iexact HC
    iexact Hl4
  iintro HC
  ihave Hl5 := (gt_eq I c (b := sa c .gc6) (by revert c; decide +kernel)) $$ Hl5
  iapply (wp_sendG I K c .gc6 30 24 2 1 qL rfl rfl rfl rfl rfl rfl) $$ [HC Hl5]
  · isplitl [HC]; · iexact HC
    iexact Hl5
  iintro HC
  iapply (wp_cast I c 0 (ra c .ga1) 2 qR (by revert c; decide +kernel) rfl (by revert c; decide +kernel)) $$ [H1 Ho1]
  · isplitl [H1] <;> iassumption
  iintro ⟨H1, Ho1⟩
  iapply (wp_cast I c 1 (ra c .gb1) 1 qR (by revert c; decide +kernel) rfl (by revert c; decide +kernel)) $$ [H2 Ho2]
  · isplitl [H2] <;> iassumption
  iintro ⟨H2, Ho2⟩
  iapply (wp_cast I c 1 (ra c .gb2) 1 qR (by revert c; decide +kernel) rfl (by revert c; decide +kernel)) $$ [H3 Ho3]
  · isplitl [H3] <;> iassumption
  iintro ⟨H3, Ho3⟩
  iapply (wp_cast I c 2 (ra c .gc1) 1 qR (by revert c; decide +kernel) rfl (by revert c; decide +kernel)) $$ [H4 Ho4]
  · isplitl [H4] <;> iassumption
  iintro ⟨H4, Ho4⟩
  iapply (wp_cast I c 2 (ra c .gc2) 1 qR (by revert c; decide +kernel) rfl (by revert c; decide +kernel)) $$ [H5 Ho5]
  · isplitl [H5] <;> iassumption
  iintro ⟨H5, Ho5⟩
  iapply (wpc_pure c)
  isplitl [HC]; · iexact HC
  isplitl [H1]; · iexact H1
  isplitl [H2]; · iexact H2
  isplitl [H3]; · iexact H3
  isplitl [H4]; · iexact H4
  isplitl [H5]; · iexact H5
  isplitl [Ho1]; · iexact Ho1
  isplitl [Ho2]; · iexact Ho2
  isplitl [Ho3]; · iexact Ho3
  isplitl [Ho4] <;> iassumption

/-- The last stage. -/
theorem phG3_ok : iprop(CS (Gc I) K c 31 24 ∗ oj c 2 (ra c .gc3) 1 ∗ oj c 2 (ra c .gc4) 1 ∗ oj c 1 (ra c .gb3) 2 ∗ oj c 2 (ra c .gc5) 1 ∗ oj c 1 (ra c .gb4) 2 ∗ oj c 2 (ra c .gc6) 1 ∗ oj c 0 (ra c .ga2) 4)
    ⊢ wpc c (phG3 c) (fun _ => iprop(CS (Gc I) K c 31 31 ∗ gt I c fullShare 2 (ra c .gc3) 1 ∗ gt I c fullShare 2 (ra c .gc4) 1 ∗ gt I c fullShare 1 (ra c .gb3) 2 ∗ gt I c fullShare 2 (ra c .gc5) 1 ∗ gt I c fullShare 1 (ra c .gb4) 2 ∗ gt I c fullShare 2 (ra c .gc6) 1 ∗ gt I c fullShare 0 (ra c .ga2) 4
      ∗ ot I c 2 (ra c .gc3) 1 ∗ ot I c 2 (ra c .gc4) 1 ∗ ot I c 1 (ra c .gb3) 2 ∗ ot I c 2 (ra c .gc5) 1 ∗ ot I c 1 (ra c .gb4) 2 ∗ ot I c 2 (ra c .gc6) 1 ∗ ot I c 0 (ra c .ga2) 4)) := by
  unfold phG3
  simp only [Pipeline.chain_cons, Pipeline.chain_nil]
  iintro ⟨HC, Ho1, Ho2, Ho3, Ho4, Ho5, Ho6, Ho7⟩
  iapply (wp_recvG I K c .gc3 31 24 2 1 rfl rfl rfl rfl (by decide +kernel) (gcred .gc3 rfl)) $$ HC
  iintro ⟨HC, H1⟩
  iapply (wp_cast I c 2 (ra c .gc3) 1 fullShare (by revert c; decide +kernel) rfl (by revert c; decide +kernel)) $$ [H1 Ho1]
  · isplitl [H1] <;> iassumption
  iintro ⟨H1, Ho1⟩
  iapply (wp_recvG I K c .gc4 31 25 2 1 rfl rfl rfl rfl (by decide +kernel) (gcred .gc4 rfl)) $$ HC
  iintro ⟨HC, H2⟩
  iapply (wp_cast I c 2 (ra c .gc4) 1 fullShare (by revert c; decide +kernel) rfl (by revert c; decide +kernel)) $$ [H2 Ho2]
  · isplitl [H2] <;> iassumption
  iintro ⟨H2, Ho2⟩
  iapply (wp_recvG I K c .gb3 31 26 1 2 rfl rfl rfl rfl (by decide +kernel) (gcred .gb3 rfl)) $$ HC
  iintro ⟨HC, H3⟩
  iapply (wp_cast I c 1 (ra c .gb3) 2 fullShare (by revert c; decide +kernel) rfl (by revert c; decide +kernel)) $$ [H3 Ho3]
  · isplitl [H3] <;> iassumption
  iintro ⟨H3, Ho3⟩
  iapply (wp_recvG I K c .gc5 31 27 2 1 rfl rfl rfl rfl (by decide +kernel) (gcred .gc5 rfl)) $$ HC
  iintro ⟨HC, H4⟩
  iapply (wp_cast I c 2 (ra c .gc5) 1 fullShare (by revert c; decide +kernel) rfl (by revert c; decide +kernel)) $$ [H4 Ho4]
  · isplitl [H4] <;> iassumption
  iintro ⟨H4, Ho4⟩
  iapply (wp_recvG I K c .gb4 31 28 1 2 rfl rfl rfl rfl (by decide +kernel) (gcred .gb4 rfl)) $$ HC
  iintro ⟨HC, H5⟩
  iapply (wp_cast I c 1 (ra c .gb4) 2 fullShare (by revert c; decide +kernel) rfl (by revert c; decide +kernel)) $$ [H5 Ho5]
  · isplitl [H5] <;> iassumption
  iintro ⟨H5, Ho5⟩
  iapply (wp_recvG I K c .gc6 31 29 2 1 rfl rfl rfl rfl (by decide +kernel) (gcred .gc6 rfl)) $$ HC
  iintro ⟨HC, H6⟩
  iapply (wp_cast I c 2 (ra c .gc6) 1 fullShare (by revert c; decide +kernel) rfl (by revert c; decide +kernel)) $$ [H6 Ho6]
  · isplitl [H6] <;> iassumption
  iintro ⟨H6, Ho6⟩
  iapply (wp_recvG I K c .ga2 31 30 0 4 rfl rfl rfl rfl (by decide +kernel) (gcred .ga2 rfl)) $$ HC
  iintro ⟨HC, H7⟩
  iapply (wp_cast I c 0 (ra c .ga2) 4 fullShare (by revert c; decide +kernel) rfl (by revert c; decide +kernel)) $$ [H7 Ho7]
  · isplitl [H7] <;> iassumption
  iintro ⟨H7, Ho7⟩
  iapply (wpc_pure c)
  isplitl [HC]; · iexact HC
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Ho1]; · iexact Ho1
  isplitl [Ho2]; · iexact Ho2
  isplitl [Ho3]; · iexact Ho3
  isplitl [Ho4]; · iexact Ho4
  isplitl [Ho5]; · iexact Ho5
  isplitl [Ho6] <;> iassumption

/-! ## The departures -/

/-- The departures of the reduction's sixteen transfers are waited for. -/
theorem phEnd1_ok : FS (Gc I) K c 0 ⊢ wpc c (phEnd1 c) (fun _ => FS (Gc I) K c 16) := by
  unfold phEnd1
  simp only [Pipeline.chain_cons, Pipeline.chain_nil]
  iintro H
  iapply (wp_sentM (Gc I) c .a0 K 0 rfl _ _ (by decide +kernel)) $$ H
  iintro H
  iapply (wp_sentM (Gc I) c .a1 K 1 rfl _ _ (by decide +kernel)) $$ H
  iintro H
  iapply (wp_sentM (Gc I) c .a2 K 2 rfl _ _ (by decide +kernel)) $$ H
  iintro H
  iapply (wp_sentM (Gc I) c .a3 K 3 rfl _ _ (by decide +kernel)) $$ H
  iintro H
  iapply (wp_sentM (Gc I) c .b0 K 4 rfl _ _ ((amt_eq c .b0).trans (by decide +kernel))) $$ H
  iintro H
  iapply (wp_sentM (Gc I) c .b1 K 5 rfl _ _ ((amt_eq c .b0).trans (by decide +kernel))) $$ H
  iintro H
  iapply (wp_sentM (Gc I) c .b2 K 6 rfl _ _ (by decide +kernel)) $$ H
  iintro H
  iapply (wp_sentM (Gc I) c .b3 K 7 rfl _ _ (by decide +kernel)) $$ H
  iintro H
  iapply (wp_sentM (Gc I) c .b4 K 8 rfl _ _ (by decide +kernel)) $$ H
  iintro H
  iapply (wp_sentM (Gc I) c .c0 K 9 rfl _ _ (by decide +kernel)) $$ H
  iintro H
  iapply (wp_sentM (Gc I) c .c1 K 10 rfl _ _ (by decide +kernel)) $$ H
  iintro H
  iapply (wp_sentM (Gc I) c .c2 K 11 rfl _ _ (by decide +kernel)) $$ H
  iintro H
  iapply (wp_sentM (Gc I) c .c3 K 12 rfl _ _ (by decide +kernel)) $$ H
  iintro H
  iapply (wp_sentM (Gc I) c .c4 K 13 rfl _ _ (by decide +kernel)) $$ H
  iintro H
  iapply (wp_sentM (Gc I) c .c5 K 14 rfl _ _ (by decide +kernel)) $$ H
  iintro H
  iapply (wp_sentM (Gc I) c .c6 K 15 rfl _ _ (by decide +kernel)) $$ H
  iintro H
  iapply (wpc_pure c)
  iexact H

/-- The departures of the gather's fifteen transfers are waited for. -/
theorem phEnd2_ok : FS (Gc I) K c 16 ⊢ wpc c (phEnd2 c) (fun _ => FS (Gc I) K c 31) := by
  unfold phEnd2
  simp only [Pipeline.chain_cons, Pipeline.chain_nil]
  iintro H
  iapply (wp_sentM (Gc I) c .ga0 K 16 rfl _ _ ((gsrc c .ga0 rfl).trans rfl)) $$ H
  iintro H
  iapply (wp_sentM (Gc I) c .ga1 K 17 rfl _ _ ((gsrc c .ga1 rfl).trans rfl)) $$ H
  iintro H
  iapply (wp_sentM (Gc I) c .ga2 K 18 rfl _ _ ((gsrc c .ga2 rfl).trans rfl)) $$ H
  iintro H
  iapply (wp_sentM (Gc I) c .gb0 K 19 rfl _ _ ((gsrc c .gb0 rfl).trans rfl)) $$ H
  iintro H
  iapply (wp_sentM (Gc I) c .gb1 K 20 rfl _ _ ((gsrc c .gb1 rfl).trans rfl)) $$ H
  iintro H
  iapply (wp_sentM (Gc I) c .gb2 K 21 rfl _ _ ((gsrc c .gb1 rfl).trans (by decide +kernel))) $$ H
  iintro H
  iapply (wp_sentM (Gc I) c .gb3 K 22 rfl _ _ ((gsrc c .gb3 rfl).trans rfl)) $$ H
  iintro H
  iapply (wp_sentM (Gc I) c .gb4 K 23 rfl _ _ ((gsrc c .gb3 rfl).trans (by decide +kernel))) $$ H
  iintro H
  iapply (wp_sentM (Gc I) c .gc0 K 24 rfl _ _ ((gsrc c .gc0 rfl).trans rfl)) $$ H
  iintro H
  iapply (wp_sentM (Gc I) c .gc1 K 25 rfl _ _ ((gsrc c .gc0 rfl).trans (by decide +kernel))) $$ H
  iintro H
  iapply (wp_sentM (Gc I) c .gc2 K 26 rfl _ _ ((gsrc c .gc0 rfl).trans (by decide +kernel))) $$ H
  iintro H
  iapply (wp_sentM (Gc I) c .gc3 K 27 rfl _ _ ((gsrc c .gc0 rfl).trans (by decide +kernel))) $$ H
  iintro H
  iapply (wp_sentM (Gc I) c .gc4 K 28 rfl _ _ ((gsrc c .gc0 rfl).trans (by decide +kernel))) $$ H
  iintro H
  iapply (wp_sentM (Gc I) c .gc5 K 29 rfl _ _ ((gsrc c .gc0 rfl).trans (by decide +kernel))) $$ H
  iintro H
  iapply (wp_sentM (Gc I) c .gc6 K 30 rfl _ _ ((gsrc c .gc0 rfl).trans (by decide +kernel))) $$ H
  iintro H
  iapply (wpc_pure c)
  iexact H

end Cert.KernelIdeal.Moe
-- ==== Proof.Handoff.lean ====
module

public import proofs.«01_k».proof.Proof.Gather

@[expose] public section

noncomputable section

/-! # The barrier

Each device gives its neighbours the places their copies land in, and gets its own copies'. -/

namespace Cert.KernelIdeal.Moe

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CI → ℕ) (c : Dev nD)

/-! ## The landing places -/

/-- A rectangle held at anything is a place to land in. -/
theorem hand_rect (p : Dev nD) {E : Ends} {ts sd : Fin 2 → ℕ} {m : Memref sig .tc .vmem S1024x1024 .bf16} {m' : Memref sig .tc .vmem ⟨2, sd⟩ .bf16}
    {off off' : Fin 2 → ℕ} {inb : ∀ a, off a + ts a ≤ S1024x1024.size a} {inb' : ∀ a, off' a + ts a ≤ sd a}
    {w : (m.slice (Rect.unit (s := S1024x1024) off ts inb) (fun _ => rfl)).view.WordExact}
    {w' : (m'.slice (Rect.unit (s := ⟨2, sd⟩) off' ts inb') (fun _ => rfl)).view.WordExact}
    (he : E = ⟨m, off, inb, m'.slice (Rect.unit (s := ⟨2, sd⟩) off' ts inb') (fun _ => rfl), w, w'⟩)
    {T : Finset (⟨2, sd⟩ : Shape).Idx} (hT : (Rect.unit (s := ⟨2, sd⟩) off' ts inb').set = T) :
    (junk p m' fullShare T : sProp 𝕄) ⊢ dstAny p E := by
  subst he
  unfold junk dstAny
  iintro ⟨%g, H⟩
  iexists (fun j => g ((Rect.unit (s := ⟨2, sd⟩) off' ts inb').emb j))
  iapply (own_owns p m' _ (fun _ => rfl) hT (fun _ => rfl))
  iexact H

/-- So is a whole buffer. -/
theorem hand_whole (p : Dev nD) {E : Ends} {ts : Fin 2 → ℕ} {m : Memref sig .tc .vmem S1024x1024 .bf16} {m' : Memref sig .tc .vmem ⟨2, ts⟩ .bf16}
    {off : Fin 2 → ℕ} {inb : ∀ a, off a + ts a ≤ S1024x1024.size a}
    {w : (m.slice (Rect.unit (s := S1024x1024) off ts inb) (fun _ => rfl)).view.WordExact} {w' : m'.view.WordExact}
    (he : E = ⟨m, off, inb, m', w, w'⟩) :
    (junk p m' fullShare Finset.univ : sProp 𝕄) ⊢ dstAny p E := by
  subst he
  unfold junk dstAny
  iintro ⟨%g, H⟩
  iexists g
  iapply (own_owns_univ p m' (fun _ => rfl))
  iexact H

/-- The rows a gather transfer writes are what its receiver hands over for it. -/
theorem gEnds_hand (s p : Dev nD) (j : Tr) {ts off : Fin 2 → ℕ} {inb inb' : ∀ a, off a + ts a ≤ S1024x1024.size a}
    {w : (gM.slice (Rect.unit (s := S1024x1024) off ts inb) (fun _ => rfl)).view.WordExact}
    {w' : (gM.slice (Rect.unit (s := S1024x1024) off ts inb') (fun _ => rfl)).view.WordExact}
    (he : ends s j = ⟨gM, off, inb, gM.slice (Rect.unit (s := S1024x1024) off ts inb') (fun _ => rfl), w, w'⟩) :
    (junk p gM fullShare (tl (gr j) (ch (sa s j) (sn j))) : sProp 𝕄) ⊢ dstAny p (ends s j) := by
  have h1 := soff_eq s j
  have h2 := ts_eq s j
  rw [he] at h1 h2
  exact hand_rect p he (rect_tl h1 h2)

/-- The gather's blocks land where they come from. -/
theorem hand_gat (j : Tr) (hg : isG j = true) : (junk c gM fullShare (tl (gr j) (ch (ra c j) (sn j))) : sProp 𝕄) ⊢ dstAny c (ends (pr c j) j) := by
  cases j <;> first
    | exact absurd hg (by decide)
    | exact gEnds_hand (pr c _) c _ rfl

/-- Split a landing buffer's rows. -/
theorem rows_split {n0 n1 : ℕ} [NeZero n0] [NeZero n1] (m : Memref sig .tc .vmem ⟨2, ![n0, n1]⟩ .bf16) (a b d : ℕ) (h : a ≤ b) (h' : b ≤ d) :
    (junk c m fullShare (Moe.rw a d) : sProp 𝕄) ⊢ iprop(junk c m fullShare (Moe.rw a b) ∗ junk c m fullShare (Moe.rw b d)) := by
  rw [← rw_union h h']; exact junk_split c m (rw_disj a b d)

/-- A whole buffer is all of its rows. -/
theorem rows_all {n0 n1 : ℕ} [NeZero n0] [NeZero n1] (m : Memref sig .tc .vmem ⟨2, ![n0, n1]⟩ .bf16) :
    (junk c m fullShare Finset.univ : sProp 𝕄) ⊢ junk c m fullShare (Moe.rw 0 n0) := by
  rw [rw_univ]

/-- Every place a copy lands in on device `c`. -/
def hand : sProp 𝕄 := bigSep Finset.univ fun j => dstAny (F := F) c (ends (pr c j) j)

/-- Axis by axis, they are what the neighbours are given. -/
theorem hand_bpay : hand (F := F) c = bigSep Finset.univ fun x => bpay (F := F) (nb x c) x := by
  unfold hand bpay
  rw [bigSep_univ_comm]
  refine bigSep_congr fun j _ => ?_
  rw [bigSep_univ_at _ (ax j), if_pos rfl, bigSep_congr (s := Finset.univ.erase (ax j)) (Ψ := fun _ => iprop(emp)) (fun x hx => if_neg (Finset.ne_of_mem_erase hx).symm),
    show bigSep (Finset.univ.erase (ax j)) (fun _ => (iprop(emp) : sProp 𝕄)) = iprop(emp) from bigSep_emp_const _, nb_nb]
  exact Entails.antisymm (sep_emp (PROP := sProp 𝕄)).2 (sep_emp (PROP := sProp 𝕄)).1

/-- Something held for each of the three axes, spelled out. -/
theorem sep3 (Φ : Fin 3 → sProp 𝕄) : bigSep Finset.univ Φ = iprop(Φ 0 ∗ Φ 1 ∗ Φ 2) :=
  bigSep_univ_eq_bigSepL [0, 1, 2] (by decide) (by decide) Φ

/-- Something held for each of the 31 transfers, spelled out in the order of starting. -/
theorem sep31 (Φ : Tr → sProp 𝕄) : bigSep Finset.univ Φ = iprop(Φ .a0 ∗ Φ .b0 ∗ Φ .a1 ∗ Φ .b1 ∗ Φ .c0 ∗ Φ .c1 ∗ Φ .c2 ∗ Φ .c3 ∗ Φ .a2 ∗ Φ .b2 ∗ Φ .b3 ∗ Φ .c4 ∗ Φ .c5 ∗ Φ .a3 ∗ Φ .b4 ∗ Φ .c6 ∗ Φ .ga0 ∗ Φ .gb0 ∗ Φ .gc0 ∗ Φ .ga1 ∗ Φ .gb1 ∗ Φ .gb2 ∗ Φ .gc1 ∗ Φ .gc2 ∗ Φ .ga2 ∗ Φ .gb3 ∗ Φ .gb4 ∗ Φ .gc3 ∗ Φ .gc4 ∗ Φ .gc5 ∗ Φ .gc6) :=
  bigSep_univ_eq_bigSepL Tr.all (by decide) (by decide) Φ

/-- The landing buffers, and the gathered result apart from the rows finished here. -/
theorem gat_split0 : (junk c gM fullShare (tl 0 Finset.univ) : sProp 𝕄) ⊢ iprop(gj c 0 (ell c) 1 ∗ dstAny c (ends (pr c .ga0) .ga0) ∗ dstAny c (ends (pr c .ga1) .ga1) ∗ dstAny c (ends (pr c .ga2) .ga2)) := by
  iintro H
  ihave H := (junkT_split c gM (T1 := ch (ell c) 1) (T2 := ch (ra c .ga0) 1 ∪ (ch (ra c .ga1) 2 ∪ (ch (ra c .ga2) 4))) (by revert c; decide +kernel) (by revert c; decide +kernel)) $$ H
  icases H with ⟨H0, H⟩
  isplitl [H0]; · iexact H0
  ihave H := (junkT_split c gM (T1 := ch (ra c .ga0) 1) (T2 := ch (ra c .ga1) 2 ∪ (ch (ra c .ga2) 4)) rfl (by revert c; decide +kernel)) $$ H
  icases H with ⟨H0, H⟩
  isplitl [H0]; · iapply (hand_gat c .ga0 rfl); iexact H0
  ihave H := (junkT_split c gM (T1 := ch (ra c .ga1) 2) (T2 := ch (ra c .ga2) 4) rfl (by revert c; decide +kernel)) $$ H
  icases H with ⟨H0, H⟩
  isplitl [H0]; · iapply (hand_gat c .ga1 rfl); iexact H0
  iapply (hand_gat c .ga2 rfl)
  iexact H

/-- Column group B of the gathered buffer is the device's own chunk and the places of five arrivals. -/
theorem gat_split1 : (junk c gM fullShare (tl 1 Finset.univ) : sProp 𝕄) ⊢ iprop(gj c 1 (ell c) 1 ∗ dstAny c (ends (pr c .gb0) .gb0) ∗ dstAny c (ends (pr c .gb1) .gb1) ∗ dstAny c (ends (pr c .gb2) .gb2) ∗ dstAny c (ends (pr c .gb3) .gb3) ∗ dstAny c (ends (pr c .gb4) .gb4)) := by
  iintro H
  ihave H := (junkT_split c gM (T1 := ch (ell c) 1) (T2 := ch (ra c .gb0) 1 ∪ (ch (ra c .gb1) 1 ∪ (ch (ra c .gb2) 1 ∪ (ch (ra c .gb3) 2 ∪ (ch (ra c .gb4) 2))))) (by revert c; decide +kernel) (by revert c; decide +kernel)) $$ H
  icases H with ⟨H0, H⟩
  isplitl [H0]; · iexact H0
  ihave H := (junkT_split c gM (T1 := ch (ra c .gb0) 1) (T2 := ch (ra c .gb1) 1 ∪ (ch (ra c .gb2) 1 ∪ (ch (ra c .gb3) 2 ∪ (ch (ra c .gb4) 2)))) rfl (by revert c; decide +kernel)) $$ H
  icases H with ⟨H0, H⟩
  isplitl [H0]; · iapply (hand_gat c .gb0 rfl); iexact H0
  ihave H := (junkT_split c gM (T1 := ch (ra c .gb1) 1) (T2 := ch (ra c .gb2) 1 ∪ (ch (ra c .gb3) 2 ∪ (ch (ra c .gb4) 2))) rfl (by revert c; decide +kernel)) $$ H
  icases H with ⟨H0, H⟩
  isplitl [H0]; · iapply (hand_gat c .gb1 rfl); iexact H0
  ihave H := (junkT_split c gM (T1 := ch (ra c .gb2) 1) (T2 := ch (ra c .gb3) 2 ∪ (ch (ra c .gb4) 2)) rfl (by revert c; decide +kernel)) $$ H
  icases H with ⟨H0, H⟩
  isplitl [H0]; · iapply (hand_gat c .gb2 rfl); iexact H0
  ihave H := (junkT_split c gM (T1 := ch (ra c .gb3) 2) (T2 := ch (ra c .gb4) 2) rfl (by revert c; decide +kernel)) $$ H
  icases H with ⟨H0, H⟩
  isplitl [H0]; · iapply (hand_gat c .gb3 rfl); iexact H0
  iapply (hand_gat c .gb4 rfl)
  iexact H

/-- Column group C of the gathered buffer is the device's own chunk and the places of seven arrivals. -/
theorem gat_split2 : (junk c gM fullShare (tl 2 Finset.univ) : sProp 𝕄) ⊢ iprop(gj c 2 (ell c) 1 ∗ dstAny c (ends (pr c .gc0) .gc0) ∗ dstAny c (ends (pr c .gc1) .gc1) ∗ dstAny c (ends (pr c .gc2) .gc2) ∗ dstAny c (ends (pr c .gc3) .gc3) ∗ dstAny c (ends (pr c .gc4) .gc4) ∗ dstAny c (ends (pr c .gc5) .gc5) ∗ dstAny c (ends (pr c .gc6) .gc6)) := by
  iintro H
  ihave H := (junkT_split c gM (T1 := ch (ell c) 1) (T2 := ch (ra c .gc0) 1 ∪ (ch (ra c .gc1) 1 ∪ (ch (ra c .gc2) 1 ∪ (ch (ra c .gc3) 1 ∪ (ch (ra c .gc4) 1 ∪ (ch (ra c .gc5) 1 ∪ (ch (ra c .gc6) 1))))))) (by revert c; decide +kernel) (by revert c; decide +kernel)) $$ H
  icases H with ⟨H0, H⟩
  isplitl [H0]; · iexact H0
  ihave H := (junkT_split c gM (T1 := ch (ra c .gc0) 1) (T2 := ch (ra c .gc1) 1 ∪ (ch (ra c .gc2) 1 ∪ (ch (ra c .gc3) 1 ∪ (ch (ra c .gc4) 1 ∪ (ch (ra c .gc5) 1 ∪ (ch (ra c .gc6) 1)))))) rfl (by revert c; decide +kernel)) $$ H
  icases H with ⟨H0, H⟩
  isplitl [H0]; · iapply (hand_gat c .gc0 rfl); iexact H0
  ihave H := (junkT_split c gM (T1 := ch (ra c .gc1) 1) (T2 := ch (ra c .gc2) 1 ∪ (ch (ra c .gc3) 1 ∪ (ch (ra c .gc4) 1 ∪ (ch (ra c .gc5) 1 ∪ (ch (ra c .gc6) 1))))) rfl (by revert c; decide +kernel)) $$ H
  icases H with ⟨H0, H⟩
  isplitl [H0]; · iapply (hand_gat c .gc1 rfl); iexact H0
  ihave H := (junkT_split c gM (T1 := ch (ra c .gc2) 1) (T2 := ch (ra c .gc3) 1 ∪ (ch (ra c .gc4) 1 ∪ (ch (ra c .gc5) 1 ∪ (ch (ra c .gc6) 1)))) rfl (by revert c; decide +kernel)) $$ H
  icases H with ⟨H0, H⟩
  isplitl [H0]; · iapply (hand_gat c .gc2 rfl); iexact H0
  ihave H := (junkT_split c gM (T1 := ch (ra c .gc3) 1) (T2 := ch (ra c .gc4) 1 ∪ (ch (ra c .gc5) 1 ∪ (ch (ra c .gc6) 1))) rfl (by revert c; decide +kernel)) $$ H
  icases H with ⟨H0, H⟩
  isplitl [H0]; · iapply (hand_gat c .gc3 rfl); iexact H0
  ihave H := (junkT_split c gM (T1 := ch (ra c .gc4) 1) (T2 := ch (ra c .gc5) 1 ∪ (ch (ra c .gc6) 1)) rfl (by revert c; decide +kernel)) $$ H
  icases H with ⟨H0, H⟩
  isplitl [H0]; · iapply (hand_gat c .gc4 rfl); iexact H0
  ihave H := (junkT_split c gM (T1 := ch (ra c .gc5) 1) (T2 := ch (ra c .gc6) 1) rfl (by revert c; decide +kernel)) $$ H
  icases H with ⟨H0, H⟩
  isplitl [H0]; · iapply (hand_gat c .gc5 rfl); iexact H0
  iapply (hand_gat c .gc6 rfl)
  iexact H

/-- A device's landing places, out of its buffers; its own rows of the gathered result stay. -/
theorem hand_intro : iprop(junk (F := F) c a0M fullShare Finset.univ ∗ junk (F := F) c a1M fullShare Finset.univ ∗ junk (F := F) c a2M fullShare Finset.univ ∗ junk (F := F) c b0M fullShare Finset.univ ∗ junk (F := F) c b1M fullShare Finset.univ ∗ junk (F := F) c b2M fullShare Finset.univ ∗ junk (F := F) c c0M fullShare Finset.univ ∗ junk (F := F) c c1M fullShare Finset.univ ∗ junk (F := F) c c2M fullShare Finset.univ ∗ junk (F := F) c gM fullShare Finset.univ)
    ⊢ iprop(hand c ∗ gj c 0 (ell c) 1 ∗ gj c 1 (ell c) 1 ∗ gj c 2 (ell c) 1) := by
  iintro ⟨Ha0M, Ha1M, Ha2M, Hb0M, Hb1M, Hb2M, Hc0M, Hc1M, Hc2M, HG⟩
  ihave HG := (junk_groups c gM) $$ HG
  icases HG with ⟨HG0, HG1, HG2⟩
  ihave HG0 := (gat_split0 c) $$ HG0
  icases HG0 with ⟨Ho0, Hga0, Hga1, Hga2⟩
  ihave HG1 := (gat_split1 c) $$ HG1
  icases HG1 with ⟨Ho1, Hgb0, Hgb1, Hgb2, Hgb3, Hgb4⟩
  ihave HG2 := (gat_split2 c) $$ HG2
  icases HG2 with ⟨Ho2, Hgc0, Hgc1, Hgc2, Hgc3, Hgc4, Hgc5, Hgc6⟩
  ihave Ha0M := (rows_all c a0M) $$ Ha0M
  ihave Ha0M := (rows_split c a0M 0 256 512 (by decide) (by decide)) $$ Ha0M
  icases Ha0M with ⟨Ha0, Ha0M⟩
  ihave Hb0M := (rows_all c b0M) $$ Hb0M
  ihave Hb0M := (rows_split c b0M 0 256 512 (by decide) (by decide)) $$ Hb0M
  icases Hb0M with ⟨Hb0, Hb0M⟩
  ihave Hc0M := (rows_all c c0M) $$ Hc0M
  ihave Hc0M := (rows_split c c0M 0 128 512 (by decide) (by decide)) $$ Hc0M
  icases Hc0M with ⟨Hc0, Hc0M⟩
  ihave Hc0M := (rows_split c c0M 128 256 512 (by decide) (by decide)) $$ Hc0M
  icases Hc0M with ⟨Hc1, Hc0M⟩
  ihave Hc0M := (rows_split c c0M 256 384 512 (by decide) (by decide)) $$ Hc0M
  icases Hc0M with ⟨Hc2, Hc0M⟩
  ihave Hb1M := (rows_all c b1M) $$ Hb1M
  ihave Hb1M := (rows_split c b1M 0 128 256 (by decide) (by decide)) $$ Hb1M
  icases Hb1M with ⟨Hb2, Hb1M⟩
  ihave Hc1M := (rows_all c c1M) $$ Hc1M
  ihave Hc1M := (rows_split c c1M 0 128 256 (by decide) (by decide)) $$ Hc1M
  icases Hc1M with ⟨Hc4, Hc1M⟩
  isplitr [Ho0 Ho1 Ho2]
  · unfold hand
    rw [sep31]
    isplitl [Ha0]; · iapply (hand_rect c rfl (rect_rw rfl rfl)); iexact Ha0
    isplitl [Hb0]; · iapply (hand_rect c rfl (rect_rw rfl rfl)); iexact Hb0
    isplitl [Ha0M]; · iapply (hand_rect c rfl (rect_rw rfl rfl)); iexact Ha0M
    isplitl [Hb0M]; · iapply (hand_rect c rfl (rect_rw rfl rfl)); iexact Hb0M
    isplitl [Hc0]; · iapply (hand_rect c rfl (rect_rw rfl rfl)); iexact Hc0
    isplitl [Hc1]; · iapply (hand_rect c rfl (rect_rw rfl rfl)); iexact Hc1
    isplitl [Hc2]; · iapply (hand_rect c rfl (rect_rw rfl rfl)); iexact Hc2
    isplitl [Hc0M]; · iapply (hand_rect c rfl (rect_rw rfl rfl)); iexact Hc0M
    isplitl [Ha1M]; · iapply (hand_whole c rfl); iexact Ha1M
    isplitl [Hb2]; · iapply (hand_rect c rfl (rect_rw rfl rfl)); iexact Hb2
    isplitl [Hb1M]; · iapply (hand_rect c rfl (rect_rw rfl rfl)); iexact Hb1M
    isplitl [Hc4]; · iapply (hand_rect c rfl (rect_rw rfl rfl)); iexact Hc4
    isplitl [Hc1M]; · iapply (hand_rect c rfl (rect_rw rfl rfl)); iexact Hc1M
    isplitl [Ha2M]; · iapply (hand_whole c rfl); iexact Ha2M
    isplitl [Hb2M]; · iapply (hand_whole c rfl); iexact Hb2M
    isplitl [Hc2M]; · iapply (hand_whole c rfl); iexact Hc2M
    isplitl [Hga0]; · iexact Hga0
    isplitl [Hgb0]; · iexact Hgb0
    isplitl [Hgc0]; · iexact Hgc0
    isplitl [Hga1]; · iexact Hga1
    isplitl [Hgb1]; · iexact Hgb1
    isplitl [Hgb2]; · iexact Hgb2
    isplitl [Hgc1]; · iexact Hgc1
    isplitl [Hgc2]; · iexact Hgc2
    isplitl [Hga2]; · iexact Hga2
    isplitl [Hgb3]; · iexact Hgb3
    isplitl [Hgb4]; · iexact Hgb4
    isplitl [Hgc3]; · iexact Hgc3
    isplitl [Hgc4]; · iexact Hgc4
    isplitl [Hgc5]; · iexact Hgc5
    iexact Hgc6
  isplitl [Ho0]; · iexact Ho0
  isplitl [Ho1]; · iexact Ho1
  iexact Ho2

/-! ## The wait -/

/-- What a device owes at launch: its neighbours' barriers a unit each, and its copies' arrivals. -/
def O₀ : CellTallies nD τ sig Unit :=
  ((owedN c 0 + tallyAt (bar (nb 2 c)) () 1) + tallyAt (bar (nb 1 c)) () 1) + tallyAt (bar (nb 0 c)) () 1

/-- What signalling the neighbour along axis `x` takes. -/
def barTok (x : Fin 3) : sProp 𝕄 :=
  iprop(cellInv ER (Rd (Gc I)) (K (nb x c, none)) (bar (nb x c)) ∗ dutyTok ER (bar (nb x c)) 0 x ∗ reached ER (bar (nb x c)) 0)
/-- What the wait on the barrier takes. -/
def barOwn : sProp 𝕄 := iprop(cellInv ER (Rd (Gc I)) (K (c, none)) (bar c) ∗ atPos ER (bar c) 0 ∅ 0 ∗ cred (tallyAt (bar c) () 3))

/-- A device's protocol state when its body starts. -/
def BS : sProp 𝕄 :=
  iprop((∃ W, owes (c : Thread nD τ) (O₀ c) W) ∗ levAts L lv ∗ bigSep Finset.univ (ticket0 (Gc I) K c) ∗ bigSep Finset.univ (pending (Gc I) K c)
    ∗ barOwn I K c ∗ bigSep Finset.univ (barTok I K c))

/-- The first neighbour signalled at the barrier. -/
theorem dev1_eq : (⟨k0_dev1 c, k0_dev1_lt c⟩ : Dev nD) = nb 0 c := by revert c; decide +kernel

/-- The second neighbour signalled at the barrier. -/
theorem dev2_eq : (⟨k0_dev2 c, k0_dev2_lt c⟩ : Dev nD) = nb 1 c := by revert c; decide +kernel

/-- The third neighbour signalled at the barrier. -/
theorem dev3_eq : (⟨k0_dev3 c, k0_dev3_lt c⟩ : Dev nD) = nb 2 c := by revert c; decide +kernel

/-- Signal the neighbour along axis `x`. -/
theorem wp_barSig (x : Fin 3) (O O' : CellTallies nD τ sig Unit) (hO : O' = O + tallyAt (bar (nb x c)) () 1) {α : Type} {Q : α → sProp 𝕄} {k : PUnit → Pg F α} :
    iprop((∃ W, owes (c : Thread nD τ) O' W) ∗ barTok I K c x ∗ bpay (nb x c) x)
      ⊢ iprop(((∃ W, owes (c : Thread nD τ) O W) -∗ wpc c (k ⟨⟩) Q) -∗ wpc c (semSignalWord (nb x c) barS 1#32 >>= k) Q) := by
  unfold wpc
  simp only [semSignalWord, Prog.lift, Prog.bind_op, Prog.bind_ret]
  unfold barTok
  iintro ⟨⟨%W, HO⟩, ⟨#HI, Ht, #Hr⟩, Hp⟩ Hk
  iapply (Rounds.wp_signal 𝒱₀ ER (Rd (Gc I)) (c : Thread nD τ) none (dst := (nb x c : Thread nD τ)) (κ := K (nb x c, none))
      (d := x) (by erw [duties_bar]; exact Finset.mem_univ _) ((amount_bar (Gc I) (nb x c) x).trans (by decide)) () O hO) $$ [HO Ht Hp]
  · isplitr; · iexact HI
    isplitl [HO]; · iexact HO
    isplitl [Ht]; · iexact Ht
    isplitl [Hp]; · iapply (Entails.of_eq (show (Rd (Gc I)).payload ((nb x c : Thread nD τ), SemLoc.reg barS) 0 x = _ from payload_bar (Gc I) (nb x c) x).symm); iexact Hp
    iexact Hr
  iintro HO
  iapply Hk
  iexists W
  iexact HO

/-- The barrier: the landing places given away, and the neighbours' taken. -/
theorem phBar_ok : iprop(BS I K c ∗ hand c) ⊢ wpc c (phBar c) (fun _ => iprop(CS (Gc I) K c 0 0 ∗ semVal (bar c) 0)) := by
  unfold phBar
  simp only [Pipeline.chain_cons, Pipeline.chain_nil]
  rw [dev1_eq, dev2_eq, dev3_eq, hand_bpay, sep3]
  unfold BS
  rw [sep3 (barTok I K c)]
  iintro ⟨⟨HO, #Hlev, HS, HR, Hb, Ht0, Ht1, Ht2⟩, Hp0, Hp1, Hp2⟩
  unfold O₀
  iapply (wp_barSig I K c 0 _ _ rfl) $$ [HO Ht0 Hp0]
  · isplitl [HO]; · iexact HO
    isplitl [Ht0]; · iexact Ht0
    iexact Hp0
  iintro HO
  iapply (wp_barSig I K c 1 _ _ rfl) $$ [HO Ht1 Hp1]
  · isplitl [HO]; · iexact HO
    isplitl [Ht1]; · iexact Ht1
    iexact Hp1
  iintro HO
  iapply (wp_barSig I K c 2 _ _ rfl) $$ [HO Ht2 Hp2]
  · isplitl [HO]; · iexact HO
    isplitl [Ht2]; · iexact Ht2
    iexact Hp2
  iintro HO
  icases HO with ⟨%W, HO⟩
  unfold barOwn
  icases Hb with ⟨#HI, Hat, Hc⟩
  unfold wpc
  simp only [semWaitWord, Prog.lift, Prog.bind_op, Prog.bind_ret]
  iapply (Rounds.wp_wait_rest_token 𝒱₀ ER (Rd (Gc I)) (c : Thread nD τ) none (κ := K (c, none))
      (wpE_semWait_eq 𝒱₀ (c : Thread nD τ) none Set.univ) (Set.mem_univ _) () (O := owedN c 0) (W := W) (R := 0) (m := 0) (T := ∅)
      (by erw [expect_bar (Gc I) c]; decide)) $$ [Hc HO Hat]
  · isplitr; · iexact HI
    isplitl [Hc]; · iexact Hc
    isplitl [HO]; · iexact HO
    isplitr; · iapply (mayWait_owed c _ 0 1 (le_of_eq (lv_bar c)) (fun j _ => by revert j; decide)); iexact Hlev
    iexact Hat
  iintro ⟨HO, Hat, -, Hpay⟩
  ihave Hpay := (Entails.of_eq ((show bigSep ((Rd (Gc I)).duties ((c : Thread nD τ), SemLoc.reg barS) 0 \ ∅) (fun d => (Rd (Gc I)).payload ((c : Thread nD τ), SemLoc.reg barS) 0 d) = _ from rest_bar (Gc I) c).trans (bpay_all c))) $$ Hpay
  imod (Rounds.cell_close ER (Rd (Gc I)) (Set.mem_univ (K (c, none))) (fun h => h) (R := 0 + 1) (duties_later (Gc I) (bar c))) $$ [Hat] with Hz
  · isplitr; · iexact HI
    iexact Hat
  rw [show (pure PUnit.unit : Pg F PUnit) = Prog.ret PUnit.unit from rfl, wp_ret]
  imodintro
  isplitr [Hz]
  · unfold CS
    rw [stp_zero, stp_zero]
    isplitl [HO]; · iexists _; iexact HO
    isplitr; · iexact Hlev
    isplitr [HR]
    · rw [show ticket (Gc I) K c = fun j => iprop(ticket0 (Gc I) K c j ∗ dstAny (pr c j) (ends c j)) from rfl, bigSep_sep']
      isplitl [HS]; · iexact HS
      iexact Hpay
    iexact HR
  iexact Hz

end Cert.KernelIdeal.Moe
-- ==== Proof.Compute.lean ====
module

public import proofs.«01_k».proof.Proof.Steps

@[expose] public section

noncomputable section

/-! # The local sum, and what is sent of it at once -/

namespace Cert.KernelIdeal.Moe

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CI → ℕ) (c : Dev nD)

/-- The tokens rounded and each token's routed probability found. -/
theorem phPro_ok :
    iprop(own c xM fullShare Finset.univ (I.x c) ∗ own c rwM fullShare Finset.univ (I.rw c) ∗ own c ixM fullShare Finset.univ (I.ix c)
      ∗ junk c hM fullShare Finset.univ ∗ junk c gtM fullShare Finset.univ)
    ⊢ wpc c (phPro c) (fun _ => iprop(own c xM fullShare Finset.univ (I.x c) ∗ own c rwM fullShare Finset.univ (I.rw c) ∗ own c ixM fullShare Finset.univ (I.ix c)
      ∗ own c hM fullShare Finset.univ (hV I c) ∗ own c gtM fullShare Finset.univ (gV I c))) := by
  unfold phPro
  iintro ⟨Hx, Hr, Hi, Hh, Hg⟩
  iapply (wp_ld c xM ![0, 0] S1024x512.size inb_S1024x512_S1024x512_0_0 h_S1024x512 (Finset.subset_univ _)) $$ Hx
  iintro Hx
  iapply (wp_st c hM ![0, 0] S1024x512.size inb_S1024x512_S1024x512_0_0 h_S1024x512 _ _ (I := Finset.univ) (g' := hV I c)
    ((rect_rw (r := 0) (R := 1024) rfl rfl).trans rw_univ) ?_) $$ Hh
  · intro j
    rw [emb_zero]
    unfold hV
    exact congrArg (fun v => k0_pay2 v j) (funext fun j => by rw [emb_zero])
  iintro Hh
  iapply (wp_ld c rwM ![0, 0] S512x32.size inb_S512x32_S512x32_0_0 h_S512x32 (Finset.subset_univ _)) $$ Hr
  iintro Hr
  iapply (wp_ld c ixM ![0, 0] S1024x1.size inb_S1024x1_S1024x1_0_0 h_S1024x1 (Finset.subset_univ _)) $$ Hi
  iintro Hi
  iapply (wpc_last c)
  iapply (wp_st c gtM ![0, 0] S1024x1.size inb_S1024x1_S1024x1_0_0 h_S1024x1 _ _ (I := Finset.univ) (g' := gV I c)
    ((rect_rw (r := 0) (R := 1024) rfl rfl).trans rw_univ) ?_) $$ Hg
  · intro j
    rw [emb_zero]
    unfold gV
    have e1 : (fun j => I.x c ((Rect.unit (s := S1024x512) ![0, 0] S1024x512.size inb_S1024x512_S1024x512_0_0).emb j)) = I.x c := funext fun j => by rw [emb_zero]
    have e2 : (fun j => I.rw c ((Rect.unit (s := S512x32) ![0, 0] S512x32.size inb_S512x32_S512x32_0_0).emb j)) = I.rw c := funext fun j => by rw [emb_zero]
    have e3 : (fun j => I.ix c ((Rect.unit (s := S1024x1) ![0, 0] S1024x1.size inb_S1024x1_S1024x1_0_0).emb j)) = I.ix c := funext fun j => by rw [emb_zero]
    exact congrFun (congrArg₂ k0_pay4 (congrArg₂ k0_pay3 e1 e2) e3) j
  iintro Hg
  iapply (wpc_pure c)
  isplitl [Hx]; · iexact Hx
  isplitl [Hr]; · iexact Hr
  isplitl [Hi]; · iexact Hi
  isplitl [Hh] <;> iassumption

/-- The blocks other devices will finish: computed and sent. -/
theorem phSend_ok :
    iprop(Env I c ∗ CS (Gc I) K c 0 0 ∗ pj c 0 (sa c .a0) 2 ∗ pj c 1 (sa c .b0) 2 ∗ pj c 0 (sa c .a1) 2 ∗ pj c 1 (sa c .b1) 2
      ∗ pj c 2 (sa c .c0) 1 ∗ pj c 2 (sa c .c1) 1 ∗ pj c 2 (sa c .c2) 1 ∗ pj c 2 (sa c .c3) 1)
    ⊢ wpc c (phSend c) (fun _ => iprop(Env I c ∗ CS (Gc I) K c 8 0)) := by
  unfold phSend
  simp only [Pipeline.chain_cons, Pipeline.chain_nil]
  iintro ⟨HE, HC, Ha0, Hb0, Ha1, Hb1, Hc0, Hc1, Hc2, Hc3⟩
  iapply (wp_comp256A I c (a := sa c .a0) (by revert c; decide +kernel) (by revert c; decide +kernel) (by revert c; decide +kernel) (by revert c; decide +kernel)) $$ [HE Ha0]
  · isplitl [HE] <;> iassumption
  iintro ⟨HE, Ha0⟩
  iapply (wp_sendP I K c .a0 0 0 0 2 0 rfl rfl rfl rfl rfl rfl) $$ [HC Ha0]
  · isplitl [HC] <;> iassumption
  iintro HC
  iapply (wp_comp256B I c (a := sa c .b0) (by revert c; decide +kernel) (by revert c; decide +kernel) (by revert c; decide +kernel) (by revert c; decide +kernel)) $$ [HE Hb0]
  · isplitl [HE] <;> iassumption
  iintro ⟨HE, Hb0⟩
  iapply (wp_sendP I K c .b0 1 0 1 2 0 rfl rfl rfl rfl rfl rfl) $$ [HC Hb0]
  · isplitl [HC] <;> iassumption
  iintro HC
  iapply (wp_comp256A I c (a := sa c .a1) (by revert c; decide +kernel) (by revert c; decide +kernel) (by revert c; decide +kernel) (by revert c; decide +kernel)) $$ [HE Ha1]
  · isplitl [HE] <;> iassumption
  iintro ⟨HE, Ha1⟩
  iapply (wp_sendP I K c .a1 2 0 0 2 0 rfl rfl rfl rfl rfl rfl) $$ [HC Ha1]
  · isplitl [HC] <;> iassumption
  iintro HC
  iapply (wp_comp256B I c (a := sa c .b1) (by revert c; decide +kernel) (by revert c; decide +kernel) (by revert c; decide +kernel) (by revert c; decide +kernel)) $$ [HE Hb1]
  · isplitl [HE] <;> iassumption
  iintro ⟨HE, Hb1⟩
  iapply (wp_sendP I K c .b1 3 0 1 2 0 rfl rfl rfl rfl rfl rfl) $$ [HC Hb1]
  · isplitl [HC] <;> iassumption
  iintro HC
  iapply (wp_comp128C I c (a := sa c .c0) (by revert c; decide +kernel) (by revert c; decide +kernel) (by revert c; decide +kernel) (by revert c; decide +kernel)) $$ [HE Hc0]
  · isplitl [HE] <;> iassumption
  iintro ⟨HE, Hc0⟩
  iapply (wp_sendP I K c .c0 4 0 2 1 0 rfl rfl rfl rfl rfl rfl) $$ [HC Hc0]
  · isplitl [HC] <;> iassumption
  iintro HC
  iapply (wp_comp128C I c (a := sa c .c1) (by revert c; decide +kernel) (by revert c; decide +kernel) (by revert c; decide +kernel) (by revert c; decide +kernel)) $$ [HE Hc1]
  · isplitl [HE] <;> iassumption
  iintro ⟨HE, Hc1⟩
  iapply (wp_sendP I K c .c1 5 0 2 1 0 rfl rfl rfl rfl rfl rfl) $$ [HC Hc1]
  · isplitl [HC] <;> iassumption
  iintro HC
  iapply (wp_comp128C I c (a := sa c .c2) (by revert c; decide +kernel) (by revert c; decide +kernel) (by revert c; decide +kernel) (by revert c; decide +kernel)) $$ [HE Hc2]
  · isplitl [HE] <;> iassumption
  iintro ⟨HE, Hc2⟩
  iapply (wp_sendP I K c .c2 6 0 2 1 0 rfl rfl rfl rfl rfl rfl) $$ [HC Hc2]
  · isplitl [HC] <;> iassumption
  iintro HC
  iapply (wp_comp128C I c (a := sa c .c3) (by revert c; decide +kernel) (by revert c; decide +kernel) (by revert c; decide +kernel) (by revert c; decide +kernel)) $$ [HE Hc3]
  · isplitl [HE] <;> iassumption
  iintro ⟨HE, Hc3⟩
  iapply (wp_sendP I K c .c3 7 0 2 1 0 rfl rfl rfl rfl rfl rfl) $$ [HC Hc3]
  · isplitl [HC] <;> iassumption
  iintro HC
  iapply (wpc_pure c)
  isplitl [HE] <;> iassumption

/-- The blocks kept: computed. -/
theorem phKeep_ok :
    iprop(Env I c ∗ pj c 0 (4 * b4 c) 4 ∗ pj c 1 (2 * b2 c) 2 ∗ pj c 1 (4 + 2 * b2 c) 2
      ∗ pj c 2 (b1 c) 1 ∗ pj c 2 (b1 c + 2) 1 ∗ pj c 2 (b1 c + 4) 1 ∗ pj c 2 (b1 c + 6) 1)
    ⊢ wpc c (phKeep c) (fun _ => iprop(Env I c ∗ pt I c 0 (4 * b4 c) 4 0 ∗ pt I c 1 (2 * b2 c) 2 0 ∗ pt I c 1 (4 + 2 * b2 c) 2 0
      ∗ pt I c 2 (b1 c) 1 0 ∗ pt I c 2 (b1 c + 2) 1 0 ∗ pt I c 2 (b1 c + 4) 1 0 ∗ pt I c 2 (b1 c + 6) 1 0)) := by
  unfold phKeep
  simp only [Pipeline.chain_cons, Pipeline.chain_nil]
  iintro ⟨HE, Ha, Hb0, Hb1, Hc0, Hc1, Hc2, Hc3⟩
  iapply (wp_comp512A I c (a := 4 * b4 c) rfl (by revert c; decide +kernel) (by revert c; decide +kernel) (by revert c; decide +kernel)) $$ [HE Ha]
  · isplitl [HE] <;> iassumption
  iintro ⟨HE, Ha⟩
  iapply (wp_comp256B I c (a := 2 * b2 c) (by revert c; decide +kernel) (by revert c; decide +kernel) (by revert c; decide +kernel) (by revert c; decide +kernel)) $$ [HE Hb0]
  · isplitl [HE] <;> iassumption
  iintro ⟨HE, Hb0⟩
  iapply (wp_comp256B I c (a := 4 + 2 * b2 c) (by revert c; decide +kernel) (by revert c; decide +kernel) (by revert c; decide +kernel) (by revert c; decide +kernel)) $$ [HE Hb1]
  · isplitl [HE] <;> iassumption
  iintro ⟨HE, Hb1⟩
  iapply (wp_comp128C I c (a := b1 c) (by revert c; decide +kernel) (by revert c; decide +kernel) (by revert c; decide +kernel) (by revert c; decide +kernel)) $$ [HE Hc0]
  · isplitl [HE] <;> iassumption
  iintro ⟨HE, Hc0⟩
  iapply (wp_comp128C I c (a := b1 c + 2) (by revert c; decide +kernel) (by revert c; decide +kernel) (by revert c; decide +kernel) (by revert c; decide +kernel)) $$ [HE Hc1]
  · isplitl [HE] <;> iassumption
  iintro ⟨HE, Hc1⟩
  iapply (wp_comp128C I c (a := b1 c + 4) (by revert c; decide +kernel) (by revert c; decide +kernel) (by revert c; decide +kernel) (by revert c; decide +kernel)) $$ [HE Hc2]
  · isplitl [HE] <;> iassumption
  iintro ⟨HE, Hc2⟩
  iapply (wp_comp128C I c (a := b1 c + 6) (by revert c; decide +kernel) (by revert c; decide +kernel) (by revert c; decide +kernel) (by revert c; decide +kernel)) $$ [HE Hc3]
  · isplitl [HE] <;> iassumption
  iintro ⟨HE, Hc3⟩
  iapply (wpc_pure c)
  isplitl [HE]; · iexact HE
  isplitl [Ha]; · iexact Ha
  isplitl [Hb0]; · iexact Hb0
  isplitl [Hb1]; · iexact Hb1
  isplitl [Hc0]; · iexact Hc0
  isplitl [Hc1]; · iexact Hc1
  isplitl [Hc2] <;> iassumption

end Cert.KernelIdeal.Moe
-- ==== Proof.Whole.lean ====
module

public import proofs.«01_k».proof.Proof.Handoff
public import proofs.«01_k».proof.Proof.Compute

@[expose] public section

noncomputable section

/-! # The whole body -/

namespace Cert.KernelIdeal.Moe

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CI → ℕ) (c : Dev nD)

/-! ## Cutting the buffers up, and putting them together -/

/-- What a departed copy of the reduction gives back. -/
theorem spay_red (j : Tr) (hg : isG j = false) (hm : (ends c j).sm = pM) :
    (spay (Gc I) c j : sProp 𝕄) ⊢ junk c pM fullShare (tl (gr j) (ch (sa c j) (sn j))) := by
  refine (spay_own I c j hm).trans ?_
  rw [show shr j = fullShare from if_neg (by rw [hg]; decide)]
  exact own_junk c pM

/-- What a departed copy of the gather gives back. -/
theorem spay_gat (j : Tr) (hg : isG j = true) (hm : (ends c j).sm = gM) : (spay (Gc I) c j : sProp 𝕄) ⊢ gt I c (shr j) (gr j) (sa c j) (sn j) := by
  refine (spay_own I c j hm).trans ?_
  rw [Gc_gat I c hg]

/-- The partial sums of column group 0: the blocks sent at once, and the kept ones. -/
theorem part_split0 : (junk c pM fullShare (tl 0 Finset.univ) : sProp 𝕄) ⊢ iprop(pj c 0 (sa c .a0) 2 ∗ pj c 0 (sa c .a1) 2 ∗ pj c 0 (4 * b4 c) 4) := by
  iintro H
  ihave H := (junkT_split c pM (T1 := ch (sa c .a0) 2) (T2 := ch (sa c .a1) 2 ∪ (ch (4 * b4 c) 4)) (by revert c; decide +kernel) (by revert c; decide +kernel)) $$ H
  icases H with ⟨H0, H⟩
  isplitl [H0]; · iexact H0
  ihave H := (junkT_split c pM (T1 := ch (sa c .a1) 2) (T2 := ch (4 * b4 c) 4) rfl (by revert c; decide +kernel)) $$ H
  icases H with ⟨H0, H⟩
  isplitl [H0]; · iexact H0
  iexact H

/-- The partial sums of column group 1: the blocks sent at once, and the kept ones. -/
theorem part_split1 : (junk c pM fullShare (tl 1 Finset.univ) : sProp 𝕄) ⊢ iprop(pj c 1 (sa c .b0) 2 ∗ pj c 1 (sa c .b1) 2 ∗ pj c 1 (2 * b2 c) 2 ∗ pj c 1 (4 + 2 * b2 c) 2) := by
  iintro H
  ihave H := (junkT_split c pM (T1 := ch (sa c .b0) 2) (T2 := ch (sa c .b1) 2 ∪ (ch (2 * b2 c) 2 ∪ (ch (4 + 2 * b2 c) 2))) (by revert c; decide +kernel) (by revert c; decide +kernel)) $$ H
  icases H with ⟨H0, H⟩
  isplitl [H0]; · iexact H0
  ihave H := (junkT_split c pM (T1 := ch (sa c .b1) 2) (T2 := ch (2 * b2 c) 2 ∪ (ch (4 + 2 * b2 c) 2)) rfl (by revert c; decide +kernel)) $$ H
  icases H with ⟨H0, H⟩
  isplitl [H0]; · iexact H0
  ihave H := (junkT_split c pM (T1 := ch (2 * b2 c) 2) (T2 := ch (4 + 2 * b2 c) 2) rfl (by revert c; decide +kernel)) $$ H
  icases H with ⟨H0, H⟩
  isplitl [H0]; · iexact H0
  iexact H

/-- The partial sums of column group 2: the blocks sent at once, and the kept ones. -/
theorem part_split2 : (junk c pM fullShare (tl 2 Finset.univ) : sProp 𝕄) ⊢ iprop(pj c 2 (sa c .c0) 1 ∗ pj c 2 (sa c .c1) 1 ∗ pj c 2 (sa c .c2) 1 ∗ pj c 2 (sa c .c3) 1 ∗ pj c 2 (b1 c) 1 ∗ pj c 2 (b1 c + 2) 1 ∗ pj c 2 (b1 c + 4) 1 ∗ pj c 2 (b1 c + 6) 1) := by
  iintro H
  ihave H := (junkT_split c pM (T1 := ch (sa c .c0) 1) (T2 := ch (sa c .c1) 1 ∪ (ch (sa c .c2) 1 ∪ (ch (sa c .c3) 1 ∪ (ch (b1 c) 1 ∪ (ch (b1 c + 2) 1 ∪ (ch (b1 c + 4) 1 ∪ (ch (b1 c + 6) 1))))))) (by revert c; decide +kernel) (by revert c; decide +kernel)) $$ H
  icases H with ⟨H0, H⟩
  isplitl [H0]; · iexact H0
  ihave H := (junkT_split c pM (T1 := ch (sa c .c1) 1) (T2 := ch (sa c .c2) 1 ∪ (ch (sa c .c3) 1 ∪ (ch (b1 c) 1 ∪ (ch (b1 c + 2) 1 ∪ (ch (b1 c + 4) 1 ∪ (ch (b1 c + 6) 1)))))) rfl (by revert c; decide +kernel)) $$ H
  icases H with ⟨H0, H⟩
  isplitl [H0]; · iexact H0
  ihave H := (junkT_split c pM (T1 := ch (sa c .c2) 1) (T2 := ch (sa c .c3) 1 ∪ (ch (b1 c) 1 ∪ (ch (b1 c + 2) 1 ∪ (ch (b1 c + 4) 1 ∪ (ch (b1 c + 6) 1))))) rfl (by revert c; decide +kernel)) $$ H
  icases H with ⟨H0, H⟩
  isplitl [H0]; · iexact H0
  ihave H := (junkT_split c pM (T1 := ch (sa c .c3) 1) (T2 := ch (b1 c) 1 ∪ (ch (b1 c + 2) 1 ∪ (ch (b1 c + 4) 1 ∪ (ch (b1 c + 6) 1)))) rfl (by revert c; decide +kernel)) $$ H
  icases H with ⟨H0, H⟩
  isplitl [H0]; · iexact H0
  ihave H := (junkT_split c pM (T1 := ch (b1 c) 1) (T2 := ch (b1 c + 2) 1 ∪ (ch (b1 c + 4) 1 ∪ (ch (b1 c + 6) 1))) rfl (by revert c; decide +kernel)) $$ H
  icases H with ⟨H0, H⟩
  isplitl [H0]; · iexact H0
  ihave H := (junkT_split c pM (T1 := ch (b1 c + 2) 1) (T2 := ch (b1 c + 4) 1 ∪ (ch (b1 c + 6) 1)) rfl (by revert c; decide +kernel)) $$ H
  icases H with ⟨H0, H⟩
  isplitl [H0]; · iexact H0
  ihave H := (junkT_split c pM (T1 := ch (b1 c + 4) 1) (T2 := ch (b1 c + 6) 1) rfl (by revert c; decide +kernel)) $$ H
  icases H with ⟨H0, H⟩
  isplitl [H0]; · iexact H0
  iexact H

/-- The output of column group 0: the rows finished here, and those that arrive. -/
theorem out_split0 : (junk c oM fullShare (tl 0 Finset.univ) : sProp 𝕄) ⊢ iprop(oj c 0 (ell c) 1 ∗ oj c 0 (ra c .ga0) 1 ∗ oj c 0 (ra c .ga1) 2 ∗ oj c 0 (ra c .ga2) 4) := by
  iintro H
  ihave H := (junkT_split c oM (T1 := ch (ell c) 1) (T2 := ch (ra c .ga0) 1 ∪ (ch (ra c .ga1) 2 ∪ (ch (ra c .ga2) 4))) (by revert c; decide +kernel) (by revert c; decide +kernel)) $$ H
  icases H with ⟨H0, H⟩
  isplitl [H0]; · iexact H0
  ihave H := (junkT_split c oM (T1 := ch (ra c .ga0) 1) (T2 := ch (ra c .ga1) 2 ∪ (ch (ra c .ga2) 4)) rfl (by revert c; decide +kernel)) $$ H
  icases H with ⟨H0, H⟩
  isplitl [H0]; · iexact H0
  ihave H := (junkT_split c oM (T1 := ch (ra c .ga1) 2) (T2 := ch (ra c .ga2) 4) rfl (by revert c; decide +kernel)) $$ H
  icases H with ⟨H0, H⟩
  isplitl [H0]; · iexact H0
  iexact H

/-- The output of column group 1: the rows finished here, and those that arrive. -/
theorem out_split1 : (junk c oM fullShare (tl 1 Finset.univ) : sProp 𝕄) ⊢ iprop(oj c 1 (ell c) 1 ∗ oj c 1 (ra c .gb0) 1 ∗ oj c 1 (ra c .gb1) 1 ∗ oj c 1 (ra c .gb2) 1 ∗ oj c 1 (ra c .gb3) 2 ∗ oj c 1 (ra c .gb4) 2) := by
  iintro H
  ihave H := (junkT_split c oM (T1 := ch (ell c) 1) (T2 := ch (ra c .gb0) 1 ∪ (ch (ra c .gb1) 1 ∪ (ch (ra c .gb2) 1 ∪ (ch (ra c .gb3) 2 ∪ (ch (ra c .gb4) 2))))) (by revert c; decide +kernel) (by revert c; decide +kernel)) $$ H
  icases H with ⟨H0, H⟩
  isplitl [H0]; · iexact H0
  ihave H := (junkT_split c oM (T1 := ch (ra c .gb0) 1) (T2 := ch (ra c .gb1) 1 ∪ (ch (ra c .gb2) 1 ∪ (ch (ra c .gb3) 2 ∪ (ch (ra c .gb4) 2)))) rfl (by revert c; decide +kernel)) $$ H
  icases H with ⟨H0, H⟩
  isplitl [H0]; · iexact H0
  ihave H := (junkT_split c oM (T1 := ch (ra c .gb1) 1) (T2 := ch (ra c .gb2) 1 ∪ (ch (ra c .gb3) 2 ∪ (ch (ra c .gb4) 2))) rfl (by revert c; decide +kernel)) $$ H
  icases H with ⟨H0, H⟩
  isplitl [H0]; · iexact H0
  ihave H := (junkT_split c oM (T1 := ch (ra c .gb2) 1) (T2 := ch (ra c .gb3) 2 ∪ (ch (ra c .gb4) 2)) rfl (by revert c; decide +kernel)) $$ H
  icases H with ⟨H0, H⟩
  isplitl [H0]; · iexact H0
  ihave H := (junkT_split c oM (T1 := ch (ra c .gb3) 2) (T2 := ch (ra c .gb4) 2) rfl (by revert c; decide +kernel)) $$ H
  icases H with ⟨H0, H⟩
  isplitl [H0]; · iexact H0
  iexact H

/-- The output of column group 2: the rows finished here, and those that arrive. -/
theorem out_split2 : (junk c oM fullShare (tl 2 Finset.univ) : sProp 𝕄) ⊢ iprop(oj c 2 (ell c) 1 ∗ oj c 2 (ra c .gc0) 1 ∗ oj c 2 (ra c .gc1) 1 ∗ oj c 2 (ra c .gc2) 1 ∗ oj c 2 (ra c .gc3) 1 ∗ oj c 2 (ra c .gc4) 1 ∗ oj c 2 (ra c .gc5) 1 ∗ oj c 2 (ra c .gc6) 1) := by
  iintro H
  ihave H := (junkT_split c oM (T1 := ch (ell c) 1) (T2 := ch (ra c .gc0) 1 ∪ (ch (ra c .gc1) 1 ∪ (ch (ra c .gc2) 1 ∪ (ch (ra c .gc3) 1 ∪ (ch (ra c .gc4) 1 ∪ (ch (ra c .gc5) 1 ∪ (ch (ra c .gc6) 1))))))) (by revert c; decide +kernel) (by revert c; decide +kernel)) $$ H
  icases H with ⟨H0, H⟩
  isplitl [H0]; · iexact H0
  ihave H := (junkT_split c oM (T1 := ch (ra c .gc0) 1) (T2 := ch (ra c .gc1) 1 ∪ (ch (ra c .gc2) 1 ∪ (ch (ra c .gc3) 1 ∪ (ch (ra c .gc4) 1 ∪ (ch (ra c .gc5) 1 ∪ (ch (ra c .gc6) 1)))))) rfl (by revert c; decide +kernel)) $$ H
  icases H with ⟨H0, H⟩
  isplitl [H0]; · iexact H0
  ihave H := (junkT_split c oM (T1 := ch (ra c .gc1) 1) (T2 := ch (ra c .gc2) 1 ∪ (ch (ra c .gc3) 1 ∪ (ch (ra c .gc4) 1 ∪ (ch (ra c .gc5) 1 ∪ (ch (ra c .gc6) 1))))) rfl (by revert c; decide +kernel)) $$ H
  icases H with ⟨H0, H⟩
  isplitl [H0]; · iexact H0
  ihave H := (junkT_split c oM (T1 := ch (ra c .gc2) 1) (T2 := ch (ra c .gc3) 1 ∪ (ch (ra c .gc4) 1 ∪ (ch (ra c .gc5) 1 ∪ (ch (ra c .gc6) 1)))) rfl (by revert c; decide +kernel)) $$ H
  icases H with ⟨H0, H⟩
  isplitl [H0]; · iexact H0
  ihave H := (junkT_split c oM (T1 := ch (ra c .gc3) 1) (T2 := ch (ra c .gc4) 1 ∪ (ch (ra c .gc5) 1 ∪ (ch (ra c .gc6) 1))) rfl (by revert c; decide +kernel)) $$ H
  icases H with ⟨H0, H⟩
  isplitl [H0]; · iexact H0
  ihave H := (junkT_split c oM (T1 := ch (ra c .gc4) 1) (T2 := ch (ra c .gc5) 1 ∪ (ch (ra c .gc6) 1)) rfl (by revert c; decide +kernel)) $$ H
  icases H with ⟨H0, H⟩
  isplitl [H0]; · iexact H0
  ihave H := (junkT_split c oM (T1 := ch (ra c .gc5) 1) (T2 := ch (ra c .gc6) 1) rfl (by revert c; decide +kernel)) $$ H
  icases H with ⟨H0, H⟩
  isplitl [H0]; · iexact H0
  iexact H

/-- The output's column group A, from the own chunk and three arrivals. -/
theorem out_join0 : iprop(ot I c 0 (ell c) 1 ∗ ot I c 0 (ra c .ga0) 1 ∗ ot I c 0 (ra c .ga1) 2 ∗ ot I c 0 (ra c .ga2) 4) ⊢ (own c oM fullShare (tl 0 Finset.univ) (OUT I c) : sProp 𝕄) := by
  iintro ⟨H0, H1, H2, H3⟩
  iapply (tile_join c oM (T := Finset.univ) (T1 := ch (ell c) 1) (T2 := ch (ra c .ga0) 1 ∪ (ch (ra c .ga1) 2 ∪ (ch (ra c .ga2) 4))) (by revert c; decide +kernel) (by revert c; decide +kernel))
  isplitl [H0]; · iexact H0
  iapply (tile_join c oM (T := ch (ra c .ga0) 1 ∪ (ch (ra c .ga1) 2 ∪ (ch (ra c .ga2) 4))) (T1 := ch (ra c .ga0) 1) (T2 := ch (ra c .ga1) 2 ∪ (ch (ra c .ga2) 4)) rfl (by revert c; decide +kernel))
  isplitl [H1]; · iexact H1
  iapply (tile_join c oM (T := ch (ra c .ga1) 2 ∪ (ch (ra c .ga2) 4)) (T1 := ch (ra c .ga1) 2) (T2 := ch (ra c .ga2) 4) rfl (by revert c; decide +kernel))
  isplitl [H2]; · iexact H2
  iexact H3

/-- The output's column group B, from the own chunk and five arrivals. -/
theorem out_join1 : iprop(ot I c 1 (ell c) 1 ∗ ot I c 1 (ra c .gb0) 1 ∗ ot I c 1 (ra c .gb1) 1 ∗ ot I c 1 (ra c .gb2) 1 ∗ ot I c 1 (ra c .gb3) 2 ∗ ot I c 1 (ra c .gb4) 2) ⊢ (own c oM fullShare (tl 1 Finset.univ) (OUT I c) : sProp 𝕄) := by
  iintro ⟨H0, H1, H2, H3, H4, H5⟩
  iapply (tile_join c oM (T := Finset.univ) (T1 := ch (ell c) 1) (T2 := ch (ra c .gb0) 1 ∪ (ch (ra c .gb1) 1 ∪ (ch (ra c .gb2) 1 ∪ (ch (ra c .gb3) 2 ∪ (ch (ra c .gb4) 2))))) (by revert c; decide +kernel) (by revert c; decide +kernel))
  isplitl [H0]; · iexact H0
  iapply (tile_join c oM (T := ch (ra c .gb0) 1 ∪ (ch (ra c .gb1) 1 ∪ (ch (ra c .gb2) 1 ∪ (ch (ra c .gb3) 2 ∪ (ch (ra c .gb4) 2))))) (T1 := ch (ra c .gb0) 1) (T2 := ch (ra c .gb1) 1 ∪ (ch (ra c .gb2) 1 ∪ (ch (ra c .gb3) 2 ∪ (ch (ra c .gb4) 2)))) rfl (by revert c; decide +kernel))
  isplitl [H1]; · iexact H1
  iapply (tile_join c oM (T := ch (ra c .gb1) 1 ∪ (ch (ra c .gb2) 1 ∪ (ch (ra c .gb3) 2 ∪ (ch (ra c .gb4) 2)))) (T1 := ch (ra c .gb1) 1) (T2 := ch (ra c .gb2) 1 ∪ (ch (ra c .gb3) 2 ∪ (ch (ra c .gb4) 2))) rfl (by revert c; decide +kernel))
  isplitl [H2]; · iexact H2
  iapply (tile_join c oM (T := ch (ra c .gb2) 1 ∪ (ch (ra c .gb3) 2 ∪ (ch (ra c .gb4) 2))) (T1 := ch (ra c .gb2) 1) (T2 := ch (ra c .gb3) 2 ∪ (ch (ra c .gb4) 2)) rfl (by revert c; decide +kernel))
  isplitl [H3]; · iexact H3
  iapply (tile_join c oM (T := ch (ra c .gb3) 2 ∪ (ch (ra c .gb4) 2)) (T1 := ch (ra c .gb3) 2) (T2 := ch (ra c .gb4) 2) rfl (by revert c; decide +kernel))
  isplitl [H4]; · iexact H4
  iexact H5

/-- The output's column group C, from the own chunk and seven arrivals. -/
theorem out_join2 : iprop(ot I c 2 (ell c) 1 ∗ ot I c 2 (ra c .gc0) 1 ∗ ot I c 2 (ra c .gc1) 1 ∗ ot I c 2 (ra c .gc2) 1 ∗ ot I c 2 (ra c .gc3) 1 ∗ ot I c 2 (ra c .gc4) 1 ∗ ot I c 2 (ra c .gc5) 1 ∗ ot I c 2 (ra c .gc6) 1) ⊢ (own c oM fullShare (tl 2 Finset.univ) (OUT I c) : sProp 𝕄) := by
  iintro ⟨H0, H1, H2, H3, H4, H5, H6, H7⟩
  iapply (tile_join c oM (T := Finset.univ) (T1 := ch (ell c) 1) (T2 := ch (ra c .gc0) 1 ∪ (ch (ra c .gc1) 1 ∪ (ch (ra c .gc2) 1 ∪ (ch (ra c .gc3) 1 ∪ (ch (ra c .gc4) 1 ∪ (ch (ra c .gc5) 1 ∪ (ch (ra c .gc6) 1))))))) (by revert c; decide +kernel) (by revert c; decide +kernel))
  isplitl [H0]; · iexact H0
  iapply (tile_join c oM (T := ch (ra c .gc0) 1 ∪ (ch (ra c .gc1) 1 ∪ (ch (ra c .gc2) 1 ∪ (ch (ra c .gc3) 1 ∪ (ch (ra c .gc4) 1 ∪ (ch (ra c .gc5) 1 ∪ (ch (ra c .gc6) 1))))))) (T1 := ch (ra c .gc0) 1) (T2 := ch (ra c .gc1) 1 ∪ (ch (ra c .gc2) 1 ∪ (ch (ra c .gc3) 1 ∪ (ch (ra c .gc4) 1 ∪ (ch (ra c .gc5) 1 ∪ (ch (ra c .gc6) 1)))))) rfl (by revert c; decide +kernel))
  isplitl [H1]; · iexact H1
  iapply (tile_join c oM (T := ch (ra c .gc1) 1 ∪ (ch (ra c .gc2) 1 ∪ (ch (ra c .gc3) 1 ∪ (ch (ra c .gc4) 1 ∪ (ch (ra c .gc5) 1 ∪ (ch (ra c .gc6) 1)))))) (T1 := ch (ra c .gc1) 1) (T2 := ch (ra c .gc2) 1 ∪ (ch (ra c .gc3) 1 ∪ (ch (ra c .gc4) 1 ∪ (ch (ra c .gc5) 1 ∪ (ch (ra c .gc6) 1))))) rfl (by revert c; decide +kernel))
  isplitl [H2]; · iexact H2
  iapply (tile_join c oM (T := ch (ra c .gc2) 1 ∪ (ch (ra c .gc3) 1 ∪ (ch (ra c .gc4) 1 ∪ (ch (ra c .gc5) 1 ∪ (ch (ra c .gc6) 1))))) (T1 := ch (ra c .gc2) 1) (T2 := ch (ra c .gc3) 1 ∪ (ch (ra c .gc4) 1 ∪ (ch (ra c .gc5) 1 ∪ (ch (ra c .gc6) 1)))) rfl (by revert c; decide +kernel))
  isplitl [H3]; · iexact H3
  iapply (tile_join c oM (T := ch (ra c .gc3) 1 ∪ (ch (ra c .gc4) 1 ∪ (ch (ra c .gc5) 1 ∪ (ch (ra c .gc6) 1)))) (T1 := ch (ra c .gc3) 1) (T2 := ch (ra c .gc4) 1 ∪ (ch (ra c .gc5) 1 ∪ (ch (ra c .gc6) 1))) rfl (by revert c; decide +kernel))
  isplitl [H4]; · iexact H4
  iapply (tile_join c oM (T := ch (ra c .gc4) 1 ∪ (ch (ra c .gc5) 1 ∪ (ch (ra c .gc6) 1))) (T1 := ch (ra c .gc4) 1) (T2 := ch (ra c .gc5) 1 ∪ (ch (ra c .gc6) 1)) rfl (by revert c; decide +kernel))
  isplitl [H5]; · iexact H5
  iapply (tile_join c oM (T := ch (ra c .gc5) 1 ∪ (ch (ra c .gc6) 1)) (T1 := ch (ra c .gc5) 1) (T2 := ch (ra c .gc6) 1) rfl (by revert c; decide +kernel))
  isplitl [H6]; · iexact H6
  iexact H7

/-- The partial sums of column group 0, back. -/
theorem part_join0 : iprop(spay (Gc I) c .a0 ∗ spay (Gc I) c .a1 ∗ spay (Gc I) c .a2 ∗ spay (Gc I) c .a3 ∗ pt I c 0 (ell c) 1 2) ⊢ (junk c pM fullShare (tl 0 Finset.univ) : sProp 𝕄) := by
  iintro ⟨Ha0, Ha1, Ha2, Ha3, H⟩
  ihave Ha0 := (spay_red I c .a0 rfl rfl) $$ Ha0
  ihave Ha1 := (spay_red I c .a1 rfl rfl) $$ Ha1
  ihave Ha2 := (spay_red I c .a2 rfl rfl) $$ Ha2
  ihave Ha3 := (spay_red I c .a3 rfl rfl) $$ Ha3
  ihave H := (own_junk c pM) $$ H
  iapply (junkT_join c pM (T := Finset.univ) (T1 := ch (sa c .a0) 2) (T2 := ch (sa c .a1) 2 ∪ (ch (sa c .a2) 2 ∪ (ch (sa c .a3) 1 ∪ (ch (ell c) 1)))) (by revert c; decide +kernel) (by revert c; decide +kernel))
  isplitl [Ha0]; · iexact Ha0
  iapply (junkT_join c pM (T := ch (sa c .a1) 2 ∪ (ch (sa c .a2) 2 ∪ (ch (sa c .a3) 1 ∪ (ch (ell c) 1)))) (T1 := ch (sa c .a1) 2) (T2 := ch (sa c .a2) 2 ∪ (ch (sa c .a3) 1 ∪ (ch (ell c) 1))) rfl (by revert c; decide +kernel))
  isplitl [Ha1]; · iexact Ha1
  iapply (junkT_join c pM (T := ch (sa c .a2) 2 ∪ (ch (sa c .a3) 1 ∪ (ch (ell c) 1))) (T1 := ch (sa c .a2) 2) (T2 := ch (sa c .a3) 1 ∪ (ch (ell c) 1)) rfl (by revert c; decide +kernel))
  isplitl [Ha2]; · iexact Ha2
  iapply (junkT_join c pM (T := ch (sa c .a3) 1 ∪ (ch (ell c) 1)) (T1 := ch (sa c .a3) 1) (T2 := ch (ell c) 1) rfl (by revert c; decide +kernel))
  isplitl [Ha3]; · iexact Ha3
  iexact H

/-- The partial sums of column group 1, back. -/
theorem part_join1 : iprop(spay (Gc I) c .b0 ∗ spay (Gc I) c .b1 ∗ spay (Gc I) c .b2 ∗ spay (Gc I) c .b3 ∗ spay (Gc I) c .b4 ∗ pt I c 1 (ell c) 1 2) ⊢ (junk c pM fullShare (tl 1 Finset.univ) : sProp 𝕄) := by
  iintro ⟨Hb0, Hb1, Hb2, Hb3, Hb4, H⟩
  ihave Hb0 := (spay_red I c .b0 rfl rfl) $$ Hb0
  ihave Hb1 := (spay_red I c .b1 rfl rfl) $$ Hb1
  ihave Hb2 := (spay_red I c .b2 rfl rfl) $$ Hb2
  ihave Hb3 := (spay_red I c .b3 rfl rfl) $$ Hb3
  ihave Hb4 := (spay_red I c .b4 rfl rfl) $$ Hb4
  ihave H := (own_junk c pM) $$ H
  iapply (junkT_join c pM (T := Finset.univ) (T1 := ch (sa c .b0) 2) (T2 := ch (sa c .b1) 2 ∪ (ch (sa c .b2) 1 ∪ (ch (sa c .b3) 1 ∪ (ch (sa c .b4) 1 ∪ (ch (ell c) 1))))) (by revert c; decide +kernel) (by revert c; decide +kernel))
  isplitl [Hb0]; · iexact Hb0
  iapply (junkT_join c pM (T := ch (sa c .b1) 2 ∪ (ch (sa c .b2) 1 ∪ (ch (sa c .b3) 1 ∪ (ch (sa c .b4) 1 ∪ (ch (ell c) 1))))) (T1 := ch (sa c .b1) 2) (T2 := ch (sa c .b2) 1 ∪ (ch (sa c .b3) 1 ∪ (ch (sa c .b4) 1 ∪ (ch (ell c) 1)))) rfl (by revert c; decide +kernel))
  isplitl [Hb1]; · iexact Hb1
  iapply (junkT_join c pM (T := ch (sa c .b2) 1 ∪ (ch (sa c .b3) 1 ∪ (ch (sa c .b4) 1 ∪ (ch (ell c) 1)))) (T1 := ch (sa c .b2) 1) (T2 := ch (sa c .b3) 1 ∪ (ch (sa c .b4) 1 ∪ (ch (ell c) 1))) rfl (by revert c; decide +kernel))
  isplitl [Hb2]; · iexact Hb2
  iapply (junkT_join c pM (T := ch (sa c .b3) 1 ∪ (ch (sa c .b4) 1 ∪ (ch (ell c) 1))) (T1 := ch (sa c .b3) 1) (T2 := ch (sa c .b4) 1 ∪ (ch (ell c) 1)) rfl (by revert c; decide +kernel))
  isplitl [Hb3]; · iexact Hb3
  iapply (junkT_join c pM (T := ch (sa c .b4) 1 ∪ (ch (ell c) 1)) (T1 := ch (sa c .b4) 1) (T2 := ch (ell c) 1) rfl (by revert c; decide +kernel))
  isplitl [Hb4]; · iexact Hb4
  iexact H

/-- The partial sums of column group 2, back. -/
theorem part_join2 : iprop(spay (Gc I) c .c0 ∗ spay (Gc I) c .c1 ∗ spay (Gc I) c .c2 ∗ spay (Gc I) c .c3 ∗ spay (Gc I) c .c4 ∗ spay (Gc I) c .c5 ∗ spay (Gc I) c .c6 ∗ pt I c 2 (ell c) 1 2) ⊢ (junk c pM fullShare (tl 2 Finset.univ) : sProp 𝕄) := by
  iintro ⟨Hc0, Hc1, Hc2, Hc3, Hc4, Hc5, Hc6, H⟩
  ihave Hc0 := (spay_red I c .c0 rfl rfl) $$ Hc0
  ihave Hc1 := (spay_red I c .c1 rfl rfl) $$ Hc1
  ihave Hc2 := (spay_red I c .c2 rfl rfl) $$ Hc2
  ihave Hc3 := (spay_red I c .c3 rfl rfl) $$ Hc3
  ihave Hc4 := (spay_red I c .c4 rfl rfl) $$ Hc4
  ihave Hc5 := (spay_red I c .c5 rfl rfl) $$ Hc5
  ihave Hc6 := (spay_red I c .c6 rfl rfl) $$ Hc6
  ihave H := (own_junk c pM) $$ H
  iapply (junkT_join c pM (T := Finset.univ) (T1 := ch (sa c .c0) 1) (T2 := ch (sa c .c1) 1 ∪ (ch (sa c .c2) 1 ∪ (ch (sa c .c3) 1 ∪ (ch (sa c .c4) 1 ∪ (ch (sa c .c5) 1 ∪ (ch (sa c .c6) 1 ∪ (ch (ell c) 1))))))) (by revert c; decide +kernel) (by revert c; decide +kernel))
  isplitl [Hc0]; · iexact Hc0
  iapply (junkT_join c pM (T := ch (sa c .c1) 1 ∪ (ch (sa c .c2) 1 ∪ (ch (sa c .c3) 1 ∪ (ch (sa c .c4) 1 ∪ (ch (sa c .c5) 1 ∪ (ch (sa c .c6) 1 ∪ (ch (ell c) 1))))))) (T1 := ch (sa c .c1) 1) (T2 := ch (sa c .c2) 1 ∪ (ch (sa c .c3) 1 ∪ (ch (sa c .c4) 1 ∪ (ch (sa c .c5) 1 ∪ (ch (sa c .c6) 1 ∪ (ch (ell c) 1)))))) rfl (by revert c; decide +kernel))
  isplitl [Hc1]; · iexact Hc1
  iapply (junkT_join c pM (T := ch (sa c .c2) 1 ∪ (ch (sa c .c3) 1 ∪ (ch (sa c .c4) 1 ∪ (ch (sa c .c5) 1 ∪ (ch (sa c .c6) 1 ∪ (ch (ell c) 1)))))) (T1 := ch (sa c .c2) 1) (T2 := ch (sa c .c3) 1 ∪ (ch (sa c .c4) 1 ∪ (ch (sa c .c5) 1 ∪ (ch (sa c .c6) 1 ∪ (ch (ell c) 1))))) rfl (by revert c; decide +kernel))
  isplitl [Hc2]; · iexact Hc2
  iapply (junkT_join c pM (T := ch (sa c .c3) 1 ∪ (ch (sa c .c4) 1 ∪ (ch (sa c .c5) 1 ∪ (ch (sa c .c6) 1 ∪ (ch (ell c) 1))))) (T1 := ch (sa c .c3) 1) (T2 := ch (sa c .c4) 1 ∪ (ch (sa c .c5) 1 ∪ (ch (sa c .c6) 1 ∪ (ch (ell c) 1)))) rfl (by revert c; decide +kernel))
  isplitl [Hc3]; · iexact Hc3
  iapply (junkT_join c pM (T := ch (sa c .c4) 1 ∪ (ch (sa c .c5) 1 ∪ (ch (sa c .c6) 1 ∪ (ch (ell c) 1)))) (T1 := ch (sa c .c4) 1) (T2 := ch (sa c .c5) 1 ∪ (ch (sa c .c6) 1 ∪ (ch (ell c) 1))) rfl (by revert c; decide +kernel))
  isplitl [Hc4]; · iexact Hc4
  iapply (junkT_join c pM (T := ch (sa c .c5) 1 ∪ (ch (sa c .c6) 1 ∪ (ch (ell c) 1))) (T1 := ch (sa c .c5) 1) (T2 := ch (sa c .c6) 1 ∪ (ch (ell c) 1)) rfl (by revert c; decide +kernel))
  isplitl [Hc5]; · iexact Hc5
  iapply (junkT_join c pM (T := ch (sa c .c6) 1 ∪ (ch (ell c) 1)) (T1 := ch (sa c .c6) 1) (T2 := ch (ell c) 1) rfl (by revert c; decide +kernel))
  isplitl [Hc6]; · iexact Hc6
  iexact H

/-- The gathered result of column group 0, back: the shares together, stage by stage. -/
theorem gat_join0 : iprop(spay (Gc I) c .ga0 ∗ spay (Gc I) c .ga1 ∗ spay (Gc I) c .ga2 ∗ gt I c qRR 0 (ra c .ga0) 1 ∗ gt I c qR 0 (ra c .ga1) 2 ∗ gt I c fullShare 0 (ra c .ga2) 4)
    ⊢ (own c gM fullShare (tl 0 Finset.univ) (GB I) : sProp 𝕄) := by
  iintro ⟨Hga0, Hga1, Hga2, H0, H1, H2⟩
  ihave Hga0 := (show spay (Gc I) c .ga0 ⊢ gt I c qRR 0 (sa c .ga0) 1 from spay_gat I c .ga0 rfl rfl) $$ Hga0
  ihave Hga1 := (show spay (Gc I) c .ga1 ⊢ gt I c qRL 0 (sa c .ga1) 2 from spay_gat I c .ga1 rfl rfl) $$ Hga1
  ihave Hga2 := (show spay (Gc I) c .ga2 ⊢ gt I c qL 0 (sa c .ga2) 4 from spay_gat I c .ga2 rfl rfl) $$ Hga2
  ihave H := (tile_join c gM (q := qRR) (g := GB I) (X := 0) (T := ch (sa c .ga1) 2) (T1 := ch (ell c) 1) (T2 := ch (ra c .ga0) 1) (by revert c; decide +kernel) (by revert c; decide +kernel)) $$ [Hga0 H0]
  · isplitl [Hga0]; · iexact Hga0
    iexact H0
  ihave H := (show iprop(gt I c fullShare.right.left 0 (sa c .ga1) 2 ∗ gt I c fullShare.right.right 0 (sa c .ga1) 2) ⊢ gt I c fullShare.right 0 (sa c .ga1) 2 from own_unshare c gM) $$ [Hga1 H]
  · isplitl [Hga1]; · iexact Hga1
    iexact H
  ihave H := (tile_join c gM (q := qR) (g := GB I) (X := 0) (T := ch (sa c .ga2) 4) (T1 := ch (sa c .ga1) 2) (T2 := ch (ra c .ga1) 2) (by revert c; decide +kernel) (by revert c; decide +kernel)) $$ [H H1]
  · isplitl [H]; · iexact H
    iexact H1
  ihave H := (show iprop(gt I c fullShare.left 0 (sa c .ga2) 4 ∗ gt I c fullShare.right 0 (sa c .ga2) 4) ⊢ gt I c fullShare 0 (sa c .ga2) 4 from own_unshare c gM) $$ [Hga2 H]
  · isplitl [Hga2]; · iexact Hga2
    iexact H
  iapply (tile_join c gM (T := Finset.univ) (T1 := ch (sa c .ga2) 4) (T2 := ch (ra c .ga2) 4) (by revert c; decide +kernel) (by revert c; decide +kernel))
  isplitl [H]; · iexact H
  iexact H2

/-- The gathered buffer's column group B, from what was sent and what arrived. -/
theorem gat_join1 : iprop(spay (Gc I) c .gb0 ∗ spay (Gc I) c .gb1 ∗ spay (Gc I) c .gb2 ∗ spay (Gc I) c .gb3 ∗ spay (Gc I) c .gb4
      ∗ gt I c qRR 1 (ra c .gb0) 1 ∗ gt I c qR 1 (ra c .gb1) 1 ∗ gt I c qR 1 (ra c .gb2) 1 ∗ gt I c fullShare 1 (ra c .gb3) 2 ∗ gt I c fullShare 1 (ra c .gb4) 2)
    ⊢ (own c gM fullShare (tl 1 Finset.univ) (GB I) : sProp 𝕄) := by
  iintro ⟨Hgb0, Hgb1, Hgb2, Hgb3, Hgb4, H0, H1, H2, H3, H4⟩
  ihave Hgb0 := (show spay (Gc I) c .gb0 ⊢ gt I c qRR 1 (sa c .gb0) 1 from spay_gat I c .gb0 rfl rfl) $$ Hgb0
  ihave Hgb1 := (show spay (Gc I) c .gb1 ⊢ gt I c qRL 1 (sa c .gb1) 1 from spay_gat I c .gb1 rfl rfl) $$ Hgb1
  ihave Hgb2 := (show spay (Gc I) c .gb2 ⊢ gt I c qRL 1 (sa c .gb2) 1 from spay_gat I c .gb2 rfl rfl) $$ Hgb2
  ihave Hgb3 := (show spay (Gc I) c .gb3 ⊢ gt I c qL 1 (sa c .gb3) 2 from spay_gat I c .gb3 rfl rfl) $$ Hgb3
  ihave Hgb4 := (show spay (Gc I) c .gb4 ⊢ gt I c qL 1 (sa c .gb4) 2 from spay_gat I c .gb4 rfl rfl) $$ Hgb4
  ihave H := (show iprop(gt I c fullShare.right.left 1 (ell c) 1 ∗ gt I c fullShare.right.right 1 (ell c) 1) ⊢ gt I c fullShare.right 1 (ell c) 1 from own_unshare c gM) $$ [Hgb1 Hgb0]
  · isplitl [Hgb1]; · iexact Hgb1
    iexact Hgb0
  ihave Hgb2 := (gt_eq I c (q := qRL) (X := 1) (n := 1) (a := sa c .gb2) (b := ra c .gb0) (by revert c; decide +kernel)) $$ Hgb2
  ihave H' := (show iprop(gt I c fullShare.right.left 1 (ra c .gb0) 1 ∗ gt I c fullShare.right.right 1 (ra c .gb0) 1) ⊢ gt I c fullShare.right 1 (ra c .gb0) 1 from own_unshare c gM) $$ [Hgb2 H0]
  · isplitl [Hgb2]; · iexact Hgb2
    iexact H0
  ihave H := (tile_join c gM (q := qR) (g := GB I) (X := 1) (T := ch (sa c .gb3) 2) (T1 := ch (ell c) 1) (T2 := ch (ra c .gb1) 1) (by revert c; decide +kernel) (by revert c; decide +kernel)) $$ [H H1]
  · isplitl [H]; · iexact H
    iexact H1
  ihave H' := (tile_join c gM (q := qR) (g := GB I) (X := 1) (T := ch (sa c .gb4) 2) (T1 := ch (ra c .gb0) 1) (T2 := ch (ra c .gb2) 1) (by revert c; decide +kernel) (by revert c; decide +kernel)) $$ [H' H2]
  · isplitl [H']; · iexact H'
    iexact H2
  ihave H := (show iprop(gt I c fullShare.left 1 (sa c .gb3) 2 ∗ gt I c fullShare.right 1 (sa c .gb3) 2) ⊢ gt I c fullShare 1 (sa c .gb3) 2 from own_unshare c gM) $$ [Hgb3 H]
  · isplitl [Hgb3]; · iexact Hgb3
    iexact H
  ihave H' := (show iprop(gt I c fullShare.left 1 (sa c .gb4) 2 ∗ gt I c fullShare.right 1 (sa c .gb4) 2) ⊢ gt I c fullShare 1 (sa c .gb4) 2 from own_unshare c gM) $$ [Hgb4 H']
  · isplitl [Hgb4]; · iexact Hgb4
    iexact H'
  iapply (tile_join c gM (T := Finset.univ) (T1 := ch (sa c .gb3) 2) (T2 := ch (sa c .gb4) 2 ∪ (ch (ra c .gb3) 2 ∪ (ch (ra c .gb4) 2))) (by revert c; decide +kernel) (by revert c; decide +kernel))
  isplitl [H]; · iexact H
  iapply (tile_join c gM (T := ch (sa c .gb4) 2 ∪ (ch (ra c .gb3) 2 ∪ (ch (ra c .gb4) 2))) (T1 := ch (sa c .gb4) 2) (T2 := ch (ra c .gb3) 2 ∪ (ch (ra c .gb4) 2)) rfl (by revert c; decide +kernel))
  isplitl [H']; · iexact H'
  iapply (tile_join c gM (T := ch (ra c .gb3) 2 ∪ (ch (ra c .gb4) 2)) (T1 := ch (ra c .gb3) 2) (T2 := ch (ra c .gb4) 2) rfl (by revert c; decide +kernel))
  isplitl [H3]; · iexact H3
  iexact H4

/-- The gathered buffer's column group C, from what was sent and what arrived. -/
theorem gat_join2 : iprop(spay (Gc I) c .gc0 ∗ spay (Gc I) c .gc1 ∗ spay (Gc I) c .gc2 ∗ spay (Gc I) c .gc3 ∗ spay (Gc I) c .gc4 ∗ spay (Gc I) c .gc5 ∗ spay (Gc I) c .gc6
      ∗ gt I c qRR 2 (ra c .gc0) 1 ∗ gt I c qR 2 (ra c .gc1) 1 ∗ gt I c qR 2 (ra c .gc2) 1
      ∗ gt I c fullShare 2 (ra c .gc3) 1 ∗ gt I c fullShare 2 (ra c .gc4) 1 ∗ gt I c fullShare 2 (ra c .gc5) 1 ∗ gt I c fullShare 2 (ra c .gc6) 1)
    ⊢ (own c gM fullShare (tl 2 Finset.univ) (GB I) : sProp 𝕄) := by
  iintro ⟨Hgc0, Hgc1, Hgc2, Hgc3, Hgc4, Hgc5, Hgc6, H0, H1, H2, H3, H4, H5, H6⟩
  ihave Hgc0 := (show spay (Gc I) c .gc0 ⊢ gt I c qRR 2 (sa c .gc0) 1 from spay_gat I c .gc0 rfl rfl) $$ Hgc0
  ihave Hgc1 := (show spay (Gc I) c .gc1 ⊢ gt I c qRL 2 (sa c .gc1) 1 from spay_gat I c .gc1 rfl rfl) $$ Hgc1
  ihave Hgc2 := (show spay (Gc I) c .gc2 ⊢ gt I c qRL 2 (sa c .gc2) 1 from spay_gat I c .gc2 rfl rfl) $$ Hgc2
  ihave Hgc3 := (show spay (Gc I) c .gc3 ⊢ gt I c qL 2 (sa c .gc3) 1 from spay_gat I c .gc3 rfl rfl) $$ Hgc3
  ihave Hgc4 := (show spay (Gc I) c .gc4 ⊢ gt I c qL 2 (sa c .gc4) 1 from spay_gat I c .gc4 rfl rfl) $$ Hgc4
  ihave Hgc5 := (show spay (Gc I) c .gc5 ⊢ gt I c qL 2 (sa c .gc5) 1 from spay_gat I c .gc5 rfl rfl) $$ Hgc5
  ihave Hgc6 := (show spay (Gc I) c .gc6 ⊢ gt I c qL 2 (sa c .gc6) 1 from spay_gat I c .gc6 rfl rfl) $$ Hgc6
  ihave H := (show iprop(gt I c fullShare.right.left 2 (ell c) 1 ∗ gt I c fullShare.right.right 2 (ell c) 1) ⊢ gt I c fullShare.right 2 (ell c) 1 from own_unshare c gM) $$ [Hgc1 Hgc0]
  · isplitl [Hgc1]; · iexact Hgc1
    iexact Hgc0
  ihave H := (show iprop(gt I c fullShare.left 2 (ell c) 1 ∗ gt I c fullShare.right 2 (ell c) 1) ⊢ gt I c fullShare 2 (ell c) 1 from own_unshare c gM) $$ [Hgc3 H]
  · isplitl [Hgc3]; · iexact Hgc3
    iexact H
  ihave Hgc2 := (gt_eq I c (q := qRL) (X := 2) (n := 1) (a := sa c .gc2) (b := ra c .gc0) (by revert c; decide +kernel)) $$ Hgc2
  ihave H0 := (show iprop(gt I c fullShare.right.left 2 (ra c .gc0) 1 ∗ gt I c fullShare.right.right 2 (ra c .gc0) 1) ⊢ gt I c fullShare.right 2 (ra c .gc0) 1 from own_unshare c gM) $$ [Hgc2 H0]
  · isplitl [Hgc2]; · iexact Hgc2
    iexact H0
  ihave Hgc4 := (gt_eq I c (q := qL) (X := 2) (n := 1) (a := sa c .gc4) (b := ra c .gc0) (by revert c; decide +kernel)) $$ Hgc4
  ihave H0 := (show iprop(gt I c fullShare.left 2 (ra c .gc0) 1 ∗ gt I c fullShare.right 2 (ra c .gc0) 1) ⊢ gt I c fullShare 2 (ra c .gc0) 1 from own_unshare c gM) $$ [Hgc4 H0]
  · isplitl [Hgc4]; · iexact Hgc4
    iexact H0
  ihave Hgc5 := (gt_eq I c (q := qL) (X := 2) (n := 1) (a := sa c .gc5) (b := ra c .gc1) (by revert c; decide +kernel)) $$ Hgc5
  ihave H1 := (show iprop(gt I c fullShare.left 2 (ra c .gc1) 1 ∗ gt I c fullShare.right 2 (ra c .gc1) 1) ⊢ gt I c fullShare 2 (ra c .gc1) 1 from own_unshare c gM) $$ [Hgc5 H1]
  · isplitl [Hgc5]; · iexact Hgc5
    iexact H1
  ihave Hgc6 := (gt_eq I c (q := qL) (X := 2) (n := 1) (a := sa c .gc6) (b := ra c .gc2) (by revert c; decide +kernel)) $$ Hgc6
  ihave H2 := (show iprop(gt I c fullShare.left 2 (ra c .gc2) 1 ∗ gt I c fullShare.right 2 (ra c .gc2) 1) ⊢ gt I c fullShare 2 (ra c .gc2) 1 from own_unshare c gM) $$ [Hgc6 H2]
  · isplitl [Hgc6]; · iexact Hgc6
    iexact H2
  iapply (tile_join c gM (T := Finset.univ) (T1 := ch (ell c) 1) (T2 := ch (ra c .gc0) 1 ∪ (ch (ra c .gc1) 1 ∪ (ch (ra c .gc2) 1 ∪ (ch (ra c .gc3) 1 ∪ (ch (ra c .gc4) 1 ∪ (ch (ra c .gc5) 1 ∪ (ch (ra c .gc6) 1))))))) (by revert c; decide +kernel) (by revert c; decide +kernel))
  isplitl [H]; · iexact H
  iapply (tile_join c gM (T := ch (ra c .gc0) 1 ∪ (ch (ra c .gc1) 1 ∪ (ch (ra c .gc2) 1 ∪ (ch (ra c .gc3) 1 ∪ (ch (ra c .gc4) 1 ∪ (ch (ra c .gc5) 1 ∪ (ch (ra c .gc6) 1))))))) (T1 := ch (ra c .gc0) 1) (T2 := ch (ra c .gc1) 1 ∪ (ch (ra c .gc2) 1 ∪ (ch (ra c .gc3) 1 ∪ (ch (ra c .gc4) 1 ∪ (ch (ra c .gc5) 1 ∪ (ch (ra c .gc6) 1)))))) rfl (by revert c; decide +kernel))
  isplitl [H0]; · iexact H0
  iapply (tile_join c gM (T := ch (ra c .gc1) 1 ∪ (ch (ra c .gc2) 1 ∪ (ch (ra c .gc3) 1 ∪ (ch (ra c .gc4) 1 ∪ (ch (ra c .gc5) 1 ∪ (ch (ra c .gc6) 1)))))) (T1 := ch (ra c .gc1) 1) (T2 := ch (ra c .gc2) 1 ∪ (ch (ra c .gc3) 1 ∪ (ch (ra c .gc4) 1 ∪ (ch (ra c .gc5) 1 ∪ (ch (ra c .gc6) 1))))) rfl (by revert c; decide +kernel))
  isplitl [H1]; · iexact H1
  iapply (tile_join c gM (T := ch (ra c .gc2) 1 ∪ (ch (ra c .gc3) 1 ∪ (ch (ra c .gc4) 1 ∪ (ch (ra c .gc5) 1 ∪ (ch (ra c .gc6) 1))))) (T1 := ch (ra c .gc2) 1) (T2 := ch (ra c .gc3) 1 ∪ (ch (ra c .gc4) 1 ∪ (ch (ra c .gc5) 1 ∪ (ch (ra c .gc6) 1)))) rfl (by revert c; decide +kernel))
  isplitl [H2]; · iexact H2
  iapply (tile_join c gM (T := ch (ra c .gc3) 1 ∪ (ch (ra c .gc4) 1 ∪ (ch (ra c .gc5) 1 ∪ (ch (ra c .gc6) 1)))) (T1 := ch (ra c .gc3) 1) (T2 := ch (ra c .gc4) 1 ∪ (ch (ra c .gc5) 1 ∪ (ch (ra c .gc6) 1))) rfl (by revert c; decide +kernel))
  isplitl [H3]; · iexact H3
  iapply (tile_join c gM (T := ch (ra c .gc4) 1 ∪ (ch (ra c .gc5) 1 ∪ (ch (ra c .gc6) 1))) (T1 := ch (ra c .gc4) 1) (T2 := ch (ra c .gc5) 1 ∪ (ch (ra c .gc6) 1)) rfl (by revert c; decide +kernel))
  isplitl [H4]; · iexact H4
  iapply (tile_join c gM (T := ch (ra c .gc5) 1 ∪ (ch (ra c .gc6) 1)) (T1 := ch (ra c .gc5) 1) (T2 := ch (ra c .gc6) 1) rfl (by revert c; decide +kernel))
  isplitl [H5]; · iexact H5
  iexact H6

/-! ## The body -/

/-- A device reads its own number. -/
theorem wp_dev {α : Type} {Q : α → sProp 𝕄} {k : Dev nD → Pg F α} : wpc c (k c) Q ⊢ wpc c (Prog.lift .deviceId >>= k) Q := by
  unfold wpc
  simp only [Prog.lift, Prog.bind_op, Prog.bind_ret, wp_deviceId]
  exact .rfl

/-- The staged inputs. -/
def ins : sProp 𝕄 := iprop(own c xM fullShare Finset.univ (I.x c) ∗ own c rwM fullShare Finset.univ (I.rw c) ∗ own c ixM fullShare Finset.univ (I.ix c) ∗ own c ewM fullShare Finset.univ (I.ew c) ∗ own c swM fullShare Finset.univ (I.sw c))
/-- The scratch buffers, at anything. -/
def scr : sProp 𝕄 := iprop(junk (F := F) c pM fullShare Finset.univ ∗ junk (F := F) c gM fullShare Finset.univ ∗ junk (F := F) c hM fullShare Finset.univ ∗ junk (F := F) c a0M fullShare Finset.univ ∗ junk (F := F) c a1M fullShare Finset.univ ∗ junk (F := F) c a2M fullShare Finset.univ ∗ junk (F := F) c b0M fullShare Finset.univ ∗ junk (F := F) c b1M fullShare Finset.univ ∗ junk (F := F) c b2M fullShare Finset.univ ∗ junk (F := F) c c0M fullShare Finset.univ ∗ junk (F := F) c c1M fullShare Finset.univ ∗ junk (F := F) c c2M fullShare Finset.univ ∗ junk (F := F) c gtM fullShare Finset.univ)
/-- A device's protocol state when its body ends: every semaphore at zero and nothing owed. -/
def BE : sProp 𝕄 := iprop((∃ W, owes (c : Thread nD τ) 0 W) ∗ semVal (bar c) 0 ∗ bigSep Finset.univ (fun j => semVal (sc c j) 0) ∗ bigSep Finset.univ (fun j => semVal (rc c j) 0))

/-- The body of device `c`: from the inputs, the output is `OUT`, and every buffer and semaphore is the device's own again. -/
theorem body_ok : iprop(BS I K c ∗ ins I c ∗ junk c oM fullShare Finset.univ ∗ scr c)
    ⊢ wpc c body (fun _ => iprop(BE c ∗ ins I c ∗ own c oM fullShare Finset.univ (OUT I c) ∗ scr c)) := by
  unfold body
  refine BIBase.Entails.trans ?_ (wp_dev c)
  unfold ins scr
  iintro ⟨HB, ⟨Hx, Hrw, Hix, Hew, Hsw⟩, Ho, ⟨HpM, HgM, HhM, Ha0M, Ha1M, Ha2M, Hb0M, Hb1M, Hb2M, Hc0M, Hc1M, Hc2M, HgtM⟩⟩
  iapply (wp_then c (phPro_ok I c)) $$ [Hx Hrw Hix HhM HgtM]
  · isplitl [Hx]; · iexact Hx
    isplitl [Hrw]; · iexact Hrw
    isplitl [Hix]; · iexact Hix
    isplitl [HhM]; · iexact HhM
    iexact HgtM
  iintro ⟨Hx, Hrw, Hix, HhM, HgtM⟩
  ihave HH := (hand_intro c) $$ [Ha0M Ha1M Ha2M Hb0M Hb1M Hb2M Hc0M Hc1M Hc2M HgM]
  · isplitl [Ha0M]; · iexact Ha0M
    isplitl [Ha1M]; · iexact Ha1M
    isplitl [Ha2M]; · iexact Ha2M
    isplitl [Hb0M]; · iexact Hb0M
    isplitl [Hb1M]; · iexact Hb1M
    isplitl [Hb2M]; · iexact Hb2M
    isplitl [Hc0M]; · iexact Hc0M
    isplitl [Hc1M]; · iexact Hc1M
    isplitl [Hc2M]; · iexact Hc2M
    iexact HgM
  icases HH with ⟨HH, Hg0, Hg1, Hg2⟩
  iapply (wp_then c (phBar_ok I K c)) $$ [HB HH]
  · isplitl [HB]; · iexact HB
    iexact HH
  iintro ⟨HC, Hbar⟩
  ihave HpM := (junk_groups c pM) $$ HpM
  icases HpM with ⟨HpA, HpB, HpC⟩
  ihave HpA := (part_split0 c) $$ HpA
  icases HpA with ⟨Ha0, Ha1, HpA⟩
  ihave HpB := (part_split1 c) $$ HpB
  icases HpB with ⟨Hb0, Hb1, HpB, HpB'⟩
  ihave HpC := (part_split2 c) $$ HpC
  icases HpC with ⟨Hc0, Hc1, Hc2, Hc3, HpC⟩
  ihave HE := (show iprop(own c hM fullShare Finset.univ (hV I c) ∗ own c ixM fullShare Finset.univ (I.ix c) ∗ own c gtM fullShare Finset.univ (gV I c) ∗ own c ewM fullShare Finset.univ (I.ew c)) ⊢ Env I c from .rfl) $$ [HhM Hix HgtM Hew]
  · isplitl [HhM]; · iexact HhM
    isplitl [Hix]; · iexact Hix
    isplitl [HgtM]; · iexact HgtM
    iexact Hew
  iapply (wp_then c (phSend_ok I K c)) $$ [HE HC Ha0 Hb0 Ha1 Hb1 Hc0 Hc1 Hc2 Hc3]
  · isplitl [HE]; · iexact HE
    isplitl [HC]; · iexact HC
    isplitl [Ha0]; · iexact Ha0
    isplitl [Hb0]; · iexact Hb0
    isplitl [Ha1]; · iexact Ha1
    isplitl [Hb1]; · iexact Hb1
    isplitl [Hc0]; · iexact Hc0
    isplitl [Hc1]; · iexact Hc1
    isplitl [Hc2]; · iexact Hc2
    iexact Hc3
  iintro ⟨HE, HC⟩
  iapply (wp_then c (phKeep_ok I c)) $$ [HE HpA HpB HpB' HpC]
  · isplitl [HE]; · iexact HE
    isplitl [HpA]; · iexact HpA
    isplitl [HpB]; · iexact HpB
    isplitl [HpB']; · iexact HpB'
    iexact HpC
  iintro ⟨HE, HpA, HpB, HpB', HpC⟩
  iapply (wp_then c (phA1_ok I K c)) $$ [HC HpA]
  · isplitl [HC]; · iexact HC
    iexact HpA
  iintro ⟨HC, HpA, Ha0M⟩
  iapply (wp_then c (phB1_ok I K c)) $$ [HC HpB HpB']
  · isplitl [HC]; · iexact HC
    isplitl [HpB]; · iexact HpB
    iexact HpB'
  iintro ⟨HC, HpB, HpB', Hb0M⟩
  iapply (wp_then c (phC1_ok I K c)) $$ [HC HpC]
  · isplitl [HC]; · iexact HC
    iexact HpC
  iintro ⟨HC, HpC, HpC', Hc0M⟩
  iapply (phShared_ok I c) $$ [Hx Hsw]
  · isplitl [Hx]; · iexact Hx
    iexact Hsw
  iintro ⟨Hx, Hsw⟩
  iapply (wp_then c (phA2_ok I K c)) $$ [HC HpA]
  · isplitl [HC]; · iexact HC
    iexact HpA
  iintro ⟨HC, HpA, Ha1M⟩
  iapply (wp_then c (phB2_ok I K c)) $$ [HC HpB HpB']
  · isplitl [HC]; · iexact HC
    isplitl [HpB]; · iexact HpB
    iexact HpB'
  iintro ⟨HC, HpB, Hb1M⟩
  iapply (wp_then c (phC2_ok I K c)) $$ [HC HpC HpC']
  · isplitl [HC]; · iexact HC
    isplitl [HpC]; · iexact HpC
    iexact HpC'
  iintro ⟨HC, HpC, Hc1M⟩
  ihave Ho := (junk_groups c oM) $$ Ho
  icases Ho with ⟨Ho0, Ho1, Ho2⟩
  ihave Ho0 := (out_split0 c) $$ Ho0
  icases Ho0 with ⟨Ho0, Hoga0, Hoga1, Hoga2⟩
  ihave Ho1 := (out_split1 c) $$ Ho1
  icases Ho1 with ⟨Ho1, Hogb0, Hogb1, Hogb2, Hogb3, Hogb4⟩
  ihave Ho2 := (out_split2 c) $$ Ho2
  icases Ho2 with ⟨Ho2, Hogc0, Hogc1, Hogc2, Hogc3, Hogc4, Hogc5, Hogc6⟩
  iapply (wp_then c (phOwn_ok I K c)) $$ [HC HpA HpB HpC Hg0 Hg1 Hg2 Ho0 Ho1 Ho2]
  · isplitl [HC]; · iexact HC
    isplitl [HpA]; · iexact HpA
    isplitl [HpB]; · iexact HpB
    isplitl [HpC]; · iexact HpC
    isplitl [Hg0]; · iexact Hg0
    isplitl [Hg1]; · iexact Hg1
    isplitl [Hg2]; · iexact Hg2
    isplitl [Ho0]; · iexact Ho0
    isplitl [Ho1]; · iexact Ho1
    iexact Ho2
  iintro ⟨HC, HpA, HpB, HpC, Ha2M, Hb2M, Hc2M, HlA, HrA, HlB, HrB, HlC, HrC, Ho0, Ho1, Ho2⟩
  iapply (wp_then c (phG1_ok I K c)) $$ [HC HlA HrA HrB HrC Hoga0 Hogb0 Hogc0]
  · isplitl [HC]; · iexact HC
    isplitl [HlA]; · iexact HlA
    isplitl [HrA]; · iexact HrA
    isplitl [HrB]; · iexact HrB
    isplitl [HrC]; · iexact HrC
    isplitl [Hoga0]; · iexact Hoga0
    isplitl [Hogb0]; · iexact Hogb0
    iexact Hogc0
  iintro ⟨HC, HlA, HlB', HlC', Hga0, Hgb0, Hgc0, Hoga0, Hogb0, Hogc0⟩
  iapply (wp_then c (phG2_ok I K c)) $$ [HC HlA HlB HlB' HlC HlC' Hoga1 Hogb1 Hogb2 Hogc1 Hogc2]
  · isplitl [HC]; · iexact HC
    isplitl [HlA]; · iexact HlA
    isplitl [HlB]; · iexact HlB
    isplitl [HlB']; · iexact HlB'
    isplitl [HlC]; · iexact HlC
    isplitl [HlC']; · iexact HlC'
    isplitl [Hoga1]; · iexact Hoga1
    isplitl [Hogb1]; · iexact Hogb1
    isplitl [Hogb2]; · iexact Hogb2
    isplitl [Hogc1]; · iexact Hogc1
    iexact Hogc2
  iintro ⟨HC, Hga1, Hgb1, Hgb2, Hgc1, Hgc2, Hoga1, Hogb1, Hogb2, Hogc1, Hogc2⟩
  iapply (wp_then c (phG3_ok I K c)) $$ [HC Hogc3 Hogc4 Hogb3 Hogc5 Hogb4 Hogc6 Hoga2]
  · isplitl [HC]; · iexact HC
    isplitl [Hogc3]; · iexact Hogc3
    isplitl [Hogc4]; · iexact Hogc4
    isplitl [Hogb3]; · iexact Hogb3
    isplitl [Hogc5]; · iexact Hogc5
    isplitl [Hogb4]; · iexact Hogb4
    isplitl [Hogc6]; · iexact Hogc6
    iexact Hoga2
  iintro ⟨HC, Hgc3, Hgc4, Hgb3, Hgc5, Hgb4, Hgc6, Hga2, Hogc3, Hogc4, Hogb3, Hogc5, Hogb4, Hogc6, Hoga2⟩
  ihave HF := (CS_FS (Gc I) c K) $$ HC
  iapply (wp_then c (phEnd1_ok I K c)) $$ [HF]
  · iexact HF
  iintro HF
  iapply (wpc_last c)
  iapply (wp_then c (phEnd2_ok I K c)) $$ [HF]
  · iexact HF
  iintro HF
  iapply (wpc_pure c)
  unfold FS
  rw [stp_all (p := fpos) (fun j => by cases j <;> decide)]
  icases HF with ⟨HO, HS, HR⟩
  unfold fdone
  ihave HS := (Entails.of_eq (bigSep_sep' Finset.univ (fun j : Tr => (semVal (sc c j) 0 : sProp 𝕄)) (fun j => spay (Gc I) c j))) $$ HS
  icases HS with ⟨HS, HP⟩
  ihave HP := (Entails.of_eq (sep31 (fun j => (spay (Gc I) c j : sProp 𝕄)))) $$ HP
  icases HP with ⟨Pa0, Pb0, Pa1, Pb1, Pc0, Pc1, Pc2, Pc3, Pa2, Pb2, Pb3, Pc4, Pc5, Pa3, Pb4, Pc6, Pga0, Pgb0, Pgc0, Pga1, Pgb1, Pgb2, Pgc1, Pgc2, Pga2, Pgb3, Pgb4, Pgc3, Pgc4, Pgc5, Pgc6⟩
  unfold Env
  icases HE with ⟨HhM, Hix, HgtM, Hew⟩
  unfold BE
  isplitl [HO Hbar HS HR]
  · isplitl [HO]; · iexact HO
    isplitl [Hbar]; · iexact Hbar
    isplitl [HS]; · iexact HS
    unfold rdone
    iexact HR
  isplitl [Hx Hrw Hix Hew Hsw]
  · isplitl [Hx]; · iexact Hx
    isplitl [Hrw]; · iexact Hrw
    isplitl [Hix]; · iexact Hix
    isplitl [Hew]; · iexact Hew
    iexact Hsw
  isplitl [Ho0 Hoga0 Hoga1 Hoga2 Ho1 Hogb0 Hogb1 Hogb2 Hogb3 Hogb4 Ho2 Hogc0 Hogc1 Hogc2 Hogc3 Hogc4 Hogc5 Hogc6]
  · iapply (own_ungroups c oM)
    isplitl [Ho0 Hoga0 Hoga1 Hoga2]
    · iapply (out_join0 I c)
      isplitl [Ho0]; · iexact Ho0
      isplitl [Hoga0]; · iexact Hoga0
      isplitl [Hoga1]; · iexact Hoga1
      iexact Hoga2
    isplitl [Ho1 Hogb0 Hogb1 Hogb2 Hogb3 Hogb4]
    · iapply (out_join1 I c)
      isplitl [Ho1]; · iexact Ho1
      isplitl [Hogb0]; · iexact Hogb0
      isplitl [Hogb1]; · iexact Hogb1
      isplitl [Hogb2]; · iexact Hogb2
      isplitl [Hogb3]; · iexact Hogb3
      iexact Hogb4
    iapply (out_join2 I c)
    isplitl [Ho2]; · iexact Ho2
    isplitl [Hogc0]; · iexact Hogc0
    isplitl [Hogc1]; · iexact Hogc1
    isplitl [Hogc2]; · iexact Hogc2
    isplitl [Hogc3]; · iexact Hogc3
    isplitl [Hogc4]; · iexact Hogc4
    isplitl [Hogc5]; · iexact Hogc5
    iexact Hogc6
  isplitl [Pa0 Pa1 Pa2 Pa3 HpA Pb0 Pb1 Pb2 Pb3 Pb4 HpB Pc0 Pc1 Pc2 Pc3 Pc4 Pc5 Pc6 HpC]
  · iapply (junk_ungroups c pM)
    isplitl [Pa0 Pa1 Pa2 Pa3 HpA]
    · iapply (part_join0 I c)
      isplitl [Pa0]; · iexact Pa0
      isplitl [Pa1]; · iexact Pa1
      isplitl [Pa2]; · iexact Pa2
      isplitl [Pa3]; · iexact Pa3
      iexact HpA
    isplitl [Pb0 Pb1 Pb2 Pb3 Pb4 HpB]
    · iapply (part_join1 I c)
      isplitl [Pb0]; · iexact Pb0
      isplitl [Pb1]; · iexact Pb1
      isplitl [Pb2]; · iexact Pb2
      isplitl [Pb3]; · iexact Pb3
      isplitl [Pb4]; · iexact Pb4
      iexact HpB
    iapply (part_join2 I c)
    isplitl [Pc0]; · iexact Pc0
    isplitl [Pc1]; · iexact Pc1
    isplitl [Pc2]; · iexact Pc2
    isplitl [Pc3]; · iexact Pc3
    isplitl [Pc4]; · iexact Pc4
    isplitl [Pc5]; · iexact Pc5
    isplitl [Pc6]; · iexact Pc6
    iexact HpC
  isplitl [Pga0 Pga1 Pga2 Hga0 Hga1 Hga2 Pgb0 Pgb1 Pgb2 Pgb3 Pgb4 Hgb0 Hgb1 Hgb2 Hgb3 Hgb4 Pgc0 Pgc1 Pgc2 Pgc3 Pgc4 Pgc5 Pgc6 Hgc0 Hgc1 Hgc2 Hgc3 Hgc4 Hgc5 Hgc6]
  · iapply (own_junk c gM)
    iapply (own_ungroups c gM)
    isplitl [Pga0 Pga1 Pga2 Hga0 Hga1 Hga2]
    · iapply (gat_join0 I c)
      isplitl [Pga0]; · iexact Pga0
      isplitl [Pga1]; · iexact Pga1
      isplitl [Pga2]; · iexact Pga2
      isplitl [Hga0]; · iexact Hga0
      isplitl [Hga1]; · iexact Hga1
      iexact Hga2
    isplitl [Pgb0 Pgb1 Pgb2 Pgb3 Pgb4 Hgb0 Hgb1 Hgb2 Hgb3 Hgb4]
    · iapply (gat_join1 I c)
      isplitl [Pgb0]; · iexact Pgb0
      isplitl [Pgb1]; · iexact Pgb1
      isplitl [Pgb2]; · iexact Pgb2
      isplitl [Pgb3]; · iexact Pgb3
      isplitl [Pgb4]; · iexact Pgb4
      isplitl [Hgb0]; · iexact Hgb0
      isplitl [Hgb1]; · iexact Hgb1
      isplitl [Hgb2]; · iexact Hgb2
      isplitl [Hgb3]; · iexact Hgb3
      iexact Hgb4
    iapply (gat_join2 I c)
    isplitl [Pgc0]; · iexact Pgc0
    isplitl [Pgc1]; · iexact Pgc1
    isplitl [Pgc2]; · iexact Pgc2
    isplitl [Pgc3]; · iexact Pgc3
    isplitl [Pgc4]; · iexact Pgc4
    isplitl [Pgc5]; · iexact Pgc5
    isplitl [Pgc6]; · iexact Pgc6
    isplitl [Hgc0]; · iexact Hgc0
    isplitl [Hgc1]; · iexact Hgc1
    isplitl [Hgc2]; · iexact Hgc2
    isplitl [Hgc3]; · iexact Hgc3
    isplitl [Hgc4]; · iexact Hgc4
    isplitl [Hgc5]; · iexact Hgc5
    iexact Hgc6
  unfold lnd
  isplitl [HhM]; · iapply (own_junk c hM); iexact HhM
  isplitl [Ha0M]; · iapply (own_junk c a0M); iexact Ha0M
  isplitl [Ha1M]; · iapply (own_junk c a1M); iexact Ha1M
  isplitl [Ha2M]; · iapply (own_junk c a2M); iexact Ha2M
  isplitl [Hb0M]; · iapply (own_junk c b0M); iexact Hb0M
  isplitl [Hb1M]; · iapply (own_junk c b1M); iexact Hb1M
  isplitl [Hb2M]; · iapply (own_junk c b2M); iexact Hb2M
  isplitl [Hc0M]; · iapply (own_junk c c0M); iexact Hc0M
  isplitl [Hc1M]; · iapply (own_junk c c1M); iexact Hc1M
  isplitl [Hc2M]; · iapply (own_junk c c2M); iexact Hc2M
  iapply (own_junk c gtM)
  iexact HgtM

end Cert.KernelIdeal.Moe
-- ==== Proof.Start.lean ====
module

public import proofs.«01_k».proof.Proof.Whole
public import proofs.«01_k».proof.Proof.Gen.KernelIdeal.Frame

@[expose] public section

noncomputable section

/-! # What the devices start with

The protocol's cells and tokens made at launch, and dealt so that each device holds the tokens of the duties it pays. -/

namespace Cert.KernelIdeal.Moe

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CI → ℕ) (c : Dev nD)

/-! ## Conjunctions over the cells and over the devices -/

omit [FloatOps F] in
/-- The cells of a device: its barrier, its transfers' own, and its transfers' landings. -/
theorem sepCI (Φ : CI → sProp 𝕄) : bigSep Finset.univ Φ
    = iprop(Φ none ∗ bigSep Finset.univ (fun j => Φ (some (false, j))) ∗ bigSep Finset.univ (fun j => Φ (some (true, j)))) := by
  rw [bigSep_univ_at _ (none : CI), show (Finset.univ : Finset CI).erase none = Finset.univ.map ⟨some, Option.some_injective _⟩ from by decide,
    bigSep_map, bigSep_univ_prod]
  congr 1
  exact bigSep_univ_eq_bigSepL [false, true] (by decide) (by decide) _

omit [FloatOps F] in
/-- What is indexed by a device and a kind, each kind dealt along its own permutation of the devices. -/
theorem around {β : Type} [Fintype β] (e : β → Dev nD ≃ Dev nD) (Φ : Dev nD → β → sProp 𝕄) :
    (bigSep Finset.univ fun d => bigSep Finset.univ fun b => Φ d b) = bigSep Finset.univ fun d => bigSep Finset.univ fun b => Φ (e b d) b := by
  rw [bigSep_univ_comm, bigSep_congr (s := Finset.univ) (fun b _ => bigSep_univ_equiv (e b) (fun d => Φ d b)), bigSep_univ_comm]

omit [FloatOps F] in
/-- What can be copied serves every conjunct. -/
theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## Cells and tokens -/

def allCells : Finset (GSem nD τ sig) := Finset.univ.map ⟨fun x : Dev nD × CI => kc x.1 x.2, fun _ _ h => Prod.ext (kc_inj.mp h).1 (kc_inj.mp h).2⟩

/-- A device's duty tokens: the barrier's three, one for each of its other cells. -/
abbrev tokOf (x : Dev nD × (Fin 3 ⊕ (Bool × Tr))) : GSem nD τ sig × ℕ × Fin 3 :=
  match x.2 with
  | .inl i => (bar x.1, 0, i)
  | .inr i => (kc x.1 (some i), 0, 0)

/-- Distinct duties have distinct tokens. -/
theorem tokOf_inj : Function.Injective tokOf := by
  rintro ⟨d, i⟩ ⟨d', i'⟩ h
  obtain rfl : d = d' := by
    rcases i with i | i <;> rcases i' with i' | i' <;> exact (kc_inj.mp (congrArg (fun x : GSem nD τ sig × ℕ × Fin 3 => x.1) h)).1
  rcases i with i | i <;> rcases i' with i' | i'
  · exact congrArg (fun x => (d, Sum.inl x)) (congrArg (fun x : GSem nD τ sig × ℕ × Fin 3 => x.2.2) h)
  · exact absurd (kc_inj.mp (congrArg (fun x : GSem nD τ sig × ℕ × Fin 3 => x.1) h)).2 (by simp)
  · exact absurd (kc_inj.mp (congrArg (fun x : GSem nD τ sig × ℕ × Fin 3 => x.1) h)).2 (by simp)
  · exact congrArg (fun x => (d, Sum.inr x)) (Option.some_injective _ (kc_inj.mp (congrArg (fun x : GSem nD τ sig × ℕ × Fin 3 => x.1) h)).2)

def allToks : Finset (GSem nD τ sig × ℕ × Fin 3) := Finset.univ.map ⟨tokOf, tokOf_inj⟩

def u₀ : UU := (initOf (Pipeline.cells cfgs cellOf_inj) (Pipeline.launchToks cfgs cellOf_inj), initOf allCells allToks)

/-- The tokens of device `c`'s own cells. -/
def toks : sProp 𝕄 :=
  iprop((bigSep Finset.univ fun x : Fin 3 => dutyTok ER (bar c) 0 x)
    ∗ (bigSep Finset.univ fun j => dutyTok ER (sc c j) 0 (0 : Fin 3)) ∗ bigSep Finset.univ fun j => dutyTok ER (rc c j) 0 (0 : Fin 3))
/-- The tokens of the duties device `c` pays. -/
def payToks : sProp 𝕄 :=
  iprop((bigSep Finset.univ fun x : Fin 3 => dutyTok ER (bar (nb x c)) 0 x)
    ∗ (bigSep Finset.univ fun j => dutyTok ER (sc c j) 0 (0 : Fin 3)) ∗ bigSep Finset.univ fun j => dutyTok ER (rc (pr c j) j) 0 (0 : Fin 3))

/-- What the launch deals device `c`. -/
def G0 : sProp 𝕄 :=
  iprop((bigSep Finset.univ fun i => roundState ER (Rd (Gc I)) (kc c i) 0)
    ∗ (bigSep Finset.univ fun i => iprop(atPos ER (kc c i) 0 ∅ 0 ∗ reached ER (kc c i) 0)) ∗ toks c)

/-- What device `c` starts with, once the cells are shared. -/
def G1 : sProp 𝕄 :=
  iprop(∃ K, bigSep Finset.univ (ticket0 (Gc I) K c)
    ∗ (bigSep Finset.univ fun j => iprop(cellInv ER (Rd (Gc I)) (K (c, some (true, j))) (rc c j) ∗ atPos ER (rc c j) 0 ∅ 0))
    ∗ cellInv ER (Rd (Gc I)) (K (c, none)) (bar c) ∗ atPos ER (bar c) 0 ∅ 0 ∗ bigSep Finset.univ (barTok I K c))

/-- The protocol's ghost state, shared out over the devices. -/
theorem fund_all : BI.own (ER (initOf allCells allToks)) ⊢ (|==> bigSep Finset.univ (G0 I) : sProp 𝕄) := by
  have hX (Φ : GSem nD τ sig → sProp 𝕄) : bigSep allCells Φ = bigSep Finset.univ fun d : Dev nD => bigSep Finset.univ fun i : CI => Φ (kc d i) := by
    unfold allCells; rw [bigSep_map, bigSep_univ_prod]; rfl
  have hT : bigSep allToks (fun x => (dutyTok ER x.1 x.2.1 x.2.2 : sProp 𝕄)) = bigSep Finset.univ fun d : Dev nD => toks d := by
    unfold allToks; rw [bigSep_map, bigSep_univ_prod]
    refine bigSep_congr fun d _ => ?_
    unfold toks
    rw [bigSep_univ_sum]
    congr 1
    rw [bigSep_univ_prod]
    exact bigSep_univ_eq_bigSepL [false, true] (by decide) (by decide) _
  iintro HX
  imod (Rounds.fund ER (Rd (Gc I)) allCells allToks) $$ HX with ⟨Hst, Hr, Hat, Htok⟩
  imodintro
  ihave Hst := (Entails.of_eq (hX fun g => roundState ER (Rd (Gc I)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G0; simp only [bigSep_sep']
  isplitl [Hst]; · iexact Hst
  isplitl [Hat Hr]
  · isplitl [Hat]; · iexact Hat
    iexact Hr
  iexact Htok

/-- The kernel's own semaphores are its transfers' two each, -/
abbrev osem (i : Bool × Tr) : SemLoc sig := csem (some i)

omit [FloatOps F] in
/-- The kernel's own counters are the departures' and the arrivals'. -/
theorem ownSems_eq : (Pipeline.ownSems0 (Ix := Unit) (Name := ℕ) (U := UU) (Lvl := ℕ) (Val := Elt F) (τ := τ) osem c : sProp 𝕄)
    = iprop((bigSep Finset.univ fun j => semVal (sc c j) 0) ∗ bigSep Finset.univ fun j => semVal (rc c j) 0) := by
  unfold Pipeline.ownSems0
  rw [bigSep_univ_prod]
  exact bigSep_univ_eq_bigSepL [false, true] (by decide) (by decide) _

omit [FloatOps F] in
/-- and the barrier semaphore the one other. -/
theorem unscopedSems_eq : (unscopedSems0 c : sProp 𝕄) = semVal (bar c) 0 := by
  unfold unscopedSems0; rw [bigSep_eq_bigSepL_of_eq [SemLoc.reg barS] (by decide) (by decide)]; rfl

/-- A device's counters and ghost state make its cells. -/
theorem core_alloc :
    iprop(Pipeline.ownSems0 (Ix := Unit) (Name := ℕ) (U := UU) (Lvl := ℕ) (Val := Elt F) (τ := τ) osem c ∗ unscopedSems0 c ∗ G0 I c)
      ⊢ |={Set.univ}=> iprop((bigSep Finset.univ fun i => iprop(∃ κ : ℕ, cellInv ER (Rd (Gc I)) κ (kc c i)))
          ∗ (bigSep Finset.univ fun i => iprop(atPos ER (kc c i) 0 ∅ 0 ∗ reached ER (kc c i) 0)) ∗ toks c) := by
  unfold G0
  rw [ownSems_eq, unscopedSems_eq]
  iintro ⟨⟨HS, HR⟩, HB, Hst, Hat, Htok⟩
  ihave Hv := (Entails.of_eq (sepCI (fun i : CI => (semVal (kc c i) 0 : sProp 𝕄))).symm) $$ [HS HR HB]
  · isplitl [HB]; · iexact HB
    isplitl [HS]; · iexact HS
    iexact HR
  imod (show iprop((bigSep Finset.univ fun i : CI => semVal (kc c i) 0) ∗ bigSep Finset.univ fun i : CI => roundState ER (Rd (Gc I)) (kc c i) 0)
      ⊢ (|={Set.univ}=> bigSep Finset.univ fun i => iprop(∃ κ : ℕ, cellInv ER (Rd (Gc I)) κ (kc c i)) : sProp 𝕄) from by
        rw [← bigSep_sep']
        exact (bigSep_mono fun i _ => (Rounds.body_intro ER (Rd (Gc I)) (kc c i)).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- What every device may use of every cell. -/
def records : sProp 𝕄 :=
  iprop((bigSep Finset.univ fun x : Dev nD × CI => cellInv ER (Rd (Gc I)) (K x) (kc x.1 x.2))
    ∗ bigSep Finset.univ fun x : Dev nD × CI => reached ER (kc x.1 x.2) 0)

instance records_persistent : BI.Persistent (records I K) := by unfold records; infer_instance

/-- One cell's invariant, out of the records. -/
theorem inv_at (x : Dev nD × CI) : records I K ⊢ cellInv ER (Rd (Gc I)) (K x) (kc x.1 x.2) := by
  unfold records
  iintro ⟨H, -⟩
  iapply (show (bigSep Finset.univ fun x : Dev nD × CI => (cellInv ER (Rd (Gc I)) (K x) (kc x.1 x.2) : sProp 𝕄)) ⊢ cellInv ER (Rd (Gc I)) (K x) (kc x.1 x.2) from bigSep_elim (Finset.mem_univ x))
  iexact H

/-- One cell's first round, out of the records. -/
theorem reached_at (x : Dev nD × CI) : records I K ⊢ reached ER (kc x.1 x.2) 0 := by
  unfold records
  iintro ⟨-, H⟩
  iapply (show (bigSep Finset.univ fun x : Dev nD × CI => (reached ER (kc x.1 x.2) 0 : sProp 𝕄)) ⊢ reached ER (kc x.1 x.2) 0 from bigSep_elim (Finset.mem_univ x))
  iexact H

/-- What is device `c`'s alone: its positions and the tokens of the duties it pays. -/
def linear : sProp 𝕄 := iprop((bigSep Finset.univ fun i => atPos ER (kc c i) 0 ∅ 0) ∗ payToks c)

/-- A device's ghost state, from the shared records and its own part. -/
theorem ghost_intro : iprop(records I K ∗ linear c) ⊢ G1 I c := by
  unfold linear payToks G1
  rw [sepCI (fun i => (atPos ER (kc c i) 0 ∅ 0 : sProp 𝕄))]
  iintro ⟨#H, ⟨HaB, HaS, HaR⟩, HtB, HtS, HtR⟩
  iexists K
  isplitl [HaS HtS HtR]
  · iapply (with_persistent (R := records I K) (Φ := fun j => iprop(dutyTok ER (sc c j) 0 (0 : Fin 3) ∗ dutyTok ER (rc (pr c j) j) 0 (0 : Fin 3) ∗ atPos ER (sc c j) 0 ∅ 0)) (fun j _ => by
      unfold ticket0
      iintro ⟨#H, H1, H2, H3⟩
      isplitr; · iapply (inv_at I K (c, some (false, j))); iexact H
      isplitr; · iapply (inv_at I K (pr c j, some (true, j))); iexact H
      isplitl [H1]; · iexact H1
      isplitr; · iapply (reached_at I K (c, some (false, j))); iexact H
      isplitl [H2]; · iexact H2
      isplitr; · iapply (reached_at I K (pr c j, some (true, j))); iexact H
      iexact H3))
    isplitr; · iexact H
    rw [bigSep_sep', bigSep_sep']
    isplitl [HtS]; · iexact HtS
    isplitl [HtR]; · iexact HtR
    iexact HaS
  isplitl [HaR]
  · iapply (with_persistent (R := records I K) (Φ := fun j => atPos ER (rc c j) 0 ∅ 0) (fun j _ => by
      iintro ⟨#H, H1⟩
      isplitr; · iapply (inv_at I K (c, some (true, j))); iexact H
      iexact H1))
    isplitr; · iexact H
    iexact HaR
  isplitr; · iapply (inv_at I K (c, none)); iexact H
  isplitl [HaB]; · iexact HaB
  iapply (with_persistent (R := records I K) (Φ := fun x : Fin 3 => dutyTok ER (bar (nb x c)) 0 x) (fun x _ => by
    unfold barTok
    iintro ⟨#H, H1⟩
    isplitr; · iapply (inv_at I K (nb x c, none)); iexact H
    isplitl [H1]; · iexact H1
    iapply (reached_at I K (nb x c, none)); iexact H))
  isplitr; · iexact H
  iexact HtB

omit [FloatOps F] in
/-- The tokens, held by the devices that pay the duties. -/
theorem toks_around : (bigSep Finset.univ fun d : Dev nD => (toks d : sProp 𝕄)) = bigSep Finset.univ fun d : Dev nD => payToks d := by
  unfold toks payToks
  rw [bigSep_sep', bigSep_sep', bigSep_sep', bigSep_sep', around nbEquiv (fun d x => dutyTok ER (bar d) 0 x),
    around (fun j => nbEquiv (ax j)) (fun d j => dutyTok ER (rc d j) 0 (0 : Fin 3))]
  rfl

/-- The cells of all devices and the tokens, as each device's ghost state. -/
theorem regroup :
    (bigSep Finset.univ fun d : Dev nD => iprop((bigSep Finset.univ fun i => iprop(∃ κ : ℕ, cellInv ER (Rd (Gc I)) κ (kc d i)))
          ∗ (bigSep Finset.univ fun i => iprop(atPos ER (kc d i) 0 ∅ 0 ∗ reached ER (kc d i) 0)) ∗ toks d) : sProp 𝕄)
      ⊢ bigSep Finset.univ (G1 I) := by
  rw [bigSep_sep', bigSep_sep', ← bigSep_univ_prod (fun x : Dev nD × CI => iprop(∃ κ : ℕ, cellInv ER (Rd (Gc I)) κ (kc x.1 x.2))),
    bigSep_congr (s := Finset.univ) (fun (d : Dev nD) _ => bigSep_sep' Finset.univ (fun i : CI => (atPos ER (kc d i) 0 ∅ 0 : sProp 𝕄)) (fun i => reached ER (kc d i) 0)),
    bigSep_sep', ← bigSep_univ_prod (fun x : Dev nD × CI => (reached ER (kc x.1 x.2) 0 : sProp 𝕄)), toks_around]
  iintro ⟨HI, ⟨Hat, #HR⟩, Htok⟩
  ihave HK := (BI.bigSep_exists_pi Finset.univ (fun (x : Dev nD × CI) (κ : ℕ) => (cellInv ER (Rd (Gc I)) κ (kc x.1 x.2) : sProp 𝕄))) $$ HI
  icases HK with ⟨%K, #HI⟩
  iapply (with_persistent (R := records I K) fun d _ => ghost_intro I K d)
  isplitr
  · unfold records; isplitl; · iexact HI
    iexact HR
  unfold linear
  rw [bigSep_sep']
  isplitl [Hat]; · iexact Hat
  iexact Htok

/-- All devices' semaphores and shares made into what each starts with. -/
theorem glob : (bigSep Finset.univ fun d => iprop(Pipeline.ownSems0 (Ix := Unit) (Name := ℕ) (U := UU) (Lvl := ℕ) (Val := Elt F) (τ := τ) osem d ∗ unscopedSems0 d ∗ G0 I d) : sProp 𝕄)
    ⊢ |={Set.univ}=> bigSep Finset.univ (G1 I) :=
  ((bigSep_mono fun d _ => core_alloc I d).trans (bigSep_fupd _ _)).trans (BI.fupd_mono (regroup I))

/-! ## What is owed at launch, and its credit -/

/-- What a device owes at launch: its arrivals and its three signals. -/
theorem O₀_apply (d : Dev nD) (g : GSem nD τ sig) (u : Unit) :
    O₀ d g u = owedN d 0 g u + ∑ x : Fin 3, if g = bar (nb x d) then 1 else 0 := by
  have h (g g' : GSem nD τ sig) : (tallyAt g () 1 : CellTallies nD τ sig Unit) g' u = if g' = g then 1 else 0 := by
    rw [tallyAt_apply]; exact if_congr (and_iff_left rfl) rfl rfl
  rw [show O₀ d = ((owedN d 0 + tallyAt (bar (nb 2 d)) () 1) + tallyAt (bar (nb 1 d)) () 1) + tallyAt (bar (nb 0 d)) () 1 from rfl]
  simp only [Pi.add_apply, Finsupp.add_apply, h, Fin.sum_univ_three]
  omega

/-- No transfer is owed to the barrier. -/
theorem owedN_bar (d : Dev nD) : owedN d 0 (bar c) () = 0 := by
  by_contra h
  obtain ⟨j, -, hj⟩ := owedN_pos d (Nat.pos_of_ne_zero h)
  exact absurd (kc_inj.mp hj).2 (by simp)

/-- The devices owe a barrier three in all. -/
theorem owed_bar : ∑ d, O₀ d (bar c) () = 3 := by
  simp only [O₀_apply, owedN_bar, kc_inj, and_true, zero_add]
  revert c; decide

/-- The devices owe an arrival its amount in all. -/
theorem owed_rc (j : Tr) : ∑ d, O₀ d (rc c j) () = amt j := by
  have h (d : Dev nD) : O₀ d (rc c j) () = if d = pr c j then amt j else 0 := by
    rw [O₀_apply, Finset.sum_eq_zero (fun x _ => if_neg fun h => absurd (kc_inj.mp h).2 (by simp)), add_zero]
    unfold owedN
    rw [Finset.sum_apply, Finsupp.finset_sum_apply, Finset.sum_eq_single j]
    · rw [if_pos (Nat.zero_le _), tallyAt_apply]
      refine if_congr ?_ rfl rfl
      rw [kc_inj]
      exact ⟨fun h => by rw [h.1.1, pr_pr], fun h => ⟨⟨by rw [h, pr_pr], rfl⟩, rfl⟩⟩
    · intro i _ hi
      rw [if_pos (Nat.zero_le _), tallyAt_apply, if_neg]
      intro h
      have := (kc_inj.mp h.1).2
      simp only [Option.some.injEq, Prod.mk.injEq, true_and] at this
      exact hi this.symm
    · exact fun h => absurd (Finset.mem_univ j) h
  simp only [h]
  rw [Finset.sum_ite_eq' Finset.univ (pr c j) fun _ => amt j, if_pos (Finset.mem_univ _)]

/-- The launch's credit on a counter is what the devices owe to it. -/
theorem launch_on (g : GSem nD τ sig) (n : ℕ) (h : ∑ d, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

omit [FloatOps F] in
/-- A device's credit at launch: three barrier units, and each arrival's. -/
theorem creds : (Pipeline.launchCred O₀ c : sProp 𝕄)
    ⊢ iprop(cred (tallyAt (bar c) () 3) ∗ bigSep Finset.univ fun j => cred (tallyAt (rc c j) () (amt j))) := by
  unfold Pipeline.launchCred
  refine (bigSep_subset (t := Finset.univ.map ⟨csem, csem_inj⟩) (Finset.subset_univ _)).trans ?_
  rw [bigSep_map, sepCI]
  refine BIBase.Entails.trans (Q := iprop(cred (tallyAt (bar c) () 3) ∗ (bigSep Finset.univ fun j => cred (tallyOn (sc c j) (launchCredit (Pipeline.owing O₀) 0 (sc c j)))) ∗ bigSep Finset.univ fun j => cred (tallyAt (rc c j) () (amt j)))) (Entails.of_eq ?_) ?_
  · rw [← launch_on (bar c) 3 (owed_bar c), bigSep_congr (s := Finset.univ) (fun j _ => by rw [← launch_on (rc c j) (amt j) (owed_rc c j)] :
      ∀ j ∈ Finset.univ, (cred (tallyAt (rc c j) () (amt j)) : sProp 𝕄) = _)]
    rfl
  · iintro ⟨H1, -, H2⟩
    isplitl [H1]; · iexact H1
    iexact H2

/-- What is owed at launch is owed to an arrival or to a barrier. -/
theorem O₀_pos {d : Dev nD} {g : GSem nD τ sig} {u : Unit} (h : 0 < O₀ d g u) : (∃ j, g = rc (pr d j) j) ∨ ∃ x, g = bar (nb x d) := by
  rw [O₀_apply] at h
  by_cases h1 : 0 < owedN d 0 g u
  · obtain ⟨j, -, hj⟩ := owedN_pos d h1
    exact Or.inl ⟨j, hj⟩
  · right
    by_contra hx
    simp only [not_exists] at hx
    rw [Finset.sum_eq_zero (fun x _ => if_neg (hx x))] at h
    omega

/-- The staging semaphores may be waited for under all that is ever owed. -/
theorem mayWait_stage (q : SemLoc sig) (hq : ∀ i, csem i ≠ q) (O : CellTallies nD τ sig Unit) (hO : O = O₀ c ∨ O = 0) :
    (levAts L lv : sProp 𝕄) ⊢ MayWait (c : Thread nD τ) q () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨x, rfl⟩ <;> exact Finset.mem_singleton_self _)
      (fun p hp => by
        rw [Finset.mem_singleton.mp hp]
        refine le_of_eq ?_
        show (match dec q with | none => 0 | some none => 1 | some (some (false, _)) => 0 | some (some (true, j)) => rl j) = _
        rw [dec_none hq])
      (fun g u hg => by
        rcases O₀_pos hg with ⟨j, rfl⟩ | ⟨x, rfl⟩
        · rw [show u = () from rfl, lv_r]; unfold rl; omega
        · rw [show u = () from rfl, lv_bar]; decide)
  · rw [MayWait_zero]; iintro -; iempintro

end Cert.KernelIdeal.Moe
-- ==== Proof.BodyEq.lean ====
module

public import proofs.«01_k».proof.Proof.Body

@[expose] public section

noncomputable section

namespace Cert.KernelIdeal.Moe

open Idealize.ShloMosaic Idealize.ShloMosaic.TcCoe Idealize.SL.Sem
open Cert.KernelIdeal.Gen

variable {F : FTy → Type} [FloatOps F]

set_option maxRecDepth 65536 in
/-- The printed body is the sequence of named steps. -/
theorem body_eq (t : Fin cfg0.N) : bodyAt0 (F := F) t = body (F := F) := by
  chain_rfl

end Cert.KernelIdeal.Moe
-- ==== Proof.Launch.lean ====
module

public import proofs.«01_k».proof.Proof.Start
public import proofs.«01_k».proof.Proof.BodyEq
public import Idealize.ShloMosaic.Lib.Pipeline.CollectiveSegs
public import Idealize.ShloMosaic.Lib.Pipeline.ValueKit

@[expose] public section

noncomputable section

/-! # The run -/

namespace Cert.KernelIdeal.Moe

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CI → ℕ) (c : Dev nD)

variable (m : (ℓ : Loc nD τ sig) → Buf (Elt F) ℓ) (ρ : Dev nD → PrngReg)

/-- The devices' inputs, as launched. -/
def inp : Inp F where
  x d := iblk m d 0 t0_0
  rw d := iblk m d 1 t0_0
  ix d := iblk m d 2 t0_0
  ew d := iblk m d 3 t0_0
  sw d := iblk m d 4 t0_0

/-- What a device's body starts with, its buffers apart. -/
def start : sProp 𝕄 :=
  iprop(G1 (inp m) c ∗ (cred (tallyAt (bar c) () 3) ∗ bigSep Finset.univ fun j => cred (tallyAt (rc c j) () (amt j))) ∗ levAts L lv)

def Φ₀ : sProp 𝕄 := iprop(start c m ∗ scr (F := F) c)
def Φ₁ : sProp 𝕄 :=
  iprop(semVal (bar c) 0 ∗ ((bigSep Finset.univ fun j => semVal (sc c j) 0) ∗ bigSep Finset.univ fun j => semVal (rc c j) 0) ∗ scr (F := F) c)

def dats (_ : Fin 1) (d : Dev nD) : Pipeline.Dat τ (Elt F) Unit ℕ UU ℕ cfg0 d where
  A w := m ((cfg0.win w).arr.view.loc (d : Thread nD τ))
  after w _ := match w with
    | ⟨0, _⟩ => (inp m).x d
    | ⟨1, _⟩ => (inp m).rw d
    | ⟨2, _⟩ => (inp m).ix d
    | ⟨3, _⟩ => (inp m).ew d
    | ⟨4, _⟩ => (inp m).sw d
    | ⟨5, _⟩ => OUT (inp m) d
  Φ t := match t with
    | ⟨0, _⟩ => Φ₀ d m
    | ⟨_ + 1, _⟩ => Φ₁ d
  q _ := fullShare
  owed t := match t with
    | ⟨0, _⟩ => O₀ d
    | ⟨_ + 1, _⟩ => 0

/-- Every window is held whole. -/
theorem share_eq (w : Fin cfg0.W) : (dats m 0 c).share w = fullShare := by unfold Pipeline.Dat.share; split <;> rfl

/-- A buffer with known contents, as ownership of all its elements. -/
theorem owns_any {s : Shape} {e : EltTy} (M : Memref sig .tc .vmem s e) (Y : s.Idx → Elt F e) :
    (owns (c : Thread nD τ) M fullShare Y : sProp 𝕄) ⊢ own c M fullShare Finset.univ Y := owns_own_univ c M fun _ => rfl

/-- Ownership of all its elements, as a buffer with known contents. -/
theorem any_owns {s : Shape} {e : EltTy} (M : Memref sig .tc .vmem s e) (Y : s.Idx → Elt F e) :
    (own c M fullShare Finset.univ Y : sProp 𝕄) ⊢ owns (c : Thread nD τ) M fullShare Y := own_owns_univ c M fun _ => rfl

/-- A location with some contents is a whole buffer with some contents. -/
theorem pts_owns (b : Ref sig .tc) : iprop(∃ f : Buf (Elt F) ((c : Thread nD τ).loc b), ((c : Thread nD τ).loc b) ↦{fullShare} f)
    = (iprop(∃ f, owns (c : Thread nD τ) (Memref.whole b) fullShare f) : sProp 𝕄) := by
  unfold owns
  simp only [Memref.view_whole, View.read_whole, View.set_whole]
  have h1 : iprop(∃ f : Buf (Elt F) ((c : Thread nD τ).loc b), ((c : Thread nD τ).loc b) ↦{fullShare} f)
      ⊢ (iprop(∃ (f g : Buf (Elt F) ((c : Thread nD τ).loc b)), ⌜g = f⌝ ∗ (((c : Thread nD τ).loc b) ↦{fullShare} g)) : sProp 𝕄) := by
    iintro ⟨%f, H⟩
    iexists f
    iexists f
    isplitr; · ipureintro; rfl
    iexact H
  have h2 : (iprop(∃ (f g : Buf (Elt F) ((c : Thread nD τ).loc b)), ⌜g = f⌝ ∗ (((c : Thread nD τ).loc b) ↦{fullShare} g)) : sProp 𝕄)
      ⊢ iprop(∃ f : Buf (Elt F) ((c : Thread nD τ).loc b), ((c : Thread nD τ).loc b) ↦{fullShare} f) := by
    iintro ⟨%f, %g, %h, H⟩
    iexists g
    iexact H
  exact Entails.antisymm h1 h2

/-- A whole buffer with some contents, as ownership of all its elements with no contents said. -/
theorem owns_junk {s : Shape} {e : EltTy} (M : Memref sig .tc .vmem s e) : (iprop(∃ f, owns (c : Thread nD τ) M fullShare f) : sProp 𝕄) = junk c M fullShare Finset.univ := by
  have h1 : (iprop(∃ f, owns (c : Thread nD τ) M fullShare f) : sProp 𝕄) ⊢ junk c M fullShare Finset.univ := by
    unfold junk
    iintro ⟨%f, H⟩
    iexists f
    iapply (owns_any c M f); iexact H
  have h2 : (junk c M fullShare Finset.univ : sProp 𝕄) ⊢ iprop(∃ f, owns (c : Thread nD τ) M fullShare f) := by
    unfold junk
    iintro ⟨%f, H⟩
    iexists f
    iapply (any_owns c M f); iexact H
  exact Entails.antisymm h1 h2

/-- The scratch buffers, at anything. -/
theorem scr_eq : (Pipeline.scopedRest (Ix := Unit) (Name := ℕ) (U := UU) (Lvl := ℕ) (Val := Elt F) spec0 c : sProp 𝕄) = scr c := by
  rw [scopedRest0_eq]
  unfold scr
  simp only [pts_owns]
  rw [← owns_junk c pM, ← owns_junk c gM, ← owns_junk c hM, ← owns_junk c a0M, ← owns_junk c a1M, ← owns_junk c a2M, ← owns_junk c b0M, ← owns_junk c b1M,
    ← owns_junk c b2M, ← owns_junk c c0M, ← owns_junk c c1M, ← owns_junk c c2M, ← owns_junk c gtM]
  rfl

/-- The first window holds the tokens. -/
theorem before_0 (d) : (dats m 0 c).before (0 : Fin 6) t0_0 d = (inp m).x c := by unfold Pipeline.Dat.before; rw [if_pos (fetch0_0 t0_0)]; rfl

/-- The second window holds the router. -/
theorem before_1 (d) : (dats m 0 c).before (1 : Fin 6) t0_0 d = (inp m).rw c := by unfold Pipeline.Dat.before; rw [if_pos (fetch0_1 t0_0)]; rfl

/-- The third window holds the experts' numbers. -/
theorem before_2 (d) : (dats m 0 c).before (2 : Fin 6) t0_0 d = (inp m).ix c := by unfold Pipeline.Dat.before; rw [if_pos (fetch0_2 t0_0)]; rfl

/-- The fourth window holds the device's experts. -/
theorem before_3 (d) : (dats m 0 c).before (3 : Fin 6) t0_0 d = (inp m).ew c := by unfold Pipeline.Dat.before; rw [if_pos (fetch0_3 t0_0)]; rfl

/-- The fifth window holds the shared expert. -/
theorem before_4 (d) : (dats m 0 c).before (4 : Fin 6) t0_0 d = (inp m).sw c := by unfold Pipeline.Dat.before; rw [if_pos (fetch0_4 t0_0)]; rfl

/-- The arrivals a device waits for, from its cells and its credit. -/
theorem pending_all (I : Inp F) : iprop((bigSep Finset.univ fun j => iprop(cellInv ER (Rd (Gc I)) (K (c, some (true, j))) (rc c j) ∗ atPos ER (rc c j) 0 ∅ 0))
      ∗ bigSep Finset.univ fun j => cred (tallyAt (rc c j) () (amt j)))
    ⊢ (bigSep Finset.univ (pending (Gc I) K c) : sProp 𝕄) := by
  rw [← bigSep_sep']
  have h (j : Tr) : iprop((cellInv ER (Rd (Gc I)) (K (c, some (true, j))) (rc c j) ∗ atPos ER (rc c j) 0 ∅ 0) ∗ cred (tallyAt (rc c j) () (amt j)))
      ⊢ (pending (Gc I) K c j : sProp 𝕄) := by
    unfold pending
    iintro ⟨⟨H1, H2⟩, H3⟩
    isplitl [H1]; · iexact H1
    isplitl [H2]; · iexact H2
    iexact H3
  exact bigSep_mono fun j _ => h j

set_option maxRecDepth 65536 in
/-- The body at its one point. -/
theorem body_obligation : Pipeline.BodyObligation (dats m 0 c) (defs₀ (F := F)) 𝒱₀ () Set.univ := fun t => by
  obtain rfl := fin_N0 t
  rw [bigSep_W0, bigSep_W0]
  show iprop(Φ₀ c m ∗ (dats m 0 c).owesAt () t0_0.castSucc
      ∗ (∃ d, owns (c : Thread nD τ) xM fullShare ((dats m 0 c).before (0 : Fin 6) t0_0 d))
      ∗ (∃ d, owns (c : Thread nD τ) rwM fullShare ((dats m 0 c).before (1 : Fin 6) t0_0 d))
      ∗ (∃ d, owns (c : Thread nD τ) ixM fullShare ((dats m 0 c).before (2 : Fin 6) t0_0 d))
      ∗ (∃ d, owns (c : Thread nD τ) ewM fullShare ((dats m 0 c).before (3 : Fin 6) t0_0 d))
      ∗ (∃ d, owns (c : Thread nD τ) swM fullShare ((dats m 0 c).before (4 : Fin 6) t0_0 d))
      ∗ (∃ d, owns (c : Thread nD τ) oM fullShare ((dats m 0 c).before (5 : Fin 6) t0_0 d)))
    ⊢ wpc c (bodyAt0 t0_0) (fun _ => iprop(Φ₁ c ∗ (dats m 0 c).owesAt () t0_0.succ
      ∗ owns (c : Thread nD τ) xM fullShare ((inp m).x c) ∗ owns (c : Thread nD τ) rwM fullShare ((inp m).rw c)
      ∗ owns (c : Thread nD τ) ixM fullShare ((inp m).ix c) ∗ owns (c : Thread nD τ) ewM fullShare ((inp m).ew c)
      ∗ owns (c : Thread nD τ) swM fullShare ((inp m).sw c) ∗ owns (c : Thread nD τ) oM fullShare (OUT (inp m) c)))
  rw [body_eq]
  simp only [before_0, before_1, before_2, before_3, before_4]
  unfold Φ₀ start G1 Pipeline.Dat.owesAt Pipeline.owesWithin
  rw [show (dats m 0 c).owed t0_0.castSucc = O₀ c from rfl, show (dats m 0 c).owed t0_0.succ = 0 from rfl]
  iintro ⟨⟨⟨⟨%K, HS, HR, HI, Hat, Ht⟩, ⟨HcB, HcR⟩, Hlev⟩, Hscr⟩, ⟨%W, -, HO⟩, ⟨%d0, H0⟩, ⟨%d1, H1⟩, ⟨%d2, H2⟩, ⟨%d3, H3⟩, ⟨%d4, H4⟩, ⟨%d5, H5⟩⟩
  unfold wpc
  iapply (wp_wand frame (wpE (defs₀ (F := F)) 𝒱₀ (c : Thread nD τ) none)) $$ [HS HR HI Hat Ht HcB HcR Hlev Hscr HO H0 H1 H2 H3 H4 H5]
  · iapply (body_ok (inp m) K c)
    isplitl [HS HR HI Hat Ht HcB HcR Hlev HO]
    · unfold BS
      isplitl [HO]; · iexists W; iexact HO
      isplitl [Hlev]; · iexact Hlev
      isplitl [HS]; · iexact HS
      isplitl [HR HcR]
      · iapply (pending_all K c (inp m))
        isplitl [HR]; · iexact HR
        iexact HcR
      isplitl [HI Hat HcB]
      · unfold barOwn
        isplitl [HI]; · iexact HI
        isplitl [Hat]; · iexact Hat
        iexact HcB
      iexact Ht
    isplitl [H0 H1 H2 H3 H4]
    · unfold ins
      isplitl [H0]; · iapply (owns_any c xM); iexact H0
      isplitl [H1]; · iapply (owns_any c rwM); iexact H1
      isplitl [H2]; · iapply (owns_any c ixM); iexact H2
      isplitl [H3]; · iapply (owns_any c ewM); iexact H3
      iapply (owns_any c swM); iexact H4
    isplitl [H5]
    · rw [← owns_junk c oM]
      iexists _; iexact H5
    iexact Hscr
  iintro %_ ⟨HB, Hin, Ho, Hscr⟩
  unfold BE ins Φ₁
  icases HB with ⟨⟨%W', HO⟩, Hb, HS, HR⟩
  icases Hin with ⟨H0, H1, H2, H3, H4⟩
  isplitl [Hb HS HR Hscr]
  · isplitl [Hb]; · iexact Hb
    isplitl [HS HR]
    · isplitl [HS]; · iexact HS
      iexact HR
    iexact Hscr
  isplitl [HO]
  · iexists W'
    isplitr; · ipureintro; exact fun _ _ => Or.inl trivial
    iexact HO
  isplitl [H0]; · iapply (any_owns c xM); iexact H0
  isplitl [H1]; · iapply (any_owns c rwM); iexact H1
  isplitl [H2]; · iapply (any_owns c ixM); iexact H2
  isplitl [H3]; · iapply (any_owns c ewM); iexact H3
  isplitl [H4]; · iapply (any_owns c swM); iexact H4
  iapply (any_owns c oM); iexact Ho

/-! ## The launch -/

/-- The kernel's own semaphores are distinct and none is a window's. -/
theorem ownSemFacts : Pipeline.OwnSemFacts cfg0.spec osem where
  isScoped := fun ⟨b, j⟩ => by cases b <;> cases j <;> rfl
  inj := fun a b h => Option.some_injective _ (csem_inj h)
  disj := by decide +kernel

/-- What the launch gives a device is what its body starts with. -/
theorem start_intro :
    iprop(Pipeline.unscopedRestP Pipeline.Prefetch.none cfg0.spec c (fun b => m ((c : Thread nD τ).loc b)) ∗ levAts L lv
        ∗ Pipeline.launchCred O₀ c ∗ prngReg c (ρ c) ∗ G1 (inp m) c)
      ⊢ |={Set.univ}=> iprop(start c m ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- The state before the body, from the start and the scratch buffers. -/
theorem phi0_intro :
    iprop(start c m ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ c m from rfl, scr_eq]
  unfold Φ₀
  iintro ⟨Hs, -, Hr⟩
  isplitl [Hs]; · iexact Hs
  iexact Hr

/-- The state after the body gives back the counters, at zero, and the scratch buffers. -/
theorem phi1_exit :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scr_eq, ownSems_eq, unscopedSems_eq]
  exact .rfl

/-- A window's semaphore is not one of the protocol's. -/
theorem stage_ne (w : Fin cfg0.W) (s : Fin (cfg0.spec w).nbuf) (i : CI) : csem i ≠ .dma ((cfg0.spec w).sem s) := by
  rcases i with _ | i
  · exact fun h => by cases h
  · exact ownSemFacts.disj i w s

set_option maxRecDepth 65536 in
/-- The windows' own waits are allowed at their levels. -/
theorem waits : (levAts L lv : sProp 𝕄) ⊢ Pipeline.cellsWaits cfgs (dats m) () 0 c :=
  Pipeline.cellsWaits_intro cfgs (dats m) () 0 c fun w s t =>
    mayWait_stage c _ (stage_ne w s) _ (by
      rcases t with ⟨_ | _, ht⟩
      · exact Or.inl rfl
      · exact Or.inr rfl)

set_option maxRecDepth 65536 in
/-- From any memory with zero counters, every weakly fair execution ends, with each device's arrays at their final
    contents and every semaphore counter at zero. -/
theorem run_arr : θ_run defs (onTc (τ := τ) (main (F := F))) ⟨m, fun _ => 0, ρ⟩ (fun r =>
    (∀ d : Dev nD, ∀ w : Fin cfg0.W, r.2.mem ((cfg0.win w).arr.view.loc (d : Thread nD τ)) = (dats m 0 d).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun d => body_obligation d m) (hne := block_pos0) (harr := arr_whole0) (hstage := stage_whole0) (hshare := fun d => share_eq d m)
    (hdistinct := winFacts0.arr_inj)
    (O₀ := O₀) (howed₀ := fun _ => rfl) (howedN := fun _ => rfl)
    (L := L) (lv := lv) (hL := L_of_ne) (hwaits := fun d => waits d m)
    (G := G0 (inp m)) (G' := G1 (inp m)) (u₀ := u₀)
    (hu₀ := by
      unfold u₀
      iintro Hu
      ihave H := (ownU_pair _ _) $$ Hu
      icases H with ⟨HP, HX⟩
      imod (fund_all (inp m)) $$ HX with HG
      imodintro
      isplitl [HP]; · iexact HP
      iexact HG)
    (hglob := glob (inp m))
    (hA := fun _ _ => rfl) (hpf := fun _ k => k.elim0)
    (X := fun d => start d m) (Y := fun d => unscopedSems0 d) (Z := fun _ => iprop(emp))
    (hX := fun d => start_intro d m ρ) (hin := fun d => phi0_intro d m) (hout := fun d => phi1_exit d m)
    (QY := fun d s => ∀ sm : SemLoc sig, sm.isScoped .tc = false → s.sem ((d.tc : Thread nD τ), sm) = 0)
    (hY := fun d s' => by
      iintro ⟨Hu, -, HSI⟩
      iapply (Pipeline.unscopedSems0_read (X := unscopedSems0 d) (c := d) fupd_intro s')
      isplitl [Hu]; · iexact Hu
      iexact HSI)
    (hQ := fun _ h hs => ⟨fun d w => (h d).1 w, sem_eq_zero hs fun d => (h d).2.2⟩)

/-! ## What the arrays hold -/

/-- The tokens are the first argument. -/
theorem inp_x : (inp m).x c = m ((c : Thread nD τ).loc main_arg0) := by
  funext j
  show m ((c : Thread nD τ).loc main_arg0) (((cfg0.win 0).blk t0_0).view.emb j) = _
  congr 1
  funext a
  exact Fin.ext (win0_0.rect_emb_val_of_index_zero t0_0 a rfl j)

/-- The router is the second argument. -/
theorem inp_rw : (inp m).rw c = m ((c : Thread nD τ).loc main_arg1) := by
  funext j
  show m ((c : Thread nD τ).loc main_arg1) (((cfg0.win 1).blk t0_0).view.emb j) = _
  congr 1
  funext a
  exact Fin.ext (win0_1.rect_emb_val_of_index_zero t0_0 a rfl j)

/-- The experts' numbers are the third argument. -/
theorem inp_ix : (inp m).ix c = m ((c : Thread nD τ).loc main_arg2) := by
  funext j
  show m ((c : Thread nD τ).loc main_arg2) (((cfg0.win 2).blk t0_0).view.emb j) = _
  congr 1
  funext a
  exact Fin.ext (win0_2.rect_emb_val_of_index_zero t0_0 a rfl j)

/-- The device's experts are the fourth argument. -/
theorem inp_ew : (inp m).ew c = m ((c : Thread nD τ).loc main_arg3) := by
  funext j
  show m ((c : Thread nD τ).loc main_arg3) (((cfg0.win 3).blk t0_0).view.emb j) = _
  congr 1
  funext a
  exact Fin.ext (win0_3.rect_emb_val_of_index_zero t0_0 a rfl j)

/-- The shared expert is the fifth argument. -/
theorem inp_sw : (inp m).sw c = m ((c : Thread nD τ).loc main_arg4) := by
  funext j
  show m ((c : Thread nD τ).loc main_arg4) (((cfg0.win 4).blk t0_0).view.emb j) = _
  congr 1
  funext a
  exact Fin.ext (win0_4.rect_emb_val_of_index_zero t0_0 a rfl j)

/-- After the run the result array holds the output. -/
theorem arr_out : (dats m 0 c).arrAt 5 cfg0.N = OUT (inp m) c := by
  refine (dats m 0 c).arrAt_eq_of_after_last 5 t0_0 (by decide +kernel) _ fun j => ?_
  blk_simp
  rfl

/-- From any memory with zero counters, every weakly fair execution ends, with every device's result computed from the
    launch memory, its arguments unchanged and every semaphore counter at zero. -/
theorem run_main : θ_run defs (onTc (τ := τ) (main (F := F))) ⟨m, fun _ => 0, ρ⟩ (fun r =>
    (∀ d : Dev nD, r.2.mem ((d : Thread nD τ).loc main_v1) = OUT (inp m) d
      ∧ r.2.mem ((d : Thread nD τ).loc main_arg0) = m ((d : Thread nD τ).loc main_arg0)
      ∧ r.2.mem ((d : Thread nD τ).loc main_arg1) = m ((d : Thread nD τ).loc main_arg1)
      ∧ r.2.mem ((d : Thread nD τ).loc main_arg2) = m ((d : Thread nD τ).loc main_arg2)
      ∧ r.2.mem ((d : Thread nD τ).loc main_arg3) = m ((d : Thread nD τ).loc main_arg3)
      ∧ r.2.mem ((d : Thread nD τ).loc main_arg4) = m ((d : Thread nD τ).loc main_arg4)) ∧ r.2.sem = fun _ => 0) :=
  (θ_run defs _ _).mono (fun r h => ⟨fun d => ⟨(h.1 d 5).trans (arr_out d m), (h.1 d 0).trans ((dats m 0 d).arrAt_in 0 rfl _),
    (h.1 d 1).trans ((dats m 0 d).arrAt_in 1 rfl _), (h.1 d 2).trans ((dats m 0 d).arrAt_in 2 rfl _),
    (h.1 d 3).trans ((dats m 0 d).arrAt_in 3 rfl _), (h.1 d 4).trans ((dats m 0 d).arrAt_in 4 rfl _)⟩, h.2⟩) (run_arr m ρ)

end Cert.KernelIdeal.Moe
-- ==== Proof.RefValue.lean ====
module

public import proofs.«01_k».proof.Proof.Gen.ReferenceIdeal.Run
public import Idealize.ShloMosaic.Lib.Pointwise
public import Idealize.ShloMosaic.Lib.IdealHost

@[expose] public section

noncomputable section

namespace Cert.ReferenceIdeal.Moe

open Cert.ReferenceIdeal Cert.ReferenceIdeal.Gen Idealize.ShloMosaic

variable (x : FVec Ideal S1024x512 .f32) (rw : FVec Ideal S512x32 .f32) (ix : IVec S1024x1 32)
  (ew : FVec Ideal S32x512x1024 .f32) (sw : FVec Ideal S512x1024 .f32)

/-- The router's scores. -/
def scores : FVec Ideal S1024x32 .f32 := Host.dotGeneral dot_S1024x512_S512x32_S1024x32_1_0_0_1_n_n none x rw
/-- A column of 1024 numbers from a vector of them. -/
def col {α : Type} (v : S1024.Idx → α) : S1024x1.Idx → α := broadcastInDim S1024x1 ![0] bcast_S1024_S1024x1_0 v
/-- The scores' exponentials, less each row's maximum. -/
def expd (s : FVec Ideal S1024x32 .f32) : FVec Ideal S1024x32 .f32 :=
  Host.exp (subf s (broadcastInDim S1024x32 ![0, 1] bcast_S1024x1_S1024x32_0_1
    (col (Host.reduce FloatOps.maximumf s (constant S_ .f32 0xFF800000#32) reducesTo_S1024x32_S1024_d1 h_S_))))
/-- The router's probabilities. -/
def probs (s : FVec Ideal S1024x32 .f32) : FVec Ideal S1024x32 .f32 :=
  Host.divf (expd s) (broadcastInDim S1024x32 ![0, 1] bcast_S1024x1_S1024x32_0_1
    (col (Host.reduceAdd (expd s) (constant S_ .f32 0x00000000#32) reducesTo_S1024x32_S1024_d1 h_S_)))
/-- Each token's expert. -/
def route : IVec S1024 32 := shapeCast S1024 ix shapeCasts_S1024x1_S1024
/-- Each token's number beside its expert. -/
def pairs : IVec S1024x2 32 := Value.fn_main_v15 (F := Ideal) (col (iotaInDim S1024 32 0)) (col (route ix))
/-- Whether a token's pair of numbers is inside the table of probabilities. -/
def inTable : IVec S1024 1 :=
  Host.reduce IntOp.andi
    (andi (cmpi .sge (pairs ix) (broadcastInDim S1024x2 ![] bcast_S_S1024x2 (constantI S_ 32 0#32)))
      (cmpi .sle (pairs ix) (broadcastInDim S1024x2 ![0, 1] bcast_S1x2_S1024x2_0_1
        (broadcastInDim S1x2 ![1] bcast_S2_S1x2_1 fun i => lit0 (S2.rowMajor i)))))
    (constantI S_ 1 1#1) reducesTo_S1024x2_S1024_d1 h_S_
/-- Each token's probability of its expert, zero where there is no such expert. -/
def gate (p : FVec Ideal S1024x32 .f32) : FVec Ideal S1024 .f32 :=
  select (inTable ix) (Host.gather gather_S1024x32_S1024x2_S1024_n_01_n_n_01_1_11 p (pairs ix))
    (broadcastInDim S1024 ![] bcast_S_S1024 (constant S_ .f32 0x00000000#32))
/-- Whether a token's expert is one of the 32. -/
def isExpert : IVec S1024 1 :=
  Host.reduce IntOp.andi
    (andi (cmpi .sge (col (route ix)) (broadcastInDim S1024x1 ![] bcast_S_S1024x1 (constantI S_ 32 0#32)))
      (cmpi .sle (col (route ix)) (broadcastInDim S1024x1 ![0, 1] bcast_S1x1_S1024x1_0_1
        (broadcastInDim S1x1 ![1] bcast_S1_S1x1_1 (constantI S1 32 31#32)))))
    (constantI S_ 1 1#1) reducesTo_S1024x1_S1024_d1 h_S_
/-- Each token's expert's weights, zero where there is no such expert. -/
def weights : FVec Ideal S1024x512x1024 .f32 :=
  select (broadcastInDim S1024x512x1024 ![0] bcast_S1024_S1024x512x1024_0 (isExpert ix))
    (Host.gather gather_S32x512x1024_S1024x1_S1024x512x1024_12_0_n_n_0_1_15121024 ew (col (route ix)))
    (broadcastInDim S1024x512x1024 ![] bcast_S_S1024x512x1024 (constant S_ .f32 0x00000000#32))
/-- The reference's result. -/
def result : FVec Ideal S1024x1024 .f32 :=
  addf (Host.dotGeneral dot_S1024x512_S512x1024_S1024x1024_1_0_0_1_n_n none x sw)
    (mulf (broadcastInDim S1024x1024 ![0, 1] bcast_S1024x1_S1024x1024_0_1 (col (gate ix (probs (scores x rw)))))
      (Host.dotGeneral dot_S1024x512_S1024x512x1024_S1024x1024_1_1_n_2_0_0 none x (weights ix ew)))

open Idealize.ShloMosaic.TcCoe Idealize.SL.Sem in
/-- The reference runs, and its result is `result` of its arguments. -/
theorem run_main (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42)
          = result (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Value.run (F := Ideal) m ρ)

/-- A score is the product of a token and a column of the router. -/
theorem scores_apply (r : Fin 1024) (e : Fin 32) :
    scores x rw (ix2 r e) = ∑ d : Fin 512, x (ix2 r d) * rw (ix2 d e) := by
  pointwise [scores]

/-- A row's exponentials over their sum. -/
theorem probs_apply (s : FVec Ideal S1024x32 .f32) (r : Fin 1024) (e : Fin 32) :
    probs s (ix2 r e) = Ideal.div (Ideal.exp (s (ix2 r e) - Finset.univ.fold max (Ideal.ofBits .f32 0xFF800000#32) fun k => s (ix2 r k)))
      (∑ j, Ideal.exp (s (ix2 r j) - Finset.univ.fold max (Ideal.ofBits .f32 0xFF800000#32) fun k => s (ix2 r k))) := by
  pointwise [probs, expd, col]

/-- A token's expert, out of the column. -/
theorem route_apply (r : Fin 1024) : route ix (ix1 r) = ix (ix2 r 0) := by
  pointwise [route]

/-- The first of a pair is the token's number. -/
theorem pairs_zero (r : Fin 1024) : pairs ix (ix2 r 0) = BitVec.ofNat 32 r := by
  pointwise [pairs, Value.fn_main_v15, col, route]

/-- The second of a pair is the token's expert. -/
theorem pairs_one (r : Fin 1024) : pairs ix (ix2 r 1) = ix (ix2 r 0) := by
  pointwise [pairs, Value.fn_main_v15, col, route]

/-- The gather that takes a number out of the table at a pair of numbers. -/
abbrev G2 := gather_S1024x32_S1024x2_S1024_n_01_n_n_01_1_11
/-- The gather that takes an expert's weights at a number. -/
abbrev G := gather_S32x512x1024_S1024x1_S1024x512x1024_12_0_n_n_0_1_15121024

/-- The pair of a token is read in its own row. -/
theorem siIdx2 (r : Fin 1024) (k : Fin 2) : G2.siIdx (ix1 r) k = ix2 r k := by
  funext b
  apply Fin.ext
  match b with
  | ⟨0, _⟩ =>
    show (G2.siIdx (ix1 r) k (0 : Fin 2) : ℕ) = r
    unfold GatherDims.siIdx GatherDims.siCoord
    rw [dif_neg (show ¬ ((0 : Fin 2) : ℕ) = G2.indexVectorDim by decide)]
    rfl
  | ⟨1, _⟩ => rfl

/-- The table is read at the pair, each number brought within its range. -/
theorem gather_pairs (p : FVec Ideal S1024x32 .f32) (q : IVec S1024x2 32) (r : Fin 1024) :
    Host.gather gather_S1024x32_S1024x2_S1024_n_01_n_n_01_1_11 p q (ix1 r)
      = p (ix2 (⟨min (q (ix2 r 0)).toInt.toNat 1023, by omega⟩ : Fin 1024) (⟨min (q (ix2 r 1)).toInt.toNat 31, by omega⟩ : Fin 32)) := by
  unfold Host.gather
  refine congrArg p (funext fun a => Fin.ext ?_)
  show G2.start (ix1 r) q a + G2.batchCoord (ix1 r) a + G2.offCoord (ix1 r) a = _
  rw [G2.batchCoord_eq_zero _ _ (by revert a; decide), G2.offCoord_eq_zero _ _ (by revert a; decide)]
  unfold GatherDims.start
  rw [dif_pos (by revert a; decide)]
  match a with
  | ⟨0, _⟩ => exact congrArg (fun y => min (q y).toInt.toNat 1023) (siIdx2 r 0)
  | ⟨1, _⟩ => exact congrArg (fun y => min (q y).toInt.toNat 31) (siIdx2 r 1)

/-- The number of a token is read in its own row. -/
theorem siIdx3 (r : Fin 1024) (d : Fin 512) (j : Fin 1024) (k : Fin 1) : G.siIdx (ix3 r d j) k = ix2 r k := by
  funext b
  apply Fin.ext
  match b with
  | ⟨0, _⟩ =>
    show (G.siIdx (ix3 r d j) k (0 : Fin 2) : ℕ) = r
    unfold GatherDims.siIdx GatherDims.siCoord
    rw [dif_neg (show ¬ ((0 : Fin 2) : ℕ) = G.indexVectorDim by decide)]
    rfl
  | ⟨1, _⟩ => rfl

/-- The weights are read at the number, brought within its range. -/
theorem gather_experts (q : IVec S1024x1 32) (r : Fin 1024) (d : Fin 512) (j : Fin 1024) :
    Host.gather gather_S32x512x1024_S1024x1_S1024x512x1024_12_0_n_n_0_1_15121024 ew q (ix3 r d j)
      = ew (ix3 (⟨min (q (ix2 r 0)).toInt.toNat 31, by omega⟩ : Fin 32) d j) := by
  unfold Host.gather
  refine congrArg ew (funext fun a => Fin.ext ?_)
  show G.start (ix3 r d j) q a + G.batchCoord (ix3 r d j) a + G.offCoord (ix3 r d j) a = _
  rw [G.batchCoord_eq_zero _ _ (by revert a; decide)]
  match a with
  | ⟨0, _⟩ =>
    show G.start (ix3 r d j) q (0 : Fin 3) + 0 + G.offCoord (ix3 r d j) (0 : Fin 3) = _
    unfold GatherDims.start GatherDims.offCoord
    rw [dif_pos (show (0 : Fin 3) ∈ G.startIndexMap by decide), dif_neg (show (0 : Fin 3) ∉ G.sKept by decide)]
    exact congrArg (fun y => min (q y).toInt.toNat 31) (siIdx3 r d j 0)
  | ⟨1, _⟩ =>
    show G.start (ix3 r d j) q (1 : Fin 3) + 0 + G.offCoord (ix3 r d j) (1 : Fin 3) = _
    unfold GatherDims.start GatherDims.offCoord
    rw [dif_neg (show (1 : Fin 3) ∉ G.startIndexMap by decide), dif_pos (show (1 : Fin 3) ∈ G.sKept by decide)]
    exact Nat.zero_add _
  | ⟨2, _⟩ =>
    show G.start (ix3 r d j) q (2 : Fin 3) + 0 + G.offCoord (ix3 r d j) (2 : Fin 3) = _
    unfold GatherDims.start GatherDims.offCoord
    rw [dif_neg (show (2 : Fin 3) ∉ G.startIndexMap by decide), dif_pos (show (2 : Fin 3) ∈ G.sKept by decide)]
    exact Nat.zero_add _

/-- A small word is not negative. -/
theorem toInt_small {w : BitVec 32} (h : w.toNat < 32) : w.toInt = w.toNat := by
  rw [BitVec.toInt_eq_toNat_cond, if_pos (by omega)]

/-- A word is from 0 to 31 exactly when it is below 32 as a natural number. -/
theorem mask_apply (w : BitVec 32) : IntOp.andi (IntOp.cmpi CmpIPredicate.sge w 0#32)
        (IntOp.cmpi CmpIPredicate.sle w 31#32) = if w.toNat < 32 then 1#1 else 0#1 := by
  have h : (BitVec.sle 0#32 w && BitVec.sle w 31#32) = decide (w.toNat < 32) := by
    rw [BitVec.sle_eq_decide, BitVec.sle_eq_decide, BitVec.toInt_eq_toNat_cond (x := w), ← Bool.decide_and]
    congr 1
    show ((0:ℤ) ≤ _ ∧ _ ≤ (31 : ℤ)) = _
    have := w.isLt
    split <;> (apply propext; omega)
  simp only [IntOp.cmpi, IntOp.andi]
  revert h
  generalize BitVec.sle 0#32 w = a
  generalize BitVec.sle w 31#32 = b
  by_cases hw : w.toNat < 32 <;> simp only [hw, if_true, if_false, decide_true, decide_false] <;> revert a b <;> decide

/-- A bit and one is the bit. -/
theorem andi_one (b : BitVec 1) : IntOp.andi b 1#1 = b := by
  revert b; decide

/-- One and a bit is the bit. -/
theorem one_andi (b : BitVec 1) : IntOp.andi 1#1 b = b := by
  revert b; decide

/-- Two bits and a third, written out. -/
theorem fold_two (g : Fin 2 → BitVec 1) (b : BitVec 1) :
    Finset.univ.fold IntOp.andi b g = IntOp.andi (g 0) (IntOp.andi (g 1) b) := rfl

/-- A token's number is in the table. -/
theorem row_mask (r : Fin 1024) : IntOp.andi (IntOp.cmpi CmpIPredicate.sge (BitVec.ofNat 32 r) 0#32)
    (IntOp.cmpi CmpIPredicate.sle (BitVec.ofNat 32 r) 1023#32) = 1#1 := by
  revert r; decide +kernel

/-- A token's pair is in the table exactly when its expert is one of the 32. -/
theorem inTable_apply (r : Fin 1024) : inTable ix (ix1 r) = if (ix (ix2 r 0)).toNat < 32 then 1#1 else 0#1 := by
  pointwise [inTable, pairs, Value.fn_main_v15, col, route]
  rw [fold_two, ← mask_apply]
  refine (congrArg₂ IntOp.andi (row_mask r) (andi_one _)).trans ?_
  exact one_andi _

/-- Whether a token's expert is one of the 32. -/
theorem isExpert_apply (r : Fin 1024) : isExpert ix (ix1 r) = if (ix (ix2 r 0)).toNat < 32 then 1#1 else 0#1 := by
  pointwise [isExpert, col, route]
  rw [← mask_apply]
  exact andi_one _

/-- A result is the shared product and the gated product of the token's weights. -/
theorem result_apply (r : Fin 1024) (j : Fin 1024) : result x rw ix ew sw (ix2 r j) =
    ∑ k, x (ix2 r k) * sw (ix2 k j) + gate ix (probs (scores x rw)) (ix1 r) * ∑ k, x (ix2 r k) * weights ix ew (ix3 r k j) := by
  pointwise [result, col]

/-- The gate of a token whose expert is one of the 32 is that expert's probability, else zero. -/
theorem gate_apply (p : FVec Ideal S1024x32 .f32) (r : Fin 1024) : gate ix p (ix1 r) =
    if h : (ix (ix2 r 0)).toNat < 32 then p (ix2 r ⟨_, h⟩) else 0 := by
  show (if inTable ix (ix1 r) = 1#1 then Host.gather G2 p (pairs ix) (ix1 r) else _) = _
  have e0 : (pairs ix (ix2 r 0)).toInt.toNat = r := by
    rw [pairs_zero]; revert r; decide +kernel
  rw [inTable_apply, gather_pairs]
  by_cases h : (ix (ix2 r 0)).toNat < 32
  · rw [if_pos h, if_pos rfl, dif_pos h]
    refine congrArg p (congrArg₂ ix2 (Fin.ext ?_) (Fin.ext ?_))
    · show min (pairs ix (ix2 r 0)).toInt.toNat 1023 = (r : ℕ)
      rw [e0]; omega
    · show min (pairs ix (ix2 r 1)).toInt.toNat 31 = (ix (ix2 r 0)).toNat
      rw [pairs_one, toInt_small h]; omega
  · rw [if_neg h, if_neg (by decide), dif_neg h]
    exact Ideal.ofBits_zero_f32

/-- The weights of a token whose expert is one of the 32 are that expert's, else zero. -/
theorem weights_apply (r : Fin 1024) (d : Fin 512) (j : Fin 1024) : weights ix ew (ix3 r d j) =
    if h : (ix (ix2 r 0)).toNat < 32 then ew (ix3 ⟨_, h⟩ d j) else 0 := by
  have hc : col (route ix) (ix2 r 0) = ix (ix2 r 0) := by pointwise [col, route]
  have hm : broadcastInDim S1024x512x1024 ![0] bcast_S1024_S1024x512x1024_0 (isExpert ix) (ix3 r d j) = isExpert ix (ix1 r) := by
    pointwise
  show (if broadcastInDim S1024x512x1024 ![0] bcast_S1024_S1024x512x1024_0 (isExpert ix) (ix3 r d j) = 1#1
    then Host.gather G ew (col (route ix)) (ix3 r d j) else _) = _
  rw [gather_experts, hm, isExpert_apply]
  by_cases h : (ix (ix2 r 0)).toNat < 32
  · rw [if_pos h, if_pos rfl, dif_pos h]
    refine congrArg (fun e => ew (ix3 e d j)) (Fin.ext ?_)
    show min (col (route ix) (ix2 r 0)).toInt.toNat 31 = (ix (ix2 r 0)).toNat
    rw [hc, toInt_small h]; omega
  · rw [if_neg h, if_neg (by decide), dif_neg h]
    exact Ideal.ofBits_zero_f32

/-- The result at a token and a column: the shared product, and the product with the token's expert
times its probability, or zero where there is no such expert. -/
theorem result_eq (r : Fin 1024) (j : Fin 1024) : result x rw ix ew sw (ix2 r j) =
    ∑ d, x (ix2 r d) * sw (ix2 d j) + if h : (ix (ix2 r 0)).toNat < 32 then
      probs (scores x rw) (ix2 r ⟨_, h⟩) * ∑ d, x (ix2 r d) * ew (ix3 ⟨_, h⟩ d j) else 0 := by
  rw [result_apply, gate_apply]
  congr 1
  by_cases h : (ix (ix2 r 0)).toNat < 32
  · simp only [weights_apply, dif_pos h]
  · simp only [weights_apply, dif_neg h, zero_mul]

end Cert.ReferenceIdeal.Moe
-- ==== Proof.IdealVal.lean ====
module

public import proofs.«01_k».proof.Proof.Vals
public import proofs.«01_k».proof.Proof.RefValue

@[expose] public section

noncomputable section

/-! # The result over the extended reals

Over the extended reals the roundings are the identity and sums may be regrouped, so the blocks, the exchanges and the
gather come to one sum over the 32 experts, of which a token's expert alone is not zero: the reference's result. -/

namespace Cert.KernelIdeal.Moe

open Cert.KernelIdeal.Gen
open Idealize.ShloMosaic Idealize.ShloMosaic.TcCoe

/-! ## Words -/

/-- Choosing by an equality of words. -/
theorem select_eq_word {α : Type} (a b : BitVec 32) (x y : α) :
    Scalar.select (IntOp.cmpi CmpIPredicate.eq a b) x y = if a = b then x else y := by
  by_cases h : a = b
  · subst h; simp [Scalar.select, IntOp.cmpi]
  · rw [if_neg h]
    have h' : IntOp.cmpi CmpIPredicate.eq a b = 0#1 := by
      show BitVec.ofBool (a == b) = 0#1
      rw [beq_eq_false_iff_ne.mpr h]; rfl
    rw [h']
    exact if_neg (by decide)

/-- A sum over the 32 experts in which a word picks one, or none. -/
theorem sum_pick (w : BitVec 32) (f : Fin 32 → EReal) :
    (∑ e : Fin 32, if w = BitVec.ofNat 32 e then f e else 0) = if h : w.toNat < 32 then f ⟨_, h⟩ else 0 := by
  by_cases h : w.toNat < 32
  · rw [dif_pos h, Finset.sum_eq_single (⟨w.toNat, h⟩ : Fin 32)]
    · exact if_pos (by simp)
    · intro e _ he
      refine if_neg fun hw => he (Fin.ext ?_)
      have := e.isLt
      show (e : ℕ) = w.toNat
      rw [hw, BitVec.toNat_ofNat, Nat.mod_eq_of_lt (by omega)]
    · exact fun h' => absurd (Finset.mem_univ _) h'
  · rw [dif_neg h]
    refine Finset.sum_eq_zero fun e _ => if_neg fun hw => h ?_
    have := e.isLt
    rw [hw, BitVec.toNat_ofNat, Nat.mod_eq_of_lt (by omega)]; omega

/-- The word a device compares a token's expert with for its `k`-th expert. -/
theorem expert_word (c : Dev nD) (k : Fin 4) :
    Scalar.addi (Scalar.muli (v2 c) 4#32) (BitVec.ofNat 32 k) = BitVec.ofNat 32 (4 * c.val + k) := by
  revert c k; decide +kernel

/-! ## Indices -/

/-- The index of a row and a column, from those themselves. -/
theorem ix2_eq {n0 n1 : ℕ} [NeZero n0] [NeZero n1] {r k : ℕ} (a : Fin n0) (b : Fin n1) (h0 : r % n0 = a) (h1 : k % n1 = b) :
    (ix2 r k : (⟨2, ![n0, n1]⟩ : Shape).Idx) = Idealize.ShloMosaic.ix2 a b :=
  idx_ext h0 h1

variable (I : Inp Ideal) (c : Dev nD)

/-- Rounding a token changes nothing. -/
theorem hV_apply (r : Fin 1024) (d : Fin 512) : hV I c (Idealize.ShloMosaic.ix2 r d) = I.x c (Idealize.ShloMosaic.ix2 r d) := by
  pointwise [hV, k0_pay2, k0_pay1]

/-- The gate: the probability of the token's expert, or zero where there is no such expert. -/
theorem gV_apply (r : Fin 1024) : gV I c (Idealize.ShloMosaic.ix2 r 0) =
    if h : (I.ix c (Idealize.ShloMosaic.ix2 r 0)).toNat < 32 then
      Cert.ReferenceIdeal.Moe.probs (Cert.ReferenceIdeal.Moe.scores (I.x c) (I.rw c)) (Idealize.ShloMosaic.ix2 r ⟨_, h⟩) else 0 := by
  rw [← sum_pick (I.ix c (Idealize.ShloMosaic.ix2 r 0))
    fun e => Cert.ReferenceIdeal.Moe.probs (Cert.ReferenceIdeal.Moe.scores (I.x c) (I.rw c)) (Idealize.ShloMosaic.ix2 r e)]
  pointwise [gV, k0_pay4, k0_pay3, k0_pay1]
  simp only [Cert.ReferenceIdeal.Moe.probs_apply, Cert.ReferenceIdeal.Moe.scores_apply, select_eq_word, eq_comm (b := I.ix c _)]

/-! ## A block -/

/-- Four experts' terms for a token, by their weights' columns. -/
def sum4 (v w : BitVec 32) (g : EReal) (x w0 w1 w2 w3 : Fin 512 → EReal) : EReal :=
  Scalar.select (IntOp.cmpi CmpIPredicate.eq w (Scalar.addi (Scalar.muli v 4#32) 0#32)) (g * ∑ d, x d * w0 d) 0
    + Scalar.select (IntOp.cmpi CmpIPredicate.eq w (Scalar.addi (Scalar.muli v 4#32) 1#32)) (g * ∑ d, x d * w1 d) 0
    + Scalar.select (IntOp.cmpi CmpIPredicate.eq w (Scalar.addi (Scalar.muli v 4#32) 2#32)) (g * ∑ d, x d * w2 d) 0
    + Scalar.select (IntOp.cmpi CmpIPredicate.eq w (Scalar.addi (Scalar.muli v 4#32) 3#32)) (g * ∑ d, x d * w3 d) 0

/-- The local sum of device `c`'s four experts at a token and a column. -/
def mine (r j : Fin 1024) : EReal :=
  ∑ k : Fin 4, if I.ix c (Idealize.ShloMosaic.ix2 r 0) = BitVec.ofNat 32 (4 * c.val + k) then
    gV I c (Idealize.ShloMosaic.ix2 r 0) * ∑ d : Fin 512, I.x c (Idealize.ShloMosaic.ix2 r d) * I.ew c (ix3 k d j) else 0

/-- The columns of the weights a block reads. -/
theorem ewb_apply {W : ℕ} (k : Fin 4) (col : ℕ) (hcol : col + W ≤ 1024) (d : Fin 512) (j : Fin W) :
    ewb I c (W := W) k col k.isLt hcol (ix3 0 d j) = I.ew c (ix3 k d (⟨col + j, by omega⟩ : Fin 1024)) := by
  unfold ewb
  congr 1
  funext a
  refine Fin.ext ?_
  rw [Rect.emb_apply]
  fin_cases a
  · show (k : ℕ) + 1 * 0 = k; omega
  · show 0 + 1 * (d : ℕ) = d; omega
  · show col + 1 * (j : ℕ) = col + j; omega

/-- The local sum at equal rows and columns. -/
theorem mine_congr {r r' j j' : Fin 1024} (h0 : (r : ℕ) = r') (h1 : (j : ℕ) = j') : mine I c r j = mine I c r' j' := by
  rw [Fin.ext h0, Fin.ext h1]

/-- A block's four terms are the local sum. -/
theorem sum4_mine {W : ℕ} (col : ℕ) (hcol : col + W ≤ 1024) (r i : ℕ) (h : r + i < 1024) (j : Fin W) :
    sum4 (v2 c) (I.ix c (ix2 (r + i) (0 + 0))) (gV I c (ix2 (r + i) (0 + 0))) (fun d => hV I c (ix2 (r + i) (0 + d)))
      (fun d => ewb I c 0 col (by decide) hcol (ix3 0 d j)) (fun d => ewb I c 1 col (by decide) hcol (ix3 0 d j))
      (fun d => ewb I c 2 col (by decide) hcol (ix3 0 d j)) (fun d => ewb I c 3 col (by decide) hcol (ix3 0 d j))
      = mine I c ⟨r + i, h⟩ ⟨col + j, by omega⟩ := by
  have e0 : (ix2 (r + i) (0 + 0) : S1024x1.Idx) = Idealize.ShloMosaic.ix2 (⟨r + i, h⟩ : Fin 1024) 0 :=
    ix2_eq (n0 := 1024) (n1 := 1) _ _ (Nat.mod_eq_of_lt h) rfl
  have e1 : ∀ d : Fin 512, (ix2 (r + i) (0 + (d : ℕ)) : S1024x512.Idx) = Idealize.ShloMosaic.ix2 (⟨r + i, h⟩ : Fin 1024) d :=
    fun d => ix2_eq (n0 := 1024) (n1 := 512) _ _ (Nat.mod_eq_of_lt h) (by have := d.isLt; omega)
  unfold sum4 mine
  rw [Fin.sum_univ_four]
  simp only [e0, e1, hV_apply, select_eq_word]
  rw [← expert_word c 0, ← expert_word c 1, ← expert_word c 2, ← expert_word c 3]
  simp only [← ewb_apply (W := W) I c _ col hcol]
  rfl

/-- A block of 512 rows. -/
theorem blk512_apply (col : ℕ) (hcol : col + 384 ≤ 1024) (r : ℕ) (hr : r + 512 ≤ 1024) (i : Fin 512) (j : Fin 384) :
    blk512 I c col hcol r (Idealize.ShloMosaic.ix2 i j) = mine I c ⟨r + i, by omega⟩ ⟨col + j, by omega⟩ := by
  rw [← sum4_mine I c col hcol r i (by omega) j]
  pointwise [blk512, blk, compVal, compTerm, sum4]

/-- A block of 256 rows. -/
theorem blk256_apply (col : ℕ) (hcol : col + 384 ≤ 1024) (r : ℕ) (hr : r + 256 ≤ 1024) (i : Fin 256) (j : Fin 384) :
    blk256 I c col hcol r (Idealize.ShloMosaic.ix2 i j) = mine I c ⟨r + i, by omega⟩ ⟨col + j, by omega⟩ := by
  rw [← sum4_mine I c col hcol r i (by omega) j]
  pointwise [blk256, blk, compVal, compTerm, sum4]

/-- A block of 128 rows. -/
theorem blk128_apply (r : ℕ) (hr : r + 128 ≤ 1024) (i : Fin 128) (j : Fin 256) :
    blk128 I c r (Idealize.ShloMosaic.ix2 i j) = mine I c ⟨r + i, by omega⟩ ⟨768 + j, by omega⟩ := by
  rw [← sum4_mine I c 768 (by decide) r i (by omega) j]
  pointwise [blk128, blk, compVal, compTerm, sum4]

/-- The local sum, whichever block it was computed in. -/
theorem P0_apply (r j : Fin 1024) : P0 I c (Idealize.ShloMosaic.ix2 r j) = mine I c r j := by
  have hr := r.isLt
  have hj := j.isLt
  have hb : b4 c < 2 := by have := ell_lt c; show ell c / 4 < 2; omega
  unfold P0
  by_cases h1 : (j : ℕ) < 384
  · refine (if_pos h1).trans ?_
    by_cases h2 : (r : ℕ) / 512 = b4 c
    · refine (if_pos h2).trans ?_
      refine (congrArg (blk512 I c 0 (by decide) (512 * b4 c)) (ix2_eq (n0 := 512) (n1 := 384) (⟨r % 512, by omega⟩ : Fin 512) (⟨j, h1⟩ : Fin 384) rfl (Nat.mod_eq_of_lt h1))).trans ?_
      rw [blk512_apply I c _ _ _ (by omega)]
      exact mine_congr I c (by show 512 * b4 c + (r : ℕ) % 512 = r; omega) (Nat.zero_add _)
    · refine (if_neg h2).trans ?_
      refine (congrArg (blk256 I c 0 (by decide) (256 * ((r : ℕ) / 256))) (ix2_eq (n0 := 256) (n1 := 384) (⟨r % 256, by omega⟩ : Fin 256) (⟨j, h1⟩ : Fin 384) rfl (Nat.mod_eq_of_lt h1))).trans ?_
      rw [blk256_apply I c _ _ _ (by omega)]
      exact mine_congr I c (by show 256 * ((r : ℕ) / 256) + (r : ℕ) % 256 = r; omega) (Nat.zero_add _)
  · refine (if_neg h1).trans ?_
    by_cases h2 : (j : ℕ) < 768
    · refine (if_pos h2).trans ?_
      refine (congrArg (blk256 I c 384 (by decide) (256 * ((r : ℕ) / 256))) (ix2_eq (n0 := 256) (n1 := 384) (⟨r % 256, by omega⟩ : Fin 256) (⟨j - 384, by omega⟩ : Fin 384) rfl (Nat.mod_eq_of_lt (by omega)))).trans ?_
      rw [blk256_apply I c _ _ _ (by omega)]
      exact mine_congr I c (by show 256 * ((r : ℕ) / 256) + (r : ℕ) % 256 = r; omega) (by show 384 + ((j : ℕ) - 384) = j; omega)
    · refine (if_neg h2).trans ?_
      refine (congrArg (blk128 I c (128 * ((r : ℕ) / 128))) (ix2_eq (n0 := 128) (n1 := 256) (⟨r % 128, by omega⟩ : Fin 128) (⟨j - 768, by omega⟩ : Fin 256) rfl (Nat.mod_eq_of_lt (by omega)))).trans ?_
      rw [blk128_apply I c _ (by omega)]
      exact mine_congr I c (by show 128 * ((r : ℕ) / 128) + (r : ℕ) % 128 = r; omega) (by show 768 + ((j : ℕ) - 768) = j; omega)

/-! ## The exchanges -/

/-- A device and those its three exchanges reach are all eight. -/
theorem eight (g : Fin 3) (c : Dev nD) : (Finset.univ : Finset (Dev nD)).val =
    c ::ₘ nb (axs g 0) c ::ₘ nb (axs g 1) c ::ₘ nb (axs g 0) (nb (axs g 1) c) ::ₘ nb (axs g 2) c ::ₘ nb (axs g 0) (nb (axs g 2) c)
      ::ₘ nb (axs g 1) (nb (axs g 2) c) ::ₘ nb (axs g 0) (nb (axs g 1) (nb (axs g 2) c)) ::ₘ 0 := by
  revert g c; decide +kernel

/-- After three exchanges a device has the sum of all eight devices' local sums. -/
theorem P3_apply (r j : Fin 1024) : P I 3 c (Idealize.ShloMosaic.ix2 r j) = ∑ d : Dev nD, mine I d r j := by
  have hP : ∀ s d, P I (s + 1) d (Idealize.ShloMosaic.ix2 r j)
      = (P I s d (Idealize.ShloMosaic.ix2 r j) + P I s (nb (axs (grp (j : ℕ)) s) d) (Idealize.ShloMosaic.ix2 r j) : EReal) := fun _ _ => rfl
  have h0 : ∀ d, P I 0 d (Idealize.ShloMosaic.ix2 r j) = mine I d r j := fun d => P0_apply I d r j
  rw [hP 2, hP 1, hP 1, hP 0, hP 0, hP 0, hP 0]
  simp only [h0]
  rw [Finset.sum, eight (grp (j : ℕ)) c]
  simp only [Multiset.map_cons, Multiset.sum_cons, Multiset.map_zero, Multiset.sum_zero, add_zero, add_assoc]

/-- The shared expert's product. -/
theorem shV_apply (i : Fin 128) (j : Fin 1024) (r : Fin 1024) (h : 128 * ell c + i = r) : shV I c (Idealize.ShloMosaic.ix2 i j) =
    ∑ d : Fin 512, I.x c (Idealize.ShloMosaic.ix2 r d) * I.sw c (Idealize.ShloMosaic.ix2 d j) := by
  have hr := r.isLt
  have e0 : ∀ d : Fin 512, (ix2 (128 * ell c + i) (0 + (d : ℕ)) : S1024x512.Idx) = Idealize.ShloMosaic.ix2 r d :=
    fun d => ix2_eq (n0 := 1024) (n1 := 512) _ _ (by omega) (by have := d.isLt; omega)
  have e1 : ∀ d : Fin 512, (ix2 (0 + (d : ℕ)) (0 + (j : ℕ)) : S512x1024.Idx) = Idealize.ShloMosaic.ix2 d j :=
    fun d => ix2_eq (n0 := 512) (n1 := 1024) _ _ (by have := d.isLt; omega) (by have := j.isLt; omega)
  simp only [← e0, ← e1]
  pointwise [shV, k0_pay88]

/-- The finished rows: the shared product and the sum over the devices. -/
theorem VO_apply (r j : Fin 1024) (h : (r : ℕ) / 128 = ell c) : VO I c (Idealize.ShloMosaic.ix2 r j) =
    ∑ d : Dev nD, mine I d r j + ∑ d : Fin 512, I.x c (Idealize.ShloMosaic.ix2 r d) * I.sw c (Idealize.ShloMosaic.ix2 d j) := by
  have hr := r.isLt
  rw [← P3_apply I c, ← shV_apply I c ⟨r - 128 * ell c, by omega⟩ j r (by show 128 * ell c + (r - 128 * ell c) = (r : ℕ); omega)]
  show (P I 3 c (Idealize.ShloMosaic.ix2 r j) : EReal) + shV I c (ix2 ((r : ℕ) - 128 * ell c) (j : ℕ)) = _
  rw [ix2_eq (n0 := 128) (n1 := 1024) (⟨r - 128 * ell c, by omega⟩ : Fin 128) j (Nat.mod_eq_of_lt (by omega)) (Nat.mod_eq_of_lt j.isLt)]

/-- The output, on every device: the rows their owner finished. -/
theorem OUT_apply (r j : Fin 1024) : OUT I c (Idealize.ShloMosaic.ix2 r j) = VO I (owner ((r : ℕ) / 128)) (Idealize.ShloMosaic.ix2 r j) := by
  unfold OUT
  split_ifs with h
  · exact congrArg (fun d => VO I d (Idealize.ShloMosaic.ix2 r j)) (by rw [show (r : ℕ) / 128 = ell c from h, owner_ell])
  · rfl

/-! ## The reference's result -/

/-- The devices' local sums are one sum over the 32 experts. -/
theorem sum_experts (w : BitVec 32) (f : Fin 32 → EReal) :
    (∑ d : Dev nD, ∑ k : Fin 4, if w = BitVec.ofNat 32 (4 * d.val + k) then f ⟨4 * d.val + k, by have := d.isLt; change _ < 8 at this; omega⟩ else 0)
      = if h : w.toNat < 32 then f ⟨_, h⟩ else 0 := by
  rw [← sum_pick, ← Equiv.sum_comp (finProdFinEquiv (m := 8) (n := 4)), Fintype.sum_prod_type]
  refine Finset.sum_congr rfl fun d _ => Finset.sum_congr rfl fun k _ => ?_
  have e : finProdFinEquiv (m := 8) (n := 4) (d, k) = ⟨4 * d.val + k, by have := d.isLt; change _ < 8 at this; omega⟩ :=
    Fin.ext (by show (k : ℕ) + 4 * d.val = 4 * d.val + k; omega)
  rw [e]

/-- Where all devices hold the same tokens, router, experts' numbers and shared expert, and each its own four experts of the
32, the output of every device is the reference's result. -/
theorem OUT_eq (X : FVec Ideal S1024x512 .f32) (RW : FVec Ideal S512x32 .f32) (IX : IVec S1024x1 32)
    (EW : FVec Ideal ⟨3, ![32, 512, 1024]⟩ .f32) (SW : FVec Ideal S512x1024 .f32)
    (hx : ∀ d, I.x d = X) (hrw : ∀ d, I.rw d = RW) (hix : ∀ d, I.ix d = IX)
    (hew : ∀ d, I.ew d = Layout.block ⟨3, ![4, 512, 1024]⟩ ⟨3, ![32, 512, 1024]⟩ 0 8 d EW) (hsw : ∀ d, I.sw d = SW) :
    OUT I c = Cert.ReferenceIdeal.Moe.result X RW IX EW SW := by
  funext i
  obtain ⟨r, j, rfl⟩ : ∃ r j, i = Idealize.ShloMosaic.ix2 (n0 := 1024) (n1 := 1024) r j :=
    ⟨i 0, i 1, by funext a; fin_cases a <;> rfl⟩
  have hr := r.isLt
  have hD : ∀ (d : Dev nD) (k : Fin 4) (a : Fin 512), I.ew d (ix3 k a j)
      = EW (ix3 (⟨4 * d.val + k, by have := d.isLt; change _ < 8 at this; omega⟩ : Fin 32) a j) := by
    intro d k a
    rw [hew, Layout.block_apply]
    congr 1
    funext b
    refine Fin.ext ?_
    rw [Layout.Tiles.idx_val]
    fin_cases b
    · show d.val * 4 + (k : ℕ) = 4 * d.val + k; omega
    · rfl
    · rfl
  have hm : ∑ d : Dev nD, mine I d r j = if h : (IX (Idealize.ShloMosaic.ix2 r 0)).toNat < 32 then
      Cert.ReferenceIdeal.Moe.probs (Cert.ReferenceIdeal.Moe.scores X RW) (Idealize.ShloMosaic.ix2 r ⟨_, h⟩)
        * ∑ a : Fin 512, X (Idealize.ShloMosaic.ix2 r a) * EW (ix3 ⟨_, h⟩ a j) else 0 := by
    unfold mine
    simp only [hD, gV_apply, hx, hrw, hix]
    rw [sum_experts (IX (Idealize.ShloMosaic.ix2 r 0)) fun e =>
      (if h : (IX (Idealize.ShloMosaic.ix2 r 0)).toNat < 32 then
        Cert.ReferenceIdeal.Moe.probs (Cert.ReferenceIdeal.Moe.scores X RW) (Idealize.ShloMosaic.ix2 r ⟨_, h⟩) else 0)
        * ∑ a : Fin 512, X (Idealize.ShloMosaic.ix2 r a) * EW (ix3 e a j)]
    by_cases h : (IX (Idealize.ShloMosaic.ix2 r 0)).toNat < 32
    · simp only [dif_pos h]
    · simp only [dif_neg h]
  rw [OUT_apply, VO_apply I _ r j (ell_owner ⟨(r : ℕ) / 128, by omega⟩).symm, hm, hx, hsw,
    Cert.ReferenceIdeal.Moe.result_eq, add_comm]

end Cert.KernelIdeal.Moe
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.IdealVal
public import Idealize.ShloMosaic.Adequacy
public import Idealize.ShloMosaic.Init

@[expose] public section

noncomputable section

namespace Cert.Proof

open Idealize.ShloMosaic Idealize.SL.Sem Cert.Kernel

/-- The kernel's run over any float values with the result dropped: the arguments are unchanged and every
    counter is back at zero. -/
theorem frame_run {F : FTy → Type} [FloatOps F] (m : (ℓ : Loc KernelIdeal.nD KernelIdeal.τ KernelIdeal.sig) → Buf (Elt F) ℓ)
    (ρ : Dev KernelIdeal.nD → PrngReg) :
    θ_run KernelIdeal.defs (onTc (τ := KernelIdeal.τ) (KernelIdeal.main (F := F))) ⟨m, fun _ => 0, ρ⟩ fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3)
        ∧ r.2.mem ((c.tc : Thread KernelIdeal.nD KernelIdeal.τ).loc KernelIdeal.main_arg4) = m ((c.tc : Thread KernelIdeal.nD KernelIdeal.τ).loc KernelIdeal.main_arg4))
      ∧ r.2.sem = fun _ => 0 :=
  (θ_run KernelIdeal.defs _ _).mono (fun _ h => ⟨fun c => (h.1 c).2, h.2⟩) (KernelIdeal.Moe.run_main (F := F) m ρ)

set_option maxRecDepth 100000 in
/-- The kernel and its idealization run the same body. -/
theorem body_eq : Kernel.cc0_body (F := Bits) = KernelIdeal.cc0_body (F := Bits) := rfl

/-- The kernel and its idealization have the same body table. -/
theorem defs₀_eq : Kernel.defs₀ (F := Bits) = KernelIdeal.defs₀ (F := Bits) := by
  unfold Kernel.defs₀ KernelIdeal.defs₀
  refine congrArg Defs.onTc (funext fun l => funext fun x => ?_)
  match l, x with
  | 0, (t, s) =>
    dsimp only
    rw [body_eq]

/-- The kernel and its idealization have the same table of pipelines and bodies. -/
theorem defs_eq : Kernel.defs (F := Bits) = KernelIdeal.defs (F := Bits) :=
  congrArg (Pipeline.defs Kernel.pcfgs) defs₀_eq

/-- The kernel, at the words of its floats: the run of `run_main` with the value dropped. -/
theorem frame_kernel : Cert.quiescent_Kernel := fun m ρ _ => by
  rw [defs_eq]
  exact frame_run (F := Bits) m ρ

/-- The kernel over the reals: the same run with the value dropped. -/
theorem frame_kernelIdeal : Cert.quiescent_KernelIdeal := fun m ρ _ =>
  frame_run (F := Ideal) m ρ

/-- The reference over the reals; its program declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference over the reals, from the same arguments, each device holding its own four experts of the 32:
    every device's result is the reference's. -/
theorem algebraic : Cert.algebraic_KernelIdeal_ReferenceIdeal := fun m g m' g' _ hagree => by
  refine ⟨Cert.ReferenceIdeal.Moe.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)), ?_, ?_⟩
  · refine (θ_run KernelIdeal.defs _ _).mono (fun r h c => ⟨(h.1 c).1.trans ?_, (h.1 c).2⟩) (KernelIdeal.Moe.run_main (F := Ideal) m g)
    exact KernelIdeal.Moe.OUT_eq _ c _ _ _ _ _
      (fun d => (KernelIdeal.Moe.inp_x d m).trans (hagree d).1)
      (fun d => (KernelIdeal.Moe.inp_rw d m).trans (hagree d).2.1)
      (fun d => (KernelIdeal.Moe.inp_ix d m).trans (hagree d).2.2.1)
      (fun d => (KernelIdeal.Moe.inp_ew d m).trans (hagree d).2.2.2.1)
      (fun d => (KernelIdeal.Moe.inp_sw d m).trans (hagree d).2.2.2.2)
  · exact (θ_run Cert.ReferenceIdeal.defs _ _).mono (fun _ h => h 0) (Cert.ReferenceIdeal.Moe.run_main m' g')

/-- Every claim of the certificate. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
